-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_rows [hPre_finite_rows : Cert.Pre_finite_rows.Facts] (m : (ℓ : Loc Cert.CtxIdeal.nD Cert.CtxIdeal.τ Cert.CtxIdeal.sig) → Buf (Elt Ideal) ℓ) : Prop :=
  ∀ c : Dev Cert.CtxIdeal.nD,
    (Cert.Pre_finite_rows.fn (F := Ideal) (m ((c.tc : Thread Cert.CtxIdeal.nD Cert.CtxIdeal.τ).loc Cert.CtxIdeal.main_arg0))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_rows [hPre_finite_rows : Cert.Pre_finite_rows.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_rows.fn (F := Ideal) (m ((c.tc : Thread Cert.CtxRefIdeal.nD Cert.CtxRefIdeal.τ).loc Cert.CtxRefIdeal.main_arg0))) = (fun _ => 1#1)

def Pre_Group (m : (ℓ : Loc Cert.Group.nD Cert.Group.τ Cert.Group.sig) → Buf (Elt Bits) ℓ) : Prop :=
  True

def Pre_GroupIdeal (m : (ℓ : Loc Cert.GroupIdeal.nD Cert.GroupIdeal.τ Cert.GroupIdeal.sig) → Buf (Elt Ideal) ℓ) : Prop :=
  True

def Pre_GroupIdeal_finite_group [hPre_finite_group : Cert.Pre_finite_group.Facts] (m : (ℓ : Loc Cert.GroupIdeal.nD Cert.GroupIdeal.τ Cert.GroupIdeal.sig) → Buf (Elt Ideal) ℓ) : Prop :=
  ∀ c : Dev Cert.GroupIdeal.nD,
    (Cert.Pre_finite_group.fn (F := Ideal) (m ((c.tc : Thread Cert.GroupIdeal.nD Cert.GroupIdeal.τ).loc Cert.GroupIdeal.main_arg0)) (m ((c.tc : Thread Cert.GroupIdeal.nD Cert.GroupIdeal.τ).loc Cert.GroupIdeal.main_arg1)) (m ((c.tc : Thread Cert.GroupIdeal.nD Cert.GroupIdeal.τ).loc Cert.GroupIdeal.main_arg2))) = (fun _ => 1#1)

def Pre_GroupRefIdeal (m : (ℓ : Loc Cert.GroupRefIdeal.nD Cert.GroupRefIdeal.τ Cert.GroupRefIdeal.sig) → Buf (Elt Ideal) ℓ) : Prop :=
  True

def Pre_GroupRefIdeal_finite_group [hPre_finite_group : Cert.Pre_finite_group.Facts] (m : (ℓ : Loc Cert.GroupRefIdeal.nD Cert.GroupRefIdeal.τ Cert.GroupRefIdeal.sig) → Buf (Elt Ideal) ℓ) : Prop :=
  ∀ c : Dev Cert.GroupRefIdeal.nD,
    (Cert.Pre_finite_group.fn (F := Ideal) (m ((c.tc : Thread Cert.GroupRefIdeal.nD Cert.GroupRefIdeal.τ).loc Cert.GroupRefIdeal.main_arg0)) (m ((c.tc : Thread Cert.GroupRefIdeal.nD Cert.GroupRefIdeal.τ).loc Cert.GroupRefIdeal.main_arg1)) (m ((c.tc : Thread Cert.GroupRefIdeal.nD Cert.GroupRefIdeal.τ).loc Cert.GroupRefIdeal.main_arg2))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10)
      ∧ r.2.mem ((c.tc : Thread Cert.Last.nD Cert.Last.τ).loc Cert.Last.main_arg11) = m ((c.tc : Thread Cert.Last.nD Cert.Last.τ).loc Cert.Last.main_arg11))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
      ∧ r.2.mem ((c.tc : Thread Cert.LastIdeal.nD Cert.LastIdeal.τ).loc Cert.LastIdeal.main_arg11) = m ((c.tc : Thread Cert.LastIdeal.nD Cert.LastIdeal.τ).loc Cert.LastIdeal.main_arg11))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10)
      ∧ r.2.mem ((c.tc : Thread Cert.LastRefIdeal.nD Cert.LastRefIdeal.τ).loc Cert.LastRefIdeal.main_arg11) = m ((c.tc : Thread Cert.LastRefIdeal.nD Cert.LastRefIdeal.τ).loc Cert.LastRefIdeal.main_arg11))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxIdeal_pre_finite_rows [hCtxIdeal : Cert.CtxIdeal.Facts] [hPre_finite_rows : Cert.Pre_finite_rows.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_rows m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def quiescent_CtxRefIdeal_pre_finite_rows [hCtxRefIdeal : Cert.CtxRefIdeal.Facts] [hPre_finite_rows : Cert.Pre_finite_rows.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_rows m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def quiescent_Group [hGroup : Cert.Group.Facts] : Prop :=
  ∀ (m : (ℓ : Loc Cert.Group.nD Cert.Group.τ Cert.Group.sig) → Buf (Elt Bits) ℓ) (g : Dev Cert.Group.nD → PrngReg), Pre_Group m →
    θ_run (Cert.Group.defs (F := Bits)) (onTc (τ := Cert.Group.τ) (Cert.Group.main (F := Bits))) ⟨m, fun _ => 0, g⟩ (fun r => (∀ c : Dev Cert.Group.nD,
      r.2.mem ((c.tc : Thread Cert.Group.nD Cert.Group.τ).loc Cert.Group.main_arg0) = m ((c.tc : Thread Cert.Group.nD Cert.Group.τ).loc Cert.Group.main_arg0)
      ∧ r.2.mem ((c.tc : Thread Cert.Group.nD Cert.Group.τ).loc Cert.Group.main_arg1) = m ((c.tc : Thread Cert.Group.nD Cert.Group.τ).loc Cert.Group.main_arg1)
      ∧ r.2.mem ((c.tc : Thread Cert.Group.nD Cert.Group.τ).loc Cert.Group.main_arg2) = m ((c.tc : Thread Cert.Group.nD Cert.Group.τ).loc Cert.Group.main_arg2))
      ∧ r.2.sem = fun _ => 0)

def quiescent_GroupIdeal [hGroupIdeal : Cert.GroupIdeal.Facts] : Prop :=
  ∀ (m : (ℓ : Loc Cert.GroupIdeal.nD Cert.GroupIdeal.τ Cert.GroupIdeal.sig) → Buf (Elt Ideal) ℓ) (g : Dev Cert.GroupIdeal.nD → PrngReg), Pre_GroupIdeal m →
    θ_run (Cert.GroupIdeal.defs (F := Ideal)) (onTc (τ := Cert.GroupIdeal.τ) (Cert.GroupIdeal.main (F := Ideal))) ⟨m, fun _ => 0, g⟩ (fun r => (∀ c : Dev Cert.GroupIdeal.nD,
      r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
      ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
      ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2))
      ∧ r.2.sem = fun _ => 0)

def quiescent_GroupIdeal_pre_finite_group [hGroupIdeal : Cert.GroupIdeal.Facts] [hPre_finite_group : Cert.Pre_finite_group.Facts] : Prop :=
  ∀ (m : (ℓ : Loc Cert.GroupIdeal.nD Cert.GroupIdeal.τ Cert.GroupIdeal.sig) → Buf (Elt Ideal) ℓ) (g : Dev Cert.GroupIdeal.nD → PrngReg), Pre_GroupIdeal_finite_group m →
    θ_run (Cert.GroupIdeal.defs (F := Ideal)) (onTc (τ := Cert.GroupIdeal.τ) (Cert.GroupIdeal.main (F := Ideal))) ⟨m, fun _ => 0, g⟩ (fun r => (∀ c : Dev Cert.GroupIdeal.nD,
      r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
      ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
      ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2))
      ∧ r.2.sem = fun _ => 0)

def quiescent_GroupRefIdeal [hGroupRefIdeal : Cert.GroupRefIdeal.Facts] : Prop :=
  ∀ (m : (ℓ : Loc Cert.GroupRefIdeal.nD Cert.GroupRefIdeal.τ Cert.GroupRefIdeal.sig) → Buf (Elt Ideal) ℓ) (g : Dev Cert.GroupRefIdeal.nD → PrngReg), Pre_GroupRefIdeal m →
    θ_run (Cert.GroupRefIdeal.defs (F := Ideal)) (onTc (τ := Cert.GroupRefIdeal.τ) (Cert.GroupRefIdeal.main (F := Ideal))) ⟨m, fun _ => 0, g⟩ (fun r => (∀ c : Dev Cert.GroupRefIdeal.nD,
      r.2.mem ((c.tc : Thread Cert.GroupRefIdeal.nD Cert.GroupRefIdeal.τ).loc Cert.GroupRefIdeal.main_arg0) = m ((c.tc : Thread Cert.GroupRefIdeal.nD Cert.GroupRefIdeal.τ).loc Cert.GroupRefIdeal.main_arg0)
      ∧ r.2.mem ((c.tc : Thread Cert.GroupRefIdeal.nD Cert.GroupRefIdeal.τ).loc Cert.GroupRefIdeal.main_arg1) = m ((c.tc : Thread Cert.GroupRefIdeal.nD Cert.GroupRefIdeal.τ).loc Cert.GroupRefIdeal.main_arg1)
      ∧ r.2.mem ((c.tc : Thread Cert.GroupRefIdeal.nD Cert.GroupRefIdeal.τ).loc Cert.GroupRefIdeal.main_arg2) = m ((c.tc : Thread Cert.GroupRefIdeal.nD Cert.GroupRefIdeal.τ).loc Cert.GroupRefIdeal.main_arg2))
      ∧ r.2.sem = fun _ => 0)

def quiescent_GroupRefIdeal_pre_finite_group [hGroupRefIdeal : Cert.GroupRefIdeal.Facts] [hPre_finite_group : Cert.Pre_finite_group.Facts] : Prop :=
  ∀ (m : (ℓ : Loc Cert.GroupRefIdeal.nD Cert.GroupRefIdeal.τ Cert.GroupRefIdeal.sig) → Buf (Elt Ideal) ℓ) (g : Dev Cert.GroupRefIdeal.nD → PrngReg), Pre_GroupRefIdeal_finite_group m →
    θ_run (Cert.GroupRefIdeal.defs (F := Ideal)) (onTc (τ := Cert.GroupRefIdeal.τ) (Cert.GroupRefIdeal.main (F := Ideal))) ⟨m, fun _ => 0, g⟩ (fun r => (∀ c : Dev Cert.GroupRefIdeal.nD,
      r.2.mem ((c.tc : Thread Cert.GroupRefIdeal.nD Cert.GroupRefIdeal.τ).loc Cert.GroupRefIdeal.main_arg0) = m ((c.tc : Thread Cert.GroupRefIdeal.nD Cert.GroupRefIdeal.τ).loc Cert.GroupRefIdeal.main_arg0)
      ∧ r.2.mem ((c.tc : Thread Cert.GroupRefIdeal.nD Cert.GroupRefIdeal.τ).loc Cert.GroupRefIdeal.main_arg1) = m ((c.tc : Thread Cert.GroupRefIdeal.nD Cert.GroupRefIdeal.τ).loc Cert.GroupRefIdeal.main_arg1)
      ∧ r.2.mem ((c.tc : Thread Cert.GroupRefIdeal.nD Cert.GroupRefIdeal.τ).loc Cert.GroupRefIdeal.main_arg2) = m ((c.tc : Thread Cert.GroupRefIdeal.nD Cert.GroupRefIdeal.τ).loc Cert.GroupRefIdeal.main_arg2))
      ∧ r.2.sem = fun _ => 0)

def preserves_Attn_AttnIdeal : Prop :=
  IdealRules.named_const.Statement Cert.AttnIdeal.κ "q_scale" .f32 0x3E38AA3B#32 (((1 / 8) * (Real.log 2)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v47)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v47) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v171) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v112) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)
      ∧ m' ((c.tc : Thread Cert.LastRefIdeal.nD Cert.LastRefIdeal.τ).loc Cert.LastRefIdeal.main_arg10) = m ((c.tc : Thread Cert.LastIdeal.nD Cert.LastIdeal.τ).loc Cert.LastIdeal.main_arg10)
      ∧ m' ((c.tc : Thread Cert.LastRefIdeal.nD Cert.LastRefIdeal.τ).loc Cert.LastRefIdeal.main_arg11) = m ((c.tc : Thread Cert.LastIdeal.nD Cert.LastIdeal.τ).loc Cert.LastIdeal.main_arg11)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
          ∧ r.2.mem ((c.tc : Thread Cert.LastIdeal.nD Cert.LastIdeal.τ).loc Cert.LastIdeal.main_arg11) = m ((c.tc : Thread Cert.LastIdeal.nD Cert.LastIdeal.τ).loc Cert.LastIdeal.main_arg11))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v99) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9)
          ∧ r.2.mem ((c.tc : Thread Cert.LastRefIdeal.nD Cert.LastRefIdeal.τ).loc Cert.LastRefIdeal.main_arg10) = m' ((c.tc : Thread Cert.LastRefIdeal.nD Cert.LastRefIdeal.τ).loc Cert.LastRefIdeal.main_arg10)
          ∧ r.2.mem ((c.tc : Thread Cert.LastRefIdeal.nD Cert.LastRefIdeal.τ).loc Cert.LastRefIdeal.main_arg11) = m' ((c.tc : Thread Cert.LastRefIdeal.nD Cert.LastRefIdeal.τ).loc Cert.LastRefIdeal.main_arg11))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v2_0)) (v1 : (c : Dev Cert.OddIdeal.nD) → Buf (Elt Ideal) ((c.tc : Thread Cert.OddIdeal.nD Cert.OddIdeal.τ).loc Cert.OddIdeal.main_v2_1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v2_0) = v0 c
          ∧ r.2.mem ((c.tc : Thread Cert.OddIdeal.nD Cert.OddIdeal.τ).loc Cert.OddIdeal.main_v2_1) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v44) = v0 c
          ∧ r.2.mem ((c.tc : Thread Cert.OddRefIdeal.nD Cert.OddRefIdeal.τ).loc Cert.OddRefIdeal.main_v45) = v1 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)) →
    ∃ (v0 : (c : Dev Cert.EvenIdeal.nD) → Buf (Elt Ideal) ((c.tc : Thread Cert.EvenIdeal.nD Cert.EvenIdeal.τ).loc Cert.EvenIdeal.main_v2_0)) (v1 : (c : Dev Cert.EvenIdeal.nD) → Buf (Elt Ideal) ((c.tc : Thread Cert.EvenIdeal.nD Cert.EvenIdeal.τ).loc Cert.EvenIdeal.main_v2_1)) (v2 : (c : Dev Cert.EvenIdeal.nD) → Buf (Elt Ideal) ((c.tc : Thread Cert.EvenIdeal.nD Cert.EvenIdeal.τ).loc Cert.EvenIdeal.main_v2_2)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v2_0) = v0 c
          ∧ r.2.mem ((c.tc : Thread Cert.EvenIdeal.nD Cert.EvenIdeal.τ).loc Cert.EvenIdeal.main_v2_1) = v1 c
          ∧ r.2.mem ((c.tc : Thread Cert.EvenIdeal.nD Cert.EvenIdeal.τ).loc Cert.EvenIdeal.main_v2_2) = v2 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v47) = v0 c
          ∧ r.2.mem ((c.tc : Thread Cert.EvenRefIdeal.nD Cert.EvenRefIdeal.τ).loc Cert.EvenRefIdeal.main_v48) = v1 c
          ∧ r.2.mem ((c.tc : Thread Cert.EvenRefIdeal.nD Cert.EvenRefIdeal.τ).loc Cert.EvenRefIdeal.main_v49) = v2 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Ctx_CtxIdeal : Prop :=
  IdealRules.named_const.Statement Cert.CtxIdeal.κ "q_scale" .f32 0x3E38AA3B#32 (((1 / 8) * (Real.log 2)⁻¹ : ℝ) : EReal)

def algebraic_CtxIdeal_CtxRefIdeal_pre_finite_rows [hCtxIdeal : Cert.CtxIdeal.Facts] [hCtxRefIdeal : Cert.CtxRefIdeal.Facts] [hPre_finite_rows : Cert.Pre_finite_rows.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_rows m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)) →
    ∃ (v0 : (c : Dev Cert.CtxIdeal.nD) → Buf (Elt Ideal) ((c.tc : Thread Cert.CtxIdeal.nD Cert.CtxIdeal.τ).loc Cert.CtxIdeal.main_v2)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v2) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v25) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0))

def preserves_Group_GroupIdeal : Prop :=
  IdealRules.named_const.Statement Cert.GroupIdeal.κ "q_scale" .f32 0x3E38AA3B#32 (((1 / 8) * (Real.log 2)⁻¹ : ℝ) : EReal)

def algebraic_GroupIdeal_GroupRefIdeal_pre_finite_group [hGroupIdeal : Cert.GroupIdeal.Facts] [hGroupRefIdeal : Cert.GroupRefIdeal.Facts] [hPre_finite_group : Cert.Pre_finite_group.Facts] : Prop :=
  ∀ (m : (ℓ : Loc Cert.GroupIdeal.nD Cert.GroupIdeal.τ Cert.GroupIdeal.sig) → Buf (Elt Ideal) ℓ) (g : Dev Cert.GroupIdeal.nD → PrngReg)
    (m' : (ℓ : Loc Cert.GroupRefIdeal.nD Cert.GroupRefIdeal.τ Cert.GroupRefIdeal.sig) → Buf (Elt Ideal) ℓ) (g' : Dev Cert.GroupRefIdeal.nD → PrngReg), Pre_GroupIdeal_finite_group m →
    (∀ c : Dev Cert.GroupIdeal.nD,
      m' ((c.tc : Thread Cert.GroupRefIdeal.nD Cert.GroupRefIdeal.τ).loc Cert.GroupRefIdeal.main_arg0) = m ((c.tc : Thread Cert.GroupIdeal.nD Cert.GroupIdeal.τ).loc Cert.GroupIdeal.main_arg0)
      ∧ m' ((c.tc : Thread Cert.GroupRefIdeal.nD Cert.GroupRefIdeal.τ).loc Cert.GroupRefIdeal.main_arg1) = m ((c.tc : Thread Cert.GroupIdeal.nD Cert.GroupIdeal.τ).loc Cert.GroupIdeal.main_arg1)
      ∧ m' ((c.tc : Thread Cert.GroupRefIdeal.nD Cert.GroupRefIdeal.τ).loc Cert.GroupRefIdeal.main_arg2) = m ((c.tc : Thread Cert.GroupIdeal.nD Cert.GroupIdeal.τ).loc Cert.GroupIdeal.main_arg2)) →
    ∃ (v0 : (c : Dev Cert.GroupIdeal.nD) → Buf (Elt Ideal) ((c.tc : Thread Cert.GroupIdeal.nD Cert.GroupIdeal.τ).loc Cert.GroupIdeal.main_v10)),
      θ_run (Cert.GroupIdeal.defs (F := Ideal)) (onTc (τ := Cert.GroupIdeal.τ) (Cert.GroupIdeal.main (F := Ideal))) ⟨m, fun _ => 0, g⟩ (fun r => ∀ c : Dev Cert.GroupIdeal.nD,
          r.2.mem ((c.tc : Thread Cert.GroupIdeal.nD Cert.GroupIdeal.τ).loc Cert.GroupIdeal.main_v10) = v0 c
          ∧ r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
          ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
          ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2))
      ∧ θ_run (Cert.GroupRefIdeal.defs (F := Ideal)) (onTc (τ := Cert.GroupRefIdeal.τ) (Cert.GroupRefIdeal.main (F := Ideal))) ⟨m', fun _ => 0, g'⟩ (fun r => ∀ c : Dev Cert.GroupRefIdeal.nD,
          r.2.mem ((c.tc : Thread Cert.GroupRefIdeal.nD Cert.GroupRefIdeal.τ).loc Cert.GroupRefIdeal.main_v53) = v0 c
          ∧ r.2.mem ((c.tc : Thread Cert.GroupRefIdeal.nD Cert.GroupRefIdeal.τ).loc Cert.GroupRefIdeal.main_arg0) = m' ((c.tc : Thread Cert.GroupRefIdeal.nD Cert.GroupRefIdeal.τ).loc Cert.GroupRefIdeal.main_arg0)
          ∧ r.2.mem ((c.tc : Thread Cert.GroupRefIdeal.nD Cert.GroupRefIdeal.τ).loc Cert.GroupRefIdeal.main_arg1) = m' ((c.tc : Thread Cert.GroupRefIdeal.nD Cert.GroupRefIdeal.τ).loc Cert.GroupRefIdeal.main_arg1)
          ∧ r.2.mem ((c.tc : Thread Cert.GroupRefIdeal.nD Cert.GroupRefIdeal.τ).loc Cert.GroupRefIdeal.main_arg2) = m' ((c.tc : Thread Cert.GroupRefIdeal.nD Cert.GroupRefIdeal.τ).loc Cert.GroupRefIdeal.main_arg2))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hLast : Cert.Last.Facts) (hLastIdeal : Cert.LastIdeal.Facts) (hLastRefIdeal : Cert.LastRefIdeal.Facts) (hOdd : Cert.Odd.Facts) (hOddIdeal : Cert.OddIdeal.Facts) (hOddRefIdeal : Cert.OddRefIdeal.Facts) (hEven : Cert.Even.Facts) (hEvenIdeal : Cert.EvenIdeal.Facts) (hEvenRefIdeal : Cert.EvenRefIdeal.Facts) (hAda : Cert.Ada.Facts) (hAdaIdeal : Cert.AdaIdeal.Facts) (hAdaRefIdeal : Cert.AdaRefIdeal.Facts) (hCtx : Cert.Ctx.Facts) (hCtxIdeal : Cert.CtxIdeal.Facts) (hCtxRefIdeal : Cert.CtxRefIdeal.Facts) (hGroup : Cert.Group.Facts) (hGroupIdeal : Cert.GroupIdeal.Facts) (hGroupRefIdeal : Cert.GroupRefIdeal.Facts) (hPre_finite : Cert.Pre_finite.Facts) (hPre_finite_rows : Cert.Pre_finite_rows.Facts) (hPre_finite_group : Cert.Pre_finite_group.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Last (hLast := hLast)
    ∧ quiescent_LastIdeal (hLastIdeal := hLastIdeal)
    ∧ quiescent_LastRefIdeal (hLastRefIdeal := hLastRefIdeal)
    ∧ quiescent_Odd (hOdd := hOdd)
    ∧ quiescent_OddIdeal (hOddIdeal := hOddIdeal)
    ∧ quiescent_OddRefIdeal (hOddRefIdeal := hOddRefIdeal)
    ∧ quiescent_Even (hEven := hEven)
    ∧ quiescent_EvenIdeal (hEvenIdeal := hEvenIdeal)
    ∧ quiescent_EvenRefIdeal (hEvenRefIdeal := hEvenRefIdeal)
    ∧ quiescent_Ada (hAda := hAda)
    ∧ quiescent_AdaIdeal (hAdaIdeal := hAdaIdeal)
    ∧ quiescent_AdaRefIdeal (hAdaRefIdeal := hAdaRefIdeal)
    ∧ quiescent_Ctx (hCtx := hCtx)
    ∧ quiescent_CtxIdeal (hCtxIdeal := hCtxIdeal)
    ∧ quiescent_CtxIdeal_pre_finite_rows (hCtxIdeal := hCtxIdeal) (hPre_finite_rows := hPre_finite_rows)
    ∧ quiescent_CtxRefIdeal (hCtxRefIdeal := hCtxRefIdeal)
    ∧ quiescent_CtxRefIdeal_pre_finite_rows (hCtxRefIdeal := hCtxRefIdeal) (hPre_finite_rows := hPre_finite_rows)
    ∧ quiescent_Group (hGroup := hGroup)
    ∧ quiescent_GroupIdeal (hGroupIdeal := hGroupIdeal)
    ∧ quiescent_GroupIdeal_pre_finite_group (hGroupIdeal := hGroupIdeal) (hPre_finite_group := hPre_finite_group)
    ∧ quiescent_GroupRefIdeal (hGroupRefIdeal := hGroupRefIdeal)
    ∧ quiescent_GroupRefIdeal_pre_finite_group (hGroupRefIdeal := hGroupRefIdeal) (hPre_finite_group := hPre_finite_group)
    ∧ preserves_Attn_AttnIdeal
    ∧ algebraic_AttnIdeal_AttnRefIdeal_pre_finite (hAttnIdeal := hAttnIdeal) (hAttnRefIdeal := hAttnRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Last_LastIdeal
    ∧ algebraic_LastIdeal_LastRefIdeal (hLastIdeal := hLastIdeal) (hLastRefIdeal := hLastRefIdeal)
    ∧ preserves_Odd_OddIdeal
    ∧ algebraic_OddIdeal_OddRefIdeal (hOddIdeal := hOddIdeal) (hOddRefIdeal := hOddRefIdeal)
    ∧ preserves_Even_EvenIdeal
    ∧ algebraic_EvenIdeal_EvenRefIdeal (hEvenIdeal := hEvenIdeal) (hEvenRefIdeal := hEvenRefIdeal)
    ∧ preserves_Ada_AdaIdeal
    ∧ algebraic_AdaIdeal_AdaRefIdeal (hAdaIdeal := hAdaIdeal) (hAdaRefIdeal := hAdaRefIdeal)
    ∧ preserves_Ctx_CtxIdeal
    ∧ algebraic_CtxIdeal_CtxRefIdeal_pre_finite_rows (hCtxIdeal := hCtxIdeal) (hCtxRefIdeal := hCtxRefIdeal) (hPre_finite_rows := hPre_finite_rows)
    ∧ preserves_Group_GroupIdeal
    ∧ algebraic_GroupIdeal_GroupRefIdeal_pre_finite_group (hGroupIdeal := hGroupIdeal) (hGroupRefIdeal := hGroupRefIdeal) (hPre_finite_group := hPre_finite_group)
-- ==== Pre_finite.lean ====
abbrev S18432x768 : Shape := ⟨2, ![18432, 768]⟩
abbrev S64 : Shape := ⟨1, ![64]⟩
abbrev S_ : Shape := ⟨0, ![]⟩

class Facts : Prop where
  bcast_S_S18432x768 : S_.BroadcastsInDim S18432x768 (![] : Fin 0 → Fin S18432x768.rank)
  reducesTo_S18432x768_S_d0_1 : S18432x768.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S18432x768 .f32) (main_arg1 : FVec F S64 .f32) (main_arg2 : FVec F S64 .f32) : IVec S_ 1 :=
  let main_v0 : FVec F S18432x768 .f32 := Host.absf main_arg0
  let main_cst : FVec F S_ .f32 := constant S_ .f32 0x7F800000#32
  let main_v1 : FVec F S18432x768 .f32 := broadcastInDim S18432x768 ![] bcast_S_S18432x768 main_cst
  let main_v2 : IVec S18432x768 1 := cmpf .olt main_v0 main_v1
  let main_c : IVec S_ 1 := constantI S_ 1 1#1
  let main_v3 : IVec S_ 1 := (fun x v => Host.reduce IntOp.andi x v reducesTo_S18432x768_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Pre_finite_group.lean ====
abbrev S18432x768 : Shape := ⟨2, ![18432, 768]⟩
abbrev S64 : Shape := ⟨1, ![64]⟩
abbrev S2048x640 : Shape := ⟨2, ![2048, 640]⟩
abbrev S_ : Shape := ⟨0, ![]⟩

class Facts : Prop where
  slices_S18432x768_S2048x640_0_0 : S18432x768.Slices ![0, 0] S2048x640
  bcast_S_S2048x640 : S_.BroadcastsInDim S2048x640 (![] : Fin 0 → Fin S2048x640.rank)
  reducesTo_S2048x640_S_d0_1 : S2048x640.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S18432x768 .f32) (main_arg1 : FVec F S64 .f32) (main_arg2 : FVec F S64 .f32) : IVec S_ 1 :=
  let main_v0 : FVec F S2048x640 .f32 := (extractStridedSlice S2048x640 ![0, 0] · slices_S18432x768_S2048x640_0_0) main_arg0
  let main_v1 : FVec F S2048x640 .f32 := Host.absf main_v0
  let main_cst : FVec F S_ .f32 := constant S_ .f32 0x7F800000#32
  let main_v2 : FVec F S2048x640 .f32 := broadcastInDim S2048x640 ![] bcast_S_S2048x640 main_cst
  let main_v3 : IVec S2048x640 1 := cmpf .olt main_v1 main_v2
  let main_c : IVec S_ 1 := constantI S_ 1 1#1
  let main_v4 : IVec S_ 1 := (fun x v => Host.reduce IntOp.andi x v reducesTo_S2048x640_S_d0_1 h_S_) main_v3 main_c
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  main_v14
-- ==== Pre_finite_rows.lean ====
abbrev S18432x1536 : Shape := ⟨2, ![18432, 1536]⟩
abbrev S2048x1024 : Shape := ⟨2, ![2048, 1024]⟩
abbrev S_ : Shape := ⟨0, ![]⟩

class Facts : Prop where
  slices_S18432x1536_S2048x1024_0_0 : S18432x1536.Slices ![0, 0] S2048x1024
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S18432x1536 .f32) : IVec S_ 1 :=
  let main_v0 : FVec F S2048x1024 .f32 := (extractStridedSlice S2048x1024 ![0, 0] · slices_S18432x1536_S2048x1024_0_0) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  main_v4
-- ==== Attn.lean ====
abbrev S18432x768 : Shape := ⟨2, ![18432, 768]⟩
abbrev S64 : Shape := ⟨1, ![64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S512x512 : Shape := ⟨2, ![512, 512]⟩
abbrev S256x128 : Shape := ⟨2, ![256, 128]⟩
abbrev S512x128 : Shape := ⟨2, ![512, 128]⟩
abbrev S2304x128 : Shape := ⟨2, ![2304, 128]⟩
abbrev S128x128 : Shape := ⟨2, ![128, 128]⟩
abbrev S128x512 : Shape := ⟨2, ![128, 512]⟩
abbrev S256x2304 : Shape := ⟨2, ![256, 2304]⟩
abbrev S256 : Shape := ⟨1, ![256]⟩
abbrev S256x1 : Shape := ⟨2, ![256, 1]⟩

abbrev nBuf : Space → Nat
  | .hbm => 91
  | .vmem => 22
  | .smem => 0
  | _ => 0

abbrev bufTy : (tb : Table) → Fin (tcTables nBuf tb) → BufTy
  | .hbm, ⟨0, _⟩ => ⟨S18432x768, .f32⟩
  | .hbm, ⟨1, _⟩ => ⟨S64, .f32⟩
  | .hbm, ⟨2, _⟩ => ⟨S64, .f32⟩
  | .hbm, ⟨3, _⟩ => ⟨S2048, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S_, .i32⟩
  | .hbm, ⟨51, _⟩ => ⟨S_, .i1⟩
  | .hbm, ⟨52, _⟩ => ⟨S2048, .i1⟩
  | .hbm, ⟨53, _⟩ => ⟨S2048, .i1⟩
  | .hbm, ⟨54, _⟩ => ⟨S2048, .i1⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048, .f32⟩
  | .hbm, ⟨59, _⟩ => ⟨S2048x1, .f32⟩
  | .hbm, ⟨60, _⟩ => ⟨S1x16, .f32⟩
  | .hbm, ⟨61, _⟩ => ⟨S2048x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x64, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x64, .f32⟩
  | .hbm, ⟨76, _⟩ => ⟨S1x2048x1x64, .f32⟩
  | .hbm, ⟨77, _⟩ => ⟨S1x2048x2x64, .f32⟩
  | .hbm, ⟨78, _⟩ => ⟨S2048x128, .f32⟩
  | .hbm, ⟨79, _⟩ => ⟨S1x2048x1x64, .f32⟩
  | .hbm, ⟨80, _⟩ => ⟨S1x2048x2x64, .f32⟩
  | .hbm, ⟨81, _⟩ => ⟨S2048x128, .f32⟩
  | .hbm, ⟨82, _⟩ => ⟨S1x64, .f32⟩
  | .hbm, ⟨83, _⟩ => ⟨S2x64, .f32⟩
  | .hbm, ⟨84, _⟩ => ⟨S128, .f32⟩
  | .hbm, ⟨85, _⟩ => ⟨S1x128, .f32⟩
  | .hbm, ⟨86, _⟩ => ⟨S1x64, .f32⟩
  | .hbm, ⟨87, _⟩ => ⟨S2x64, .f32⟩
  | .hbm, ⟨88, _⟩ => ⟨S128, .f32⟩
  | .hbm, ⟨89, _⟩ => ⟨S1x128, .f32⟩
  | .hbm, ⟨90, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S256x128, .f32⟩
  | .local _ .vmem, ⟨3, _⟩ => ⟨S256x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S2048x128, .f32⟩
  | .local _ .vmem, ⟨9, _⟩ => ⟨S2048x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S2048x128, .f32⟩
  | .local _ .vmem, ⟨15, _⟩ => ⟨S2048x128, .f32⟩
  | .local _ .vmem, ⟨16, _⟩ => ⟨S1x128, .f32⟩
  | .local _ .vmem, ⟨17, _⟩ => ⟨S1x128, .f32⟩
  | .local _ .vmem, ⟨18, _⟩ => ⟨S512x512, .bf16⟩
  | .local _ .vmem, ⟨19, _⟩ => ⟨S512x512, .bf16⟩
  | .local _ .vmem, ⟨20, _⟩ => ⟨S2304x128, .bf16⟩
  | .local _ .vmem, ⟨21, _⟩ => ⟨S2304x128, .bf16⟩
  | _, _ => ⟨S18432x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi c4_i32_0 v0
  let v2 : BitVec 32 := Scalar.addi v1 arg1
  let c0_i32 : BitVec 32 := 0#32
  let c0_i32_1 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c5_i32 : BitVec 32 := 5#32
  let c0_i32 : BitVec 32 := 0#32
  ![v0.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnIdeal.lean ====
variable {F : FTy → Type} [FloatOps F] [Named F]
def κ : String → Option EReal := fun
  | "q_scale" => some (((1 / 8) * (Real.log 2)⁻¹ : ℝ) : EReal)
  | _ => none
-- ==== AttnRefIdeal.lean ====
abbrev S18432x768 : Shape := ⟨2, ![18432, 768]⟩
abbrev S64 : Shape := ⟨1, ![64]⟩
abbrev S2048x768 : Shape := ⟨2, ![2048, 768]⟩
abbrev S8x256x768 : Shape := ⟨3, ![8, 256, 768]⟩
abbrev S8x256x512 : Shape := ⟨3, ![8, 256, 512]⟩
abbrev S8x256x8x64 : Shape := ⟨4, ![8, 256, 8, 64]⟩
abbrev S8x256x128 : Shape := ⟨3, ![8, 256, 128]⟩
abbrev S8x256x2x64 : Shape := ⟨4, ![8, 256, 2, 64]⟩
abbrev S16384x768 : Shape := ⟨2, ![16384, 768]⟩
abbrev S8x2048x768 : Shape := ⟨3, ![8, 2048, 768]⟩
abbrev S8x2048x512 : Shape := ⟨3, ![8, 2048, 512]⟩
abbrev S8x2048x8x64 : Shape := ⟨4, ![8, 2048, 8, 64]⟩
abbrev S8x2048x128 : Shape := ⟨3, ![8, 2048, 128]⟩
abbrev S8x2048x2x64 : Shape := ⟨4, ![8, 2048, 2, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S8x256x2 : Shape := ⟨3, ![8, 256, 2]⟩
abbrev S8x256x2x1 : Shape := ⟨4, ![8, 256, 2, 1]⟩
abbrev S1x1x1x64 : Shape := ⟨4, ![1, 1, 1, 64]⟩
abbrev S8x2048x8 : Shape := ⟨3, ![8, 2048, 8]⟩
abbrev S8x2048x8x1 : Shape := ⟨4, ![8, 2048, 8, 1]⟩
abbrev S8x2048x8x32 : Shape := ⟨4, ![8, 2048, 8, 32]⟩
abbrev S1x2048x1x16 : Shape := ⟨4, ![1, 2048, 1, 16]⟩
abbrev S8x2048x8x16 : Shape := ⟨4, ![8, 2048, 8, 16]⟩
abbrev S8x2048x2 : Shape := ⟨3, ![8, 2048, 2]⟩
abbrev S8x2048x2x1 : Shape := ⟨4, ![8, 2048, 2, 1]⟩
abbrev S8x2048x2x32 : Shape := ⟨4, ![8, 2048, 2, 32]⟩
abbrev S8x2048x2x16 : Shape := ⟨4, ![8, 2048, 2, 16]⟩
abbrev S8x2304x2x64 : Shape := ⟨4, ![8, 2304, 2, 64]⟩
abbrev S8x2048x2x4x64 : Shape := ⟨5, ![8, 2048, 2, 4, 64]⟩
abbrev S8x2x2304x2048x4 : Shape := ⟨5, ![8, 2, 2304, 2048, 4]⟩
abbrev S8x2x4x2048x2304 : Shape := ⟨5, ![8, 2, 4, 2048, 2304]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S16384x512 : Shape := ⟨2, ![16384, 512]⟩

abbrev nBuf : Space → Nat
  | .hbm => 228
  | .vmem => 0
  | .smem => 0
  | _ => 0

abbrev hbmTy0_0 (i : Nat) : BufTy := match i % 128 with
  | 0 => ⟨S18432x768, .f32⟩
  | 1 => ⟨S64, .f32⟩
  | 2 => ⟨S64, .f32⟩
  | 3 => ⟨S2048x768, .f32⟩
  | 4 => ⟨S8x256x768, .f32⟩
  | 5 => ⟨S8x256x512, .f32⟩
  | 6 => ⟨S8x256x8x64, .f32⟩
  | 7 => ⟨S8x256x128, .f32⟩
  | 8 => ⟨S8x256x2x64, .f32⟩
  | 9 => ⟨S8x256x128, .f32⟩
  | 10 => ⟨S8x256x2x64, .f32⟩
  | 11 => ⟨S16384x768, .f32⟩
  | 12 => ⟨S8x2048x768, .f32⟩
  | 13 => ⟨S8x2048x512, .f32⟩
  | 14 => ⟨S8x2048x8x64, .f32⟩
  | 15 => ⟨S8x2048x128, .f32⟩
  | 16 => ⟨S8x2048x2x64, .f32⟩
  | 17 => ⟨S8x2048x128, .f32⟩
  | 18 => ⟨S8x2048x2x64, .f32⟩
  | 19 => ⟨S2048, .i32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S2048, .f32⟩
  | 47 => ⟨S2048x1, .f32⟩
  | 48 => ⟨S1x16, .f32⟩
  | 49 => ⟨S2048x16, .f32⟩
  | 50 => ⟨S2048x16, .f32⟩
  | 51 => ⟨S2048x16, .f32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i1⟩
  | 66 => ⟨S_, .i32⟩
  | 67 => ⟨S_, .i1⟩
  | 68 => ⟨S2048, .i1⟩
  | 69 => ⟨S2048, .i1⟩
  | 70 => ⟨S2048, .i1⟩
  | 71 => ⟨S2048, .i32⟩
  | 72 => ⟨S2048, .i32⟩
  | 73 => ⟨S2048, .i32⟩
  | 74 => ⟨S2048, .f32⟩
  | 75 => ⟨S2048x1, .f32⟩
  | 76 => ⟨S1x16, .f32⟩
  | 77 => ⟨S2048x16, .f32⟩
  | 78 => ⟨S2048x16, .f32⟩
  | 79 => ⟨S2048x16, .f32⟩
  | 80 => ⟨S8x256x2x64, .f32⟩
  | 81 => ⟨S_, .f32⟩
  | 82 => ⟨S8x256x2, .f32⟩
  | 83 => ⟨S8x256x2x1, .f32⟩
  | 84 => ⟨S_, .f32⟩
  | 85 => ⟨S8x256x2x1, .f32⟩
  | 86 => ⟨S8x256x2x1, .f32⟩
  | 87 => ⟨S_, .f32⟩
  | 88 => ⟨S8x256x2x1, .f32⟩
  | 89 => ⟨S8x256x2x1, .f32⟩
  | 90 => ⟨S8x256x2x1, .f32⟩
  | 91 => ⟨S8x256x2x64, .f32⟩
  | 92 => ⟨S8x256x2x64, .f32⟩
  | 93 => ⟨S1x1x1x64, .f32⟩
  | 94 => ⟨S8x256x2x64, .f32⟩
  | 95 => ⟨S8x256x2x64, .f32⟩
  | 96 => ⟨S8x2048x8x64, .f32⟩
  | 97 => ⟨S_, .f32⟩
  | 98 => ⟨S8x2048x8, .f32⟩
  | 99 => ⟨S8x2048x8x1, .f32⟩
  | 100 => ⟨S_, .f32⟩
  | 101 => ⟨S8x2048x8x1, .f32⟩
  | 102 => ⟨S8x2048x8x1, .f32⟩
  | 103 => ⟨S_, .f32⟩
  | 104 => ⟨S8x2048x8x1, .f32⟩
  | 105 => ⟨S8x2048x8x1, .f32⟩
  | 106 => ⟨S8x2048x8x1, .f32⟩
  | 107 => ⟨S8x2048x8x64, .f32⟩
  | 108 => ⟨S8x2048x8x64, .f32⟩
  | 109 => ⟨S1x1x1x64, .f32⟩
  | 110 => ⟨S8x2048x8x64, .f32⟩
  | 111 => ⟨S8x2048x8x64, .f32⟩
  | 112 => ⟨S8x2048x8x32, .f32⟩
  | 113 => ⟨S2048x16, .f32⟩
  | 114 => ⟨S1x2048x1x16, .f32⟩
  | 115 => ⟨S2048x16, .f32⟩
  | 116 => ⟨S1x2048x1x16, .f32⟩
  | 117 => ⟨S8x2048x8x16, .f32⟩
  | 118 => ⟨S8x2048x8x16, .f32⟩
  | 119 => ⟨S8x2048x8x16, .f32⟩
  | 120 => ⟨S8x2048x8x16, .f32⟩
  | 121 => ⟨S8x2048x8x16, .f32⟩
  | 122 => ⟨S8x2048x8x16, .f32⟩
  | 123 => ⟨S8x2048x8x16, .f32⟩
  | 124 => ⟨S8x2048x8x16, .f32⟩
  | 125 => ⟨S8x2048x8x16, .f32⟩
  | 126 => ⟨S8x2048x8x16, .f32⟩
  | 127 => ⟨S8x2048x8x16, .f32⟩
  | _ => ⟨S18432x768, .f32⟩

abbrev hbmTy0_1 (i : Nat) : BufTy := match i % 128 with
  | 0 => ⟨S8x2048x8x16, .f32⟩
  | 1 => ⟨S8x2048x8x32, .f32⟩
  | 2 => ⟨S8x2048x8x32, .f32⟩
  | 3 => ⟨S2048x16, .f32⟩
  | 4 => ⟨S1x2048x1x16, .f32⟩
  | 5 => ⟨S2048x16, .f32⟩
  | 6 => ⟨S1x2048x1x16, .f32⟩
  | 7 => ⟨S8x2048x8x16, .f32⟩
  | 8 => ⟨S8x2048x8x16, .f32⟩
  | 9 => ⟨S8x2048x8x16, .f32⟩
  | 10 => ⟨S8x2048x8x16, .f32⟩
  | 11 => ⟨S8x2048x8x16, .f32⟩
  | 12 => ⟨S8x2048x8x16, .f32⟩
  | 13 => ⟨S8x2048x8x16, .f32⟩
  | 14 => ⟨S8x2048x8x16, .f32⟩
  | 15 => ⟨S8x2048x8x16, .f32⟩
  | 16 => ⟨S8x2048x8x16, .f32⟩
  | 17 => ⟨S8x2048x8x16, .f32⟩
  | 18 => ⟨S8x2048x8x16, .f32⟩
  | 19 => ⟨S8x2048x8x32, .f32⟩
  | 20 => ⟨S8x2048x8x64, .f32⟩
  | 21 => ⟨S8x2048x2x64, .f32⟩
  | 22 => ⟨S_, .f32⟩
  | 23 => ⟨S8x2048x2, .f32⟩
  | 24 => ⟨S8x2048x2x1, .f32⟩
  | 25 => ⟨S_, .f32⟩
  | 26 => ⟨S8x2048x2x1, .f32⟩
  | 27 => ⟨S8x2048x2x1, .f32⟩
  | 28 => ⟨S_, .f32⟩
  | 29 => ⟨S8x2048x2x1, .f32⟩
  | 30 => ⟨S8x2048x2x1, .f32⟩
  | 31 => ⟨S8x2048x2x1, .f32⟩
  | 32 => ⟨S8x2048x2x64, .f32⟩
  | 33 => ⟨S8x2048x2x64, .f32⟩
  | 34 => ⟨S1x1x1x64, .f32⟩
  | 35 => ⟨S8x2048x2x64, .f32⟩
  | 36 => ⟨S8x2048x2x64, .f32⟩
  | 37 => ⟨S8x2048x2x32, .f32⟩
  | 38 => ⟨S2048x16, .f32⟩
  | 39 => ⟨S1x2048x1x16, .f32⟩
  | 40 => ⟨S2048x16, .f32⟩
  | 41 => ⟨S1x2048x1x16, .f32⟩
  | 42 => ⟨S8x2048x2x16, .f32⟩
  | 43 => ⟨S8x2048x2x16, .f32⟩
  | 44 => ⟨S8x2048x2x16, .f32⟩
  | 45 => ⟨S8x2048x2x16, .f32⟩
  | 46 => ⟨S8x2048x2x16, .f32⟩
  | 47 => ⟨S8x2048x2x16, .f32⟩
  | 48 => ⟨S8x2048x2x16, .f32⟩
  | 49 => ⟨S8x2048x2x16, .f32⟩
  | 50 => ⟨S8x2048x2x16, .f32⟩
  | 51 => ⟨S8x2048x2x16, .f32⟩
  | 52 => ⟨S8x2048x2x16, .f32⟩
  | 53 => ⟨S8x2048x2x16, .f32⟩
  | 54 => ⟨S8x2048x2x32, .f32⟩
  | 55 => ⟨S8x2048x2x32, .f32⟩
  | 56 => ⟨S2048x16, .f32⟩
  | 57 => ⟨S1x2048x1x16, .f32⟩
  | 58 => ⟨S2048x16, .f32⟩
  | 59 => ⟨S1x2048x1x16, .f32⟩
  | 60 => ⟨S8x2048x2x16, .f32⟩
  | 61 => ⟨S8x2048x2x16, .f32⟩
  | 62 => ⟨S8x2048x2x16, .f32⟩
  | 63 => ⟨S8x2048x2x16, .f32⟩
  | 64 => ⟨S8x2048x2x16, .f32⟩
  | 65 => ⟨S8x2048x2x16, .f32⟩
  | 66 => ⟨S8x2048x2x16, .f32⟩
  | 67 => ⟨S8x2048x2x16, .f32⟩
  | 68 => ⟨S8x2048x2x16, .f32⟩
  | 69 => ⟨S8x2048x2x16, .f32⟩
  | 70 => ⟨S8x2048x2x16, .f32⟩
  | 71 => ⟨S8x2048x2x16, .f32⟩
  | 72 => ⟨S8x2048x2x32, .f32⟩
  | 73 => ⟨S8x2048x2x64, .f32⟩
  | 74 => ⟨S8x2304x2x64, .f32⟩
  | 75 => ⟨S8x2304x2x64, .f32⟩
  | 76 => ⟨S8x2048x2x4x64, .f32⟩
  | 77 => ⟨S8x2x2304x2048x4, .f32⟩
  | 78 => ⟨S8x2x4x2048x2304, .f32⟩
  | 79 => ⟨S_, .f32⟩
  | 80 => ⟨S8x2x4x2048x2304, .f32⟩
  | 81 => ⟨S8x2x4x2048x2304, .f32⟩
  | 82 => ⟨S_, .f32⟩
  | 83 => ⟨S8x2x4x2048, .f32⟩
  | 84 => ⟨S_, .f32⟩
  | 85 => ⟨S8x2x4x2048, .f32⟩
  | 86 => ⟨S8x2x4x2048, .f32⟩
  | 87 => ⟨S8x2x4x2048x1, .f32⟩
  | 88 => ⟨S8x2x4x2048x2304, .f32⟩
  | 89 => ⟨S8x2x4x2048x2304, .f32⟩
  | 90 => ⟨S8x2x4x2048x2304, .f32⟩
  | 91 => ⟨S_, .f32⟩
  | 92 => ⟨S8x2x4x2048, .f32⟩
  | 93 => ⟨S8x2x4x2048x1, .f32⟩
  | 94 => ⟨S8x2x4x2048x2304, .f32⟩
  | 95 => ⟨S8x2x4x2048x2304, .f32⟩
  | 96 => ⟨S8x2x64x4x2048, .f32⟩
  | 97 => ⟨S8x2048x2x4x64, .f32⟩
  | 98 => ⟨S16384x512, .f32⟩
  | 99 => ⟨S16384x512, .bf16⟩
  | _ => ⟨S18432x768, .f32⟩

abbrev hbmTy (i : Nat) : BufTy := match i / 128 with
  | 0 => hbmTy0_0 i
  | 1 => hbmTy0_1 i
  | _ => ⟨S18432x768, .f32⟩

abbrev bufTy : (tb : Table) → Fin (tcTables nBuf tb) → BufTy
  | .hbm, ⟨i, _⟩ => hbmTy i
  | _, _ => ⟨S18432x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_1 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_2 : Ref sig .tc := ⟨.hbm, 81, rfl⟩
abbrev main_v38 : Ref sig .tc := ⟨.hbm, 82, rfl⟩
abbrev main_v39 : Ref sig .tc := ⟨.hbm, 83, rfl⟩
abbrev main_cst_3 : Ref sig .tc := ⟨.hbm, 84, rfl⟩
abbrev main_v40 : Ref sig .tc := ⟨.hbm, 85, rfl⟩
abbrev main_v41 : Ref sig .tc := ⟨.hbm, 86, rfl⟩
abbrev main_cst_4 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_5 : Ref sig .tc := ⟨.hbm, 97, rfl⟩
abbrev main_v51 : Ref sig .tc := ⟨.hbm, 98, rfl⟩
abbrev main_v52 : Ref sig .tc := ⟨.hbm, 99, rfl⟩
abbrev main_cst_6 : Ref sig .tc := ⟨.hbm, 100, rfl⟩
abbrev main_v53 : Ref sig .tc := ⟨.hbm, 101, rfl⟩
abbrev main_v54 : Ref sig .tc := ⟨.hbm, 102, rfl⟩
abbrev main_cst_7 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_8 : Ref sig .tc := ⟨.hbm, 150, rfl⟩
abbrev main_v101 : Ref sig .tc := ⟨.hbm, 151, rfl⟩
abbrev main_v102 : Ref sig .tc := ⟨.hbm, 152, rfl⟩
abbrev main_cst_9 : Ref sig .tc := ⟨.hbm, 153, rfl⟩
abbrev main_v103 : Ref sig .tc := ⟨.hbm, 154, rfl⟩
abbrev main_v104 : Ref sig .tc := ⟨.hbm, 155, rfl⟩
abbrev main_cst_10 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_11 : Ref sig .tc := ⟨.hbm, 207, rfl⟩
abbrev main_v155 : Ref sig .tc := ⟨.hbm, 208, rfl⟩
abbrev main_v156 : Ref sig .tc := ⟨.hbm, 209, rfl⟩
abbrev main_cst_12 : Ref sig .tc := ⟨.hbm, 210, rfl⟩
abbrev main_v157 : Ref sig .tc := ⟨.hbm, 211, rfl⟩
abbrev main_cst_13 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_14 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩

abbrev nD : Nat := 1
abbrev τ : Topo := Topo.v7x

variable {F : FTy → Type} [FloatOps F]
-- ==== Mlp.lean ====
abbrev S2048x512 : Shape := ⟨2, ![2048, 512]⟩
abbrev S16384x512 : Shape := ⟨2, ![16384, 512]⟩
abbrev S18432x1024 : Shape := ⟨2, ![18432, 1024]⟩
abbrev S4x16x6x1024 : Shape := ⟨4, ![4, 16, 6, 1024]⟩
abbrev S4x1024 : Shape := ⟨2, ![4, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S4x1x1024 : Shape := ⟨3, ![4, 1, 1024]⟩
abbrev S512x512 : Shape := ⟨2, ![512, 512]⟩
abbrev S512x1024 : Shape := ⟨2, ![512, 1024]⟩
abbrev S1x1x6x1024 : Shape := ⟨4, ![1, 1, 6, 1024]⟩
abbrev S1x1x1024 : Shape := ⟨3, ![1, 1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S512x2048 : Shape := ⟨2, ![512, 2048]⟩
abbrev S1x2048x1024 : Shape := ⟨3, ![1, 2048, 1024]⟩
abbrev S2048x1024 : Shape := ⟨2, ![2048, 1024]⟩

abbrev nBuf : Space → Nat
  | .hbm => 19
  | .vmem => 20
  | .smem => 0
  | _ => 0

abbrev bufTy : (tb : Table) → Fin (tcTables nBuf tb) → BufTy
  | .hbm, ⟨0, _⟩ => ⟨S2048x512, .bf16⟩
  | .hbm, ⟨1, _⟩ => ⟨S16384x512, .bf16⟩
  | .hbm, ⟨2, _⟩ => ⟨S2048x512, .bf16⟩
  | .hbm, ⟨3, _⟩ => ⟨S16384x512, .bf16⟩
  | .hbm, ⟨4, _⟩ => ⟨S18432x1024, .f32⟩
  | .hbm, ⟨5, _⟩ => ⟨S4x16x6x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024x1024, .f32⟩
  | .hbm, ⟨10, _⟩ => ⟨S4x1024x4096, .f32⟩
  | .hbm, ⟨11, _⟩ => ⟨S4x4096x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1024x1024, .bf16⟩
  | .hbm, ⟨16, _⟩ => ⟨S4x1024x4096, .bf16⟩
  | .hbm, ⟨17, _⟩ => ⟨S4x4096x1024, .bf16⟩
  | .hbm, ⟨18, _⟩ => ⟨S18432x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024x1024, .bf16⟩
  | .local _ .vmem, ⟨16, _⟩ => ⟨S1x1024x4096, .bf16⟩
  | .local _ .vmem, ⟨17, _⟩ => ⟨S1x4096x1024, .bf16⟩
  | .local _ .vmem, ⟨18, _⟩ => ⟨S512x1024, .f32⟩
  | .local _ .vmem, ⟨19, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 32 := Scalar.subi v0 c4_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 32 := Scalar.subi v0 c4_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 4 → Nat :=
  let arg0 : BitVec 32 := BitVec.ofNat 32 (i 0).val
  let c0_i32 : BitVec 32 := 0#32
  let v0 : BitVec 32 := Scalar.addi arg0 c0_i32
  let c512_i32 : BitVec 32 := 512#32
  let v1 : BitVec 32 := Scalar.muli v0 c512_i32
  let c2048_i32 : BitVec 32 := 2048#32
  let v2 : BitVec 1 := Scalar.cmpi .slt v1 c2048_i32
  let c2048_i32_0 : BitVec 32 := 2048#32
  let v3 : BitVec 32 := Scalar.subi v1 c2048_i32_0
  let c2048_i32_1 : BitVec 32 := 2048#32
  let v4 : BitVec 32 := Scalar.divsi v3 c2048_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c2048_i32_1 c0_i32_4
  let v11 : BitVec 32 := Scalar.extui v10
  let c0_i32_5 : BitVec 32 := 0#32
  let v12 : BitVec 1 := Scalar.cmpi .slt c2048_i32_1 c0_i32_5
  let v13 : BitVec 32 := Scalar.extui v12
  let v14 : BitVec 32 := Scalar.subi v11 v13
  let v15 : BitVec 1 := Scalar.cmpi .ne v9 v14
  let v16 : BitVec 32 := Scalar.remsi v3 c2048_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c8_i32 : BitVec 32 := 8#32
  let v21 : BitVec 32 := Scalar.select v2 c8_i32 v20
  let c1_i32_7 : BitVec 32 := 1#32
  let c0_i32_8 : BitVec 32 := 0#32
  let c0_i32_9 : BitVec 32 := 0#32
  let c0_i32_10 : BitVec 32 := 0#32
  ![c1_i32_7.toNat, v21.toNat, c0_i32_8.toNat, c0_i32_9.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlpRefIdeal.lean ====
abbrev S2048x512 : Shape := ⟨2, ![2048, 512]⟩
abbrev S16384x512 : Shape := ⟨2, ![16384, 512]⟩
abbrev S18432x1024 : Shape := ⟨2, ![18432, 1024]⟩
abbrev S4x16x6x1024 : Shape := ⟨4, ![4, 16, 6, 1024]⟩
abbrev S4x1024 : Shape := ⟨2, ![4, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S18432x512 : Shape := ⟨2, ![18432, 512]⟩
abbrev S1x1024x1024 : Shape := ⟨3, ![1, 1024, 1024]⟩
abbrev S1024x1024 : Shape := ⟨2, ![1024, 1024]⟩
abbrev S1x16x6x1024 : Shape := ⟨4, ![1, 16, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S1x1024 : Shape := ⟨2, ![1, 1024]⟩
abbrev S2048x1024 : Shape := ⟨2, ![2048, 1024]⟩
abbrev S8x1024 : Shape := ⟨2, ![8, 1024]⟩
abbrev S8x1x1024 : Shape := ⟨3, ![8, 1, 1024]⟩
abbrev S8x2048x1024 : Shape := ⟨3, ![8, 2048, 1024]⟩
abbrev S16384x1024 : Shape := ⟨2, ![16384, 1024]⟩
abbrev S1024 : Shape := ⟨1, ![1024]⟩
abbrev S_ : Shape := ⟨0, ![]⟩
abbrev S18432 : Shape := ⟨1, ![18432]⟩
abbrev S18432x1 : Shape := ⟨2, ![18432, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S18432x4096 : Shape := ⟨2, ![18432, 4096]⟩

abbrev nBuf : Space → Nat
  | .hbm => 136
  | .vmem => 0
  | .smem => 0
  | _ => 0

abbrev hbmTy0_0 (i : Nat) : BufTy := match i % 128 with
  | 0 => ⟨S2048x512, .bf16⟩
  | 1 => ⟨S16384x512, .bf16⟩
  | 2 => ⟨S2048x512, .bf16⟩
  | 3 => ⟨S16384x512, .bf16⟩
  | 4 => ⟨S18432x1024, .f32⟩
  | 5 => ⟨S4x16x6x1024, .f32⟩
  | 6 => ⟨S4x1024, .f32⟩
  | 7 => ⟨S4x1024, .f32⟩
  | 8 => ⟨S4x1024, .f32⟩
  | 9 => ⟨S4x1024x1024, .f32⟩
  | 10 => ⟨S4x1024x4096, .f32⟩
  | 11 => ⟨S4x4096x1024, .f32⟩
  | 12 => ⟨S18432x512, .bf16⟩
  | 13 => ⟨S18432x512, .bf16⟩
  | 14 => ⟨S18432x1024, .bf16⟩
  | 15 => ⟨S18432x1024, .f32⟩
  | 16 => ⟨S1x1024x1024, .f32⟩
  | 17 => ⟨S1024x1024, .f32⟩
  | 18 => ⟨S18432x1024, .f32⟩
  | 19 => ⟨S1x16x6x1024, .f32⟩
  | 20 => ⟨S16x6x1024, .f32⟩
  | 21 => ⟨S16x1x1024, .f32⟩
  | 22 => ⟨S16x1024, .f32⟩
  | 23 => ⟨S1x1024, .f32⟩
  | 24 => ⟨S2048x1024, .f32⟩
  | 25 => ⟨S8x1024, .f32⟩
  | 26 => ⟨S8x1x1024, .f32⟩
  | 27 => ⟨S8x2048x1024, .f32⟩
  | 28 => ⟨S16384x1024, .f32⟩
  | 29 => ⟨S18432x1024, .f32⟩
  | 30 => ⟨S1x1024, .f32⟩
  | 31 => ⟨S1024, .f32⟩
  | 32 => ⟨S18432x1024, .f32⟩
  | 33 => ⟨S_, .f32⟩
  | 34 => ⟨S18432, .f32⟩
  | 35 => ⟨S18432x1, .f32⟩
  | 36 => ⟨S_, .f32⟩
  | 37 => ⟨S18432x1, .f32⟩
  | 38 => ⟨S18432x1, .f32⟩
  | 39 => ⟨S_, .f32⟩
  | 40 => ⟨S18432x1, .f32⟩
  | 41 => ⟨S18432x1, .f32⟩
  | 42 => ⟨S18432x1, .f32⟩
  | 43 => ⟨S18432x1024, .f32⟩
  | 44 => ⟨S18432x1024, .f32⟩
  | 45 => ⟨S1x1024, .f32⟩
  | 46 => ⟨S18432x1024, .f32⟩
  | 47 => ⟨S18432x1024, .f32⟩
  | 48 => ⟨S18432x1024, .f32⟩
  | 49 => ⟨S18432x1024, .f32⟩
  | 50 => ⟨S1x1024, .f32⟩
  | 51 => ⟨S1024, .f32⟩
  | 52 => ⟨S1x16x6x1024, .f32⟩
  | 53 => ⟨S16x6x1024, .f32⟩
  | 54 => ⟨S16x1x1024, .f32⟩
  | 55 => ⟨S16x1024, .f32⟩
  | 56 => ⟨S1x1024, .f32⟩
  | 57 => ⟨S2048x1024, .f32⟩
  | 58 => ⟨S8x1024, .f32⟩
  | 59 => ⟨S8x1x1024, .f32⟩
  | 60 => ⟨S8x2048x1024, .f32⟩
  | 61 => ⟨S16384x1024, .f32⟩
  | 62 => ⟨S18432x1024, .f32⟩
  | 63 => ⟨S1x16x6x1024, .f32⟩
  | 64 => ⟨S16x6x1024, .f32⟩
  | 65 => ⟨S16x1x1024, .f32⟩
  | 66 => ⟨S16x1024, .f32⟩
  | 67 => ⟨S1x1024, .f32⟩
  | 68 => ⟨S2048x1024, .f32⟩
  | 69 => ⟨S8x1024, .f32⟩
  | 70 => ⟨S8x1x1024, .f32⟩
  | 71 => ⟨S8x2048x1024, .f32⟩
  | 72 => ⟨S16384x1024, .f32⟩
  | 73 => ⟨S18432x1024, .f32⟩
  | 74 => ⟨S18432x1024, .f32⟩
  | 75 => ⟨S_, .f32⟩
  | 76 => ⟨S18432, .f32⟩
  | 77 => ⟨S18432x1, .f32⟩
  | 78 => ⟨S_, .f32⟩
  | 79 => ⟨S18432x1, .f32⟩
  | 80 => ⟨S18432x1, .f32⟩
  | 81 => ⟨S_, .f32⟩
  | 82 => ⟨S18432x1, .f32⟩
  | 83 => ⟨S18432x1, .f32⟩
  | 84 => ⟨S18432x1, .f32⟩
  | 85 => ⟨S18432x1024, .f32⟩
  | 86 => ⟨S18432x1024, .f32⟩
  | 87 => ⟨S1x1024, .f32⟩
  | 88 => ⟨S18432x1024, .f32⟩
  | 89 => ⟨S18432x1024, .f32⟩
  | 90 => ⟨S_, .f32⟩
  | 91 => ⟨S18432x1024, .f32⟩
  | 92 => ⟨S18432x1024, .f32⟩
  | 93 => ⟨S18432x1024, .f32⟩
  | 94 => ⟨S18432x1024, .f32⟩
  | 95 => ⟨S1x1024x4096, .f32⟩
  | 96 => ⟨S1024x4096, .f32⟩
  | 97 => ⟨S1x4096x1024, .f32⟩
  | 98 => ⟨S4096x1024, .f32⟩
  | 99 => ⟨S18432x4096, .f32⟩
  | 100 => ⟨S_, .f32⟩
  | 101 => ⟨S18432x4096, .f32⟩
  | 102 => ⟨S18432x4096, .f32⟩
  | 103 => ⟨S18432x4096, .f32⟩
  | 104 => ⟨S18432x1024, .f32⟩
  | 105 => ⟨S1x16x6x1024, .f32⟩
  | 106 => ⟨S16x6x1024, .f32⟩
  | 107 => ⟨S16x1x1024, .f32⟩
  | 108 => ⟨S16x1024, .f32⟩
  | 109 => ⟨S1x1024, .f32⟩
  | 110 => ⟨S2048x1024, .f32⟩
  | 111 => ⟨S8x1024, .f32⟩
  | 112 => ⟨S8x1x1024, .f32⟩
  | 113 => ⟨S8x2048x1024, .f32⟩
  | 114 => ⟨S16384x1024, .f32⟩
  | 115 => ⟨S18432x1024, .f32⟩
  | 116 => ⟨S1x1024, .f32⟩
  | 117 => ⟨S1024, .f32⟩
  | 118 => ⟨S18432x1024, .f32⟩
  | 119 => ⟨S_, .f32⟩
  | 120 => ⟨S18432, .f32⟩
  | 121 => ⟨S18432x1, .f32⟩
  | 122 => ⟨S_, .f32⟩
  | 123 => ⟨S18432x1, .f32⟩
  | 124 => ⟨S18432x1, .f32⟩
  | 125 => ⟨S_, .f32⟩
  | 126 => ⟨S18432x1, .f32⟩
  | 127 => ⟨S18432x1, .f32⟩
  | _ => ⟨S2048x512, .bf16⟩

abbrev hbmTy0_1 (i : Nat) : BufTy := match i % 128 with
  | 0 => ⟨S18432x1, .f32⟩
  | 1 => ⟨S18432x1024, .f32⟩
  | 2 => ⟨S18432x1024, .f32⟩
  | 3 => ⟨S1x1024, .f32⟩
  | 4 => ⟨S18432x1024, .f32⟩
  | 5 => ⟨S18432x1024, .f32⟩
  | 6 => ⟨S18432x1024, .f32⟩
  | 7 => ⟨S18432x1024, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_2 : Ref sig .tc := ⟨.hbm, 75, rfl⟩
abbrev main_v60 : Ref sig .tc := ⟨.hbm, 76, rfl⟩
abbrev main_v61 : Ref sig .tc := ⟨.hbm, 77, rfl⟩
abbrev main_cst_3 : Ref sig .tc := ⟨.hbm, 78, rfl⟩
abbrev main_v62 : Ref sig .tc := ⟨.hbm, 79, rfl⟩
abbrev main_v63 : Ref sig .tc := ⟨.hbm, 80, rfl⟩
abbrev main_cst_4 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_5 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_6 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_7 : Ref sig .tc := ⟨.hbm, 119, rfl⟩
abbrev main_v99 : Ref sig .tc := ⟨.hbm, 120, rfl⟩
abbrev main_v100 : Ref sig .tc := ⟨.hbm, 121, rfl⟩
abbrev main_cst_8 : Ref sig .tc := ⟨.hbm, 122, rfl⟩
abbrev main_v101 : Ref sig .tc := ⟨.hbm, 123, rfl⟩
abbrev main_v102 : Ref sig .tc := ⟨.hbm, 124, rfl⟩
abbrev main_cst_9 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩

abbrev nD : Nat := 1
abbrev τ : Topo := Topo.v7x

variable {F : FTy → Type} [FloatOps F]
-- ==== Last.lean ====
abbrev S2048x512 : Shape := ⟨2, ![2048, 512]⟩
abbrev S16384x512 : Shape := ⟨2, ![16384, 512]⟩
abbrev S18432x1024 : Shape := ⟨2, ![18432, 1024]⟩
abbrev S4x16x6x1024 : Shape := ⟨4, ![4, 16, 6, 1024]⟩
abbrev S4x1024 : Shape := ⟨2, ![4, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S4x1x1024 : Shape := ⟨3, ![4, 1, 1024]⟩
abbrev S16384x1024 : Shape := ⟨2, ![16384, 1024]⟩
abbrev S512x512 : Shape := ⟨2, ![512, 512]⟩
abbrev S512x1024 : Shape := ⟨2, ![512, 1024]⟩
abbrev S1x1x6x1024 : Shape := ⟨4, ![1, 1, 6, 1024]⟩
abbrev S1x1x1024 : Shape := ⟨3, ![1, 1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S512x2048 : Shape := ⟨2, ![512, 2048]⟩
abbrev S1x2048x1024 : Shape := ⟨3, ![1, 2048, 1024]⟩
abbrev S2048x1024 : Shape := ⟨2, ![2048, 1024]⟩

abbrev nBuf : Space → Nat
  | .hbm => 19
  | .vmem => 20
  | .smem => 0
  | _ => 0

abbrev bufTy : (tb : Table) → Fin (tcTables nBuf tb) → BufTy
  | .hbm, ⟨0, _⟩ => ⟨S2048x512, .bf16⟩
  | .hbm, ⟨1, _⟩ => ⟨S16384x512, .bf16⟩
  | .hbm, ⟨2, _⟩ => ⟨S2048x512, .bf16⟩
  | .hbm, ⟨3, _⟩ => ⟨S16384x512, .bf16⟩
  | .hbm, ⟨4, _⟩ => ⟨S18432x1024, .f32⟩
  | .hbm, ⟨5, _⟩ => ⟨S4x16x6x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024x1024, .f32⟩
  | .hbm, ⟨10, _⟩ => ⟨S4x1024x4096, .f32⟩
  | .hbm, ⟨11, _⟩ => ⟨S4x4096x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1024x1024, .bf16⟩
  | .hbm, ⟨16, _⟩ => ⟨S4x1024x4096, .bf16⟩
  | .hbm, ⟨17, _⟩ => ⟨S4x4096x1024, .bf16⟩
  | .hbm, ⟨18, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024x1024, .bf16⟩
  | .local _ .vmem, ⟨16, _⟩ => ⟨S1x1024x4096, .bf16⟩
  | .local _ .vmem, ⟨17, _⟩ => ⟨S1x4096x1024, .bf16⟩
  | .local _ .vmem, ⟨18, _⟩ => ⟨S512x1024, .f32⟩
  | .local _ .vmem, ⟨19, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c4_i32_0 : BitVec 32 := 4#32
  let v1 : BitVec 32 := Scalar.subi v0 c4_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi arg0 c4_i32
  let c4_i32_0 : BitVec 32 := 4#32
  let v1 : BitVec 32 := Scalar.subi v0 c4_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.addi arg0 c4_i32
  let c512_i32 : BitVec 32 := 512#32
  let v1 : BitVec 32 := Scalar.muli v0 c512_i32
  let c2048_i32 : BitVec 32 := 2048#32
  let v2 : BitVec 1 := Scalar.cmpi .slt v1 c2048_i32
  let c2048_i32_0 : BitVec 32 := 2048#32
  let v3 : BitVec 32 := Scalar.subi v1 c2048_i32_0
  let c2048_i32_1 : BitVec 32 := 2048#32
  let v4 : BitVec 32 := Scalar.divsi v3 c2048_i32_1
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32_1 c0_i32_3
  let v11 : BitVec 32 := Scalar.extui v10
  let c0_i32_4 : BitVec 32 := 0#32
  let v12 : BitVec 1 := Scalar.cmpi .slt c2048_i32_1 c0_i32_4
  let v13 : BitVec 32 := Scalar.extui v12
  let v14 : BitVec 32 := Scalar.subi v11 v13
  let v15 : BitVec 1 := Scalar.cmpi .ne v9 v14
  let v16 : BitVec 32 := Scalar.remsi v3 c2048_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c8_i32 : BitVec 32 := 8#32
  let v21 : BitVec 32 := Scalar.select v2 c8_i32 v20
  let c3_i32 : BitVec 32 := 3#32
  let c0_i32_6 : BitVec 32 := 0#32
  let c0_i32_7 : BitVec 32 := 0#32
  let c0_i32_8 : BitVec 32 := 0#32
  ![c3_i32.toNat, v21.toNat, c0_i32_6.toNat, c0_i32_7.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LastRefIdeal.lean ====
abbrev S2048x512 : Shape := ⟨2, ![2048, 512]⟩
abbrev S16384x512 : Shape := ⟨2, ![16384, 512]⟩
abbrev S18432x1024 : Shape := ⟨2, ![18432, 1024]⟩
abbrev S4x16x6x1024 : Shape := ⟨4, ![4, 16, 6, 1024]⟩
abbrev S4x1024 : Shape := ⟨2, ![4, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S16384x1024 : Shape := ⟨2, ![16384, 1024]⟩
abbrev S1x1024x1024 : Shape := ⟨3, ![1, 1024, 1024]⟩
abbrev S1024x1024 : Shape := ⟨2, ![1024, 1024]⟩
abbrev S1x16x6x1024 : Shape := ⟨4, ![1, 16, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S8x1024 : Shape := ⟨2, ![8, 1024]⟩
abbrev S8x1x1024 : Shape := ⟨3, ![8, 1, 1024]⟩
abbrev S8x2048x1024 : Shape := ⟨3, ![8, 2048, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 123
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S16384x512, .bf16⟩
  | .hbm, ⟨2, _⟩ => ⟨S2048x512, .bf16⟩
  | .hbm, ⟨3, _⟩ => ⟨S16384x512, .bf16⟩
  | .hbm, ⟨4, _⟩ => ⟨S18432x1024, .f32⟩
  | .hbm, ⟨5, _⟩ => ⟨S4x16x6x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024x1024, .f32⟩
  | .hbm, ⟨10, _⟩ => ⟨S4x1024x4096, .f32⟩
  | .hbm, ⟨11, _⟩ => ⟨S4x4096x1024, .f32⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S1x1024x1024, .f32⟩
  | .hbm, ⟨16, _⟩ => ⟨S1024x1024, .f32⟩
  | .hbm, ⟨17, _⟩ => ⟨S16384x1024, .f32⟩
  | .hbm, ⟨18, _⟩ => ⟨S1x16x6x1024, .f32⟩
  | .hbm, ⟨19, _⟩ => ⟨S16x6x1024, .f32⟩
  | .hbm, ⟨20, _⟩ => ⟨S16x1x1024, .f32⟩
  | .hbm, ⟨21, _⟩ => ⟨S16x1024, .f32⟩
  | .hbm, ⟨22, _⟩ => ⟨S8x1024, .f32⟩
  | .hbm, ⟨23, _⟩ => ⟨S8x1x1024, .f32⟩
  | .hbm, ⟨24, _⟩ => ⟨S8x2048x1024, .f32⟩
  | .hbm, ⟨25, _⟩ => ⟨S16384x1024, .f32⟩
  | .hbm, ⟨26, _⟩ => ⟨S1x1024, .f32⟩
  | .hbm, ⟨27, _⟩ => ⟨S1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S1024, .f32⟩
  | .hbm, ⟨48, _⟩ => ⟨S1x16x6x1024, .f32⟩
  | .hbm, ⟨49, _⟩ => ⟨S16x6x1024, .f32⟩
  | .hbm, ⟨50, _⟩ => ⟨S16x1x1024, .f32⟩
  | .hbm, ⟨51, _⟩ => ⟨S16x1024, .f32⟩
  | .hbm, ⟨52, _⟩ => ⟨S8x1024, .f32⟩
  | .hbm, ⟨53, _⟩ => ⟨S8x1x1024, .f32⟩
  | .hbm, ⟨54, _⟩ => ⟨S8x2048x1024, .f32⟩
  | .hbm, ⟨55, _⟩ => ⟨S16384x1024, .f32⟩
  | .hbm, ⟨56, _⟩ => ⟨S1x16x6x1024, .f32⟩
  | .hbm, ⟨57, _⟩ => ⟨S16x6x1024, .f32⟩
  | .hbm, ⟨58, _⟩ => ⟨S16x1x1024, .f32⟩
  | .hbm, ⟨59, _⟩ => ⟨S16x1024, .f32⟩
  | .hbm, ⟨60, _⟩ => ⟨S8x1024, .f32⟩
  | .hbm, ⟨61, _⟩ => ⟨S8x1x1024, .f32⟩
  | .hbm, ⟨62, _⟩ => ⟨S8x2048x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S1x1024x4096, .f32⟩
  | .hbm, ⟨86, _⟩ => ⟨S1024x4096, .f32⟩
  | .hbm, ⟨87, _⟩ => ⟨S1x4096x1024, .f32⟩
  | .hbm, ⟨88, _⟩ => ⟨S4096x1024, .f32⟩
  | .hbm, ⟨89, _⟩ => ⟨S16384x4096, .f32⟩
  | .hbm, ⟨90, _⟩ => ⟨S_, .f32⟩
  | .hbm, ⟨91, _⟩ => ⟨S16384x4096, .f32⟩
  | .hbm, ⟨92, _⟩ => ⟨S16384x4096, .f32⟩
  | .hbm, ⟨93, _⟩ => ⟨S16384x4096, .f32⟩
  | .hbm, ⟨94, _⟩ => ⟨S16384x1024, .f32⟩
  | .hbm, ⟨95, _⟩ => ⟨S1x16x6x1024, .f32⟩
  | .hbm, ⟨96, _⟩ => ⟨S16x6x1024, .f32⟩
  | .hbm, ⟨97, _⟩ => ⟨S16x1x1024, .f32⟩
  | .hbm, ⟨98, _⟩ => ⟨S16x1024, .f32⟩
  | .hbm, ⟨99, _⟩ => ⟨S8x1024, .f32⟩
  | .hbm, ⟨100, _⟩ => ⟨S8x1x1024, .f32⟩
  | .hbm, ⟨101, _⟩ => ⟨S8x2048x1024, .f32⟩
  | .hbm, ⟨102, _⟩ => ⟨S16384x1024, .f32⟩
  | .hbm, ⟨103, _⟩ => ⟨S1x1024, .f32⟩
  | .hbm, ⟨104, _⟩ => ⟨S1024, .f32⟩
  | .hbm, ⟨105, _⟩ => ⟨S16384x1024, .f32⟩
  | .hbm, ⟨106, _⟩ => ⟨S_, .f32⟩
  | .hbm, ⟨107, _⟩ => ⟨S16384, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S16384x1, .f32⟩
  | .hbm, ⟨116, _⟩ => ⟨S16384x1024, .f32⟩
  | .hbm, ⟨117, _⟩ => ⟨S16384x1024, .f32⟩
  | .hbm, ⟨118, _⟩ => ⟨S1x1024, .f32⟩
  | .hbm, ⟨119, _⟩ => ⟨S16384x1024, .f32⟩
  | .hbm, ⟨120, _⟩ => ⟨S16384x1024, .f32⟩
  | .hbm, ⟨121, _⟩ => ⟨S16384x1024, .f32⟩
  | .hbm, ⟨122, _⟩ => ⟨S16384x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_2 : Ref sig .tc := ⟨.hbm, 65, rfl⟩
abbrev main_v50 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_6 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_cst_8 : Ref sig .tc := ⟨.hbm, 109, rfl⟩
abbrev main_v88 : Ref sig .tc := ⟨.hbm, 110, rfl⟩
abbrev main_v89 : Ref sig .tc := ⟨.hbm, 111, rfl⟩
abbrev main_cst_9 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩

abbrev nD : Nat := 1
abbrev τ : Topo := Topo.v7x

variable {F : FTy → Type} [FloatOps F]
-- ==== Odd.lean ====
abbrev S18432x1024 : Shape := ⟨2, ![18432, 1024]⟩
abbrev S4x16x6x1024 : Shape := ⟨4, ![4, 16, 6, 1024]⟩
abbrev S4x1024 : Shape := ⟨2, ![4, 1024]⟩
abbrev S2x1024x2304 : Shape := ⟨3, ![2, 1024, 2304]⟩
abbrev S4x1x1024 : Shape := ⟨3, ![4, 1, 1024]⟩
abbrev S18432x1536 : Shape := ⟨2, ![18432, 1536]⟩
abbrev S18432x768 : Shape := ⟨2, ![18432, 768]⟩
abbrev S512x1024 : Shape := ⟨2, ![512, 1024]⟩
abbrev S1x1x6x1024 : Shape := ⟨4, ![1, 1, 6, 1024]⟩
abbrev S1x1x1024 : Shape := ⟨3, ![1, 1, 1024]⟩
abbrev S1x1024x2304 : Shape := ⟨3, ![1, 1024, 2304]⟩
abbrev S512x1536 : Shape := ⟨2, ![512, 1536]⟩
abbrev S512x768 : Shape := ⟨2, ![512, 768]⟩
abbrev S1x1024 : Shape := ⟨2, ![1, 1024]⟩
abbrev S512 : Shape := ⟨1, ![512]⟩
abbrev S512x1 : Shape := ⟨2, ![512, 1]⟩
abbrev S1x1x1x1024 : Shape := ⟨4, ![1, 1, 1, 1024]⟩
abbrev S1x1024x1536 : Shape := ⟨3, ![1, 1024, 1536]⟩
abbrev S1024x1536 : Shape := ⟨2, ![1024, 1536]⟩
abbrev S1x1024x768 : Shape := ⟨3, ![1, 1024, 768]⟩
abbrev S1024x768 : Shape := ⟨2, ![1024, 768]⟩

abbrev nBuf : Space → Nat
  | .hbm => 8
  | .vmem => 10
  | .smem => 0
  | _ => 0

abbrev bufTy : (tb : Table) → Fin (tcTables nBuf tb) → BufTy
  | .hbm, ⟨0, _⟩ => ⟨S18432x1024, .f32⟩
  | .hbm, ⟨1, _⟩ => ⟨S4x16x6x1024, .f32⟩
  | .hbm, ⟨2, _⟩ => ⟨S4x1024, .f32⟩
  | .hbm, ⟨3, _⟩ => ⟨S2x1024x2304, .f32⟩
  | .hbm, ⟨4, _⟩ => ⟨S4x1x1024, .f32⟩
  | .hbm, ⟨5, _⟩ => ⟨S2x1024x2304, .bf16⟩
  | .hbm, ⟨6, _⟩ => ⟨S18432x1536, .f32⟩
  | .hbm, ⟨7, _⟩ => ⟨S18432x768, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1x1024x2304, .bf16⟩
  | .local _ .vmem, ⟨6, _⟩ => ⟨S512x1536, .f32⟩
  | .local _ .vmem, ⟨7, _⟩ => ⟨S512x1536, .f32⟩
  | .local _ .vmem, ⟨8, _⟩ => ⟨S512x768, .f32⟩
  | .local _ .vmem, ⟨9, _⟩ => ⟨S512x768, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 1 := Scalar.cmpi .slt v0 c2048_i32
  let c2048_i32_0 : BitVec 32 := 2048#32
  let v2 : BitVec 32 := Scalar.subi v0 c2048_i32_0
  let c2048_i32_1 : BitVec 32 := 2048#32
  let v3 : BitVec 32 := Scalar.divsi v2 c2048_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2048_i32_1 c0_i32_3
  let v10 : BitVec 32 := Scalar.extui v9
  let c0_i32_4 : BitVec 32 := 0#32
  let v11 : BitVec 1 := Scalar.cmpi .slt c2048_i32_1 c0_i32_4
  let v12 : BitVec 32 := Scalar.extui v11
  let v13 : BitVec 32 := Scalar.subi v10 v12
  let v14 : BitVec 1 := Scalar.cmpi .ne v8 v13
  let v15 : BitVec 32 := Scalar.remsi v2 c2048_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c1_i32_6 : BitVec 32 := 1#32
  let c0_i32_7 : BitVec 32 := 0#32
  let c0_i32_8 : BitVec 32 := 0#32
  let c0_i32_9 : BitVec 32 := 0#32
  ![c1_i32_6.toNat, v20.toNat, c0_i32_7.toNat, c0_i32_8.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddRefIdeal.lean ====
abbrev S18432x1024 : Shape := ⟨2, ![18432, 1024]⟩
abbrev S4x16x6x1024 : Shape := ⟨4, ![4, 16, 6, 1024]⟩
abbrev S4x1024 : Shape := ⟨2, ![4, 1024]⟩
abbrev S2x1024x2304 : Shape := ⟨3, ![2, 1024, 2304]⟩
abbrev S1x1024 : Shape := ⟨2, ![1, 1024]⟩
abbrev S1024 : Shape := ⟨1, ![1024]⟩
abbrev S1x16x6x1024 : Shape := ⟨4, ![1, 16, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S2048x1024 : Shape := ⟨2, ![2048, 1024]⟩
abbrev S8x1024 : Shape := ⟨2, ![8, 1024]⟩
abbrev S8x1x1024 : Shape := ⟨3, ![8, 1, 1024]⟩
abbrev S8x2048x1024 : Shape := ⟨3, ![8, 2048, 1024]⟩
abbrev S16384x1024 : Shape := ⟨2, ![16384, 1024]⟩
abbrev S_ : Shape := ⟨0, ![]⟩
abbrev S18432 : Shape := ⟨1, ![18432]⟩
abbrev S18432x1 : Shape := ⟨2, ![18432, 1]⟩
abbrev S1x1024x2304 : Shape := ⟨3, ![1, 1024, 2304]⟩
abbrev S1024x2304 : Shape := ⟨2, ![1024, 2304]⟩
abbrev S18432x2304 : Shape := ⟨2, ![18432, 2304]⟩
abbrev S18432x1536 : Shape := ⟨2, ![18432, 1536]⟩
abbrev S18432x768 : Shape := ⟨2, ![18432, 768]⟩

abbrev nBuf : Space → Nat
  | .hbm => 54
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S4x16x6x1024, .f32⟩
  | .hbm, ⟨2, _⟩ => ⟨S4x1024, .f32⟩
  | .hbm, ⟨3, _⟩ => ⟨S2x1024x2304, .f32⟩
  | .hbm, ⟨4, _⟩ => ⟨S1x1024, .f32⟩
  | .hbm, ⟨5, _⟩ => ⟨S1024, .f32⟩
  | .hbm, ⟨6, _⟩ => ⟨S1x16x6x1024, .f32⟩
  | .hbm, ⟨7, _⟩ => ⟨S16x6x1024, .f32⟩
  | .hbm, ⟨8, _⟩ => ⟨S16x1x1024, .f32⟩
  | .hbm, ⟨9, _⟩ => ⟨S16x1024, .f32⟩
  | .hbm, ⟨10, _⟩ => ⟨S1x1024, .f32⟩
  | .hbm, ⟨11, _⟩ => ⟨S2048x1024, .f32⟩
  | .hbm, ⟨12, _⟩ => ⟨S8x1024, .f32⟩
  | .hbm, ⟨13, _⟩ => ⟨S8x1x1024, .f32⟩
  | .hbm, ⟨14, _⟩ => ⟨S8x2048x1024, .f32⟩
  | .hbm, ⟨15, _⟩ => ⟨S16384x1024, .f32⟩
  | .hbm, ⟨16, _⟩ => ⟨S18432x1024, .f32⟩
  | .hbm, ⟨17, _⟩ => ⟨S1x16x6x1024, .f32⟩
  | .hbm, ⟨18, _⟩ => ⟨S16x6x1024, .f32⟩
  | .hbm, ⟨19, _⟩ => ⟨S16x1x1024, .f32⟩
  | .hbm, ⟨20, _⟩ => ⟨S16x1024, .f32⟩
  | .hbm, ⟨21, _⟩ => ⟨S1x1024, .f32⟩
  | .hbm, ⟨22, _⟩ => ⟨S2048x1024, .f32⟩
  | .hbm, ⟨23, _⟩ => ⟨S8x1024, .f32⟩
  | .hbm, ⟨24, _⟩ => ⟨S8x1x1024, .f32⟩
  | .hbm, ⟨25, _⟩ => ⟨S8x2048x1024, .f32⟩
  | .hbm, ⟨26, _⟩ => ⟨S16384x1024, .f32⟩
  | .hbm, ⟨27, _⟩ => ⟨S18432x1024, .f32⟩
  | .hbm, ⟨28, _⟩ => ⟨S18432x1024, .f32⟩
  | .hbm, ⟨29, _⟩ => ⟨S_, .f32⟩
  | .hbm, ⟨30, _⟩ => ⟨S18432, .f32⟩
  | .hbm, ⟨31, _⟩ => ⟨S18432x1, .f32⟩
  | .hbm, ⟨32, _⟩ => ⟨S_, .f32⟩
  | .hbm, ⟨33, _⟩ => ⟨S18432x1, .f32⟩
  | .hbm, ⟨34, _⟩ => ⟨S18432x1, .f32⟩
  | .hbm, ⟨35, _⟩ => ⟨S_, .f32⟩
  | .hbm, ⟨36, _⟩ => ⟨S18432x1, .f32⟩
  | .hbm, ⟨37, _⟩ => ⟨S18432x1, .f32⟩
  | .hbm, ⟨38, _⟩ => ⟨S18432x1, .f32⟩
  | .hbm, ⟨39, _⟩ => ⟨S18432x1024, .f32⟩
  | .hbm, ⟨40, _⟩ => ⟨S18432x1024, .f32⟩
  | .hbm, ⟨41, _⟩ => ⟨S1x1024, .f32⟩
  | .hbm, ⟨42, _⟩ => ⟨S18432x1024, .f32⟩
  | .hbm, ⟨43, _⟩ => ⟨S18432x1024, .f32⟩
  | .hbm, ⟨44, _⟩ => ⟨S_, .f32⟩
  | .hbm, ⟨45, _⟩ => ⟨S18432x1024, .f32⟩
  | .hbm, ⟨46, _⟩ => ⟨S18432x1024, .f32⟩
  | .hbm, ⟨47, _⟩ => ⟨S18432x1024, .f32⟩
  | .hbm, ⟨48, _⟩ => ⟨S18432x1024, .f32⟩
  | .hbm, ⟨49, _⟩ => ⟨S1x1024x2304, .f32⟩
  | .hbm, ⟨50, _⟩ => ⟨S1024x2304, .f32⟩
  | .hbm, ⟨51, _⟩ => ⟨S18432x2304, .f32⟩
  | .hbm, ⟨52, _⟩ => ⟨S18432x1536, .f32⟩
  | .hbm, ⟨53, _⟩ => ⟨S18432x768, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Even.lean ====
abbrev S18432x1024 : Shape := ⟨2, ![18432, 1024]⟩
abbrev S4x16x6x1024 : Shape := ⟨4, ![4, 16, 6, 1024]⟩
abbrev S4x1024 : Shape := ⟨2, ![4, 1024]⟩
abbrev S2x1024x2688 : Shape := ⟨3, ![2, 1024, 2688]⟩
abbrev S4x1x1024 : Shape := ⟨3, ![4, 1, 1024]⟩
abbrev S4x18432x384 : Shape := ⟨3, ![4, 18432, 384]⟩
abbrev S18432x384 : Shape := ⟨2, ![18432, 384]⟩
abbrev S18432x768 : Shape := ⟨2, ![18432, 768]⟩
abbrev S512x1024 : Shape := ⟨2, ![512, 1024]⟩
abbrev S1x1x6x1024 : Shape := ⟨4, ![1, 1, 6, 1024]⟩
abbrev S1x1x1024 : Shape := ⟨3, ![1, 1, 1024]⟩
abbrev S1x1024x2688 : Shape := ⟨3, ![1, 1024, 2688]⟩
abbrev S4x512x384 : Shape := ⟨3, ![4, 512, 384]⟩
abbrev S512x384 : Shape := ⟨2, ![512, 384]⟩
abbrev S512x768 : Shape := ⟨2, ![512, 768]⟩
abbrev S1x1024 : Shape := ⟨2, ![1, 1024]⟩
abbrev S512 : Shape := ⟨1, ![512]⟩
abbrev S512x1 : Shape := ⟨2, ![512, 1]⟩
abbrev S1x1x1x1024 : Shape := ⟨4, ![1, 1, 1, 1024]⟩
abbrev S1x1024x1536 : Shape := ⟨3, ![1, 1024, 1536]⟩
abbrev S1024x1536 : Shape := ⟨2, ![1024, 1536]⟩
abbrev S512x1536 : Shape := ⟨2, ![512, 1536]⟩
abbrev S512x128 : Shape := ⟨2, ![512, 128]⟩
abbrev S1x512x128 : Shape := ⟨3, ![1, 512, 128]⟩
abbrev S1x1024x384 : Shape := ⟨3, ![1, 1024, 384]⟩
abbrev S1024x384 : Shape := ⟨2, ![1024, 384]⟩
abbrev S1x1024x768 : Shape := ⟨3, ![1, 1024, 768]⟩
abbrev S1024x768 : Shape := ⟨2, ![1024, 768]⟩

abbrev nBuf : Space → Nat
  | .hbm => 9
  | .vmem => 12
  | .smem => 0
  | _ => 0

abbrev bufTy : (tb : Table) → Fin (tcTables nBuf tb) → BufTy
  | .hbm, ⟨0, _⟩ => ⟨S18432x1024, .f32⟩
  | .hbm, ⟨1, _⟩ => ⟨S4x16x6x1024, .f32⟩
  | .hbm, ⟨2, _⟩ => ⟨S4x1024, .f32⟩
  | .hbm, ⟨3, _⟩ => ⟨S2x1024x2688, .f32⟩
  | .hbm, ⟨4, _⟩ => ⟨S4x1x1024, .f32⟩
  | .hbm, ⟨5, _⟩ => ⟨S2x1024x2688, .bf16⟩
  | .hbm, ⟨6, _⟩ => ⟨S4x18432x384, .f32⟩
  | .hbm, ⟨7, _⟩ => ⟨S18432x384, .f32⟩
  | .hbm, ⟨8, _⟩ => ⟨S18432x768, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1x1024x2688, .bf16⟩
  | .local _ .vmem, ⟨6, _⟩ => ⟨S4x512x384, .f32⟩
  | .local _ .vmem, ⟨7, _⟩ => ⟨S4x512x384, .f32⟩
  | .local _ .vmem, ⟨8, _⟩ => ⟨S512x384, .f32⟩
  | .local _ .vmem, ⟨9, _⟩ => ⟨S512x384, .f32⟩
  | .local _ .vmem, ⟨10, _⟩ => ⟨S512x768, .f32⟩
  | .local _ .vmem, ⟨11, _⟩ => ⟨S512x768, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 1 := Scalar.cmpi .slt v0 c2048_i32
  let c2048_i32_0 : BitVec 32 := 2048#32
  let v2 : BitVec 32 := Scalar.subi v0 c2048_i32_0
  let c2048_i32_1 : BitVec 32 := 2048#32
  let v3 : BitVec 32 := Scalar.divsi v2 c2048_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2048_i32_1 c0_i32_3
  let v10 : BitVec 32 := Scalar.extui v9
  let c0_i32_4 : BitVec 32 := 0#32
  let v11 : BitVec 1 := Scalar.cmpi .slt c2048_i32_1 c0_i32_4
  let v12 : BitVec 32 := Scalar.extui v11
  let v13 : BitVec 32 := Scalar.subi v10 v12
  let v14 : BitVec 1 := Scalar.cmpi .ne v8 v13
  let v15 : BitVec 32 := Scalar.remsi v2 c2048_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c2_i32 : BitVec 32 := 2#32
  let c0_i32_6 : BitVec 32 := 0#32
  let c0_i32_7 : BitVec 32 := 0#32
  let c0_i32_8 : BitVec 32 := 0#32
  ![c2_i32.toNat, v20.toNat, c0_i32_6.toNat, c0_i32_7.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenRefIdeal.lean ====
abbrev S18432x1024 : Shape := ⟨2, ![18432, 1024]⟩
abbrev S4x16x6x1024 : Shape := ⟨4, ![4, 16, 6, 1024]⟩
abbrev S4x1024 : Shape := ⟨2, ![4, 1024]⟩
abbrev S2x1024x2688 : Shape := ⟨3, ![2, 1024, 2688]⟩
abbrev S1x1024 : Shape := ⟨2, ![1, 1024]⟩
abbrev S1024 : Shape := ⟨1, ![1024]⟩
abbrev S1x16x6x1024 : Shape := ⟨4, ![1, 16, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S2048x1024 : Shape := ⟨2, ![2048, 1024]⟩
abbrev S8x1024 : Shape := ⟨2, ![8, 1024]⟩
abbrev S8x1x1024 : Shape := ⟨3, ![8, 1, 1024]⟩
abbrev S8x2048x1024 : Shape := ⟨3, ![8, 2048, 1024]⟩
abbrev S16384x1024 : Shape := ⟨2, ![16384, 1024]⟩
abbrev S_ : Shape := ⟨0, ![]⟩
abbrev S18432 : Shape := ⟨1, ![18432]⟩
abbrev S18432x1 : Shape := ⟨2, ![18432, 1]⟩
abbrev S1x1024x2688 : Shape := ⟨3, ![1, 1024, 2688]⟩
abbrev S1024x2688 : Shape := ⟨2, ![1024, 2688]⟩
abbrev S18432x2688 : Shape := ⟨2, ![18432, 2688]⟩
abbrev S18432x1536 : Shape := ⟨2, ![18432, 1536]⟩
abbrev S18432x3x4x128 : Shape := ⟨4, ![18432, 3, 4, 128]⟩
abbrev S4x18432x3x128 : Shape := ⟨4, ![4, 18432, 3, 128]⟩
abbrev S4x18432x384 : Shape := ⟨3, ![4, 18432, 384]⟩
abbrev S18432x384 : Shape := ⟨2, ![18432, 384]⟩
abbrev S18432x768 : Shape := ⟨2, ![18432, 768]⟩

abbrev nBuf : Space → Nat
  | .hbm => 58
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S4x16x6x1024, .f32⟩
  | .hbm, ⟨2, _⟩ => ⟨S4x1024, .f32⟩
  | .hbm, ⟨3, _⟩ => ⟨S2x1024x2688, .f32⟩
  | .hbm, ⟨4, _⟩ => ⟨S1x1024, .f32⟩
  | .hbm, ⟨5, _⟩ => ⟨S1024, .f32⟩
  | .hbm, ⟨6, _⟩ => ⟨S1x16x6x1024, .f32⟩
  | .hbm, ⟨7, _⟩ => ⟨S16x6x1024, .f32⟩
  | .hbm, ⟨8, _⟩ => ⟨S16x1x1024, .f32⟩
  | .hbm, ⟨9, _⟩ => ⟨S16x1024, .f32⟩
  | .hbm, ⟨10, _⟩ => ⟨S1x1024, .f32⟩
  | .hbm, ⟨11, _⟩ => ⟨S2048x1024, .f32⟩
  | .hbm, ⟨12, _⟩ => ⟨S8x1024, .f32⟩
  | .hbm, ⟨13, _⟩ => ⟨S8x1x1024, .f32⟩
  | .hbm, ⟨14, _⟩ => ⟨S8x2048x1024, .f32⟩
  | .hbm, ⟨15, _⟩ => ⟨S16384x1024, .f32⟩
  | .hbm, ⟨16, _⟩ => ⟨S18432x1024, .f32⟩
  | .hbm, ⟨17, _⟩ => ⟨S1x16x6x1024, .f32⟩
  | .hbm, ⟨18, _⟩ => ⟨S16x6x1024, .f32⟩
  | .hbm, ⟨19, _⟩ => ⟨S16x1x1024, .f32⟩
  | .hbm, ⟨20, _⟩ => ⟨S16x1024, .f32⟩
  | .hbm, ⟨21, _⟩ => ⟨S1x1024, .f32⟩
  | .hbm, ⟨22, _⟩ => ⟨S2048x1024, .f32⟩
  | .hbm, ⟨23, _⟩ => ⟨S8x1024, .f32⟩
  | .hbm, ⟨24, _⟩ => ⟨S8x1x1024, .f32⟩
  | .hbm, ⟨25, _⟩ => ⟨S8x2048x1024, .f32⟩
  | .hbm, ⟨26, _⟩ => ⟨S16384x1024, .f32⟩
  | .hbm, ⟨27, _⟩ => ⟨S18432x1024, .f32⟩
  | .hbm, ⟨28, _⟩ => ⟨S18432x1024, .f32⟩
  | .hbm, ⟨29, _⟩ => ⟨S_, .f32⟩
  | .hbm, ⟨30, _⟩ => ⟨S18432, .f32⟩
  | .hbm, ⟨31, _⟩ => ⟨S18432x1, .f32⟩
  | .hbm, ⟨32, _⟩ => ⟨S_, .f32⟩
  | .hbm, ⟨33, _⟩ => ⟨S18432x1, .f32⟩
  | .hbm, ⟨34, _⟩ => ⟨S18432x1, .f32⟩
  | .hbm, ⟨35, _⟩ => ⟨S_, .f32⟩
  | .hbm, ⟨36, _⟩ => ⟨S18432x1, .f32⟩
  | .hbm, ⟨37, _⟩ => ⟨S18432x1, .f32⟩
  | .hbm, ⟨38, _⟩ => ⟨S18432x1, .f32⟩
  | .hbm, ⟨39, _⟩ => ⟨S18432x1024, .f32⟩
  | .hbm, ⟨40, _⟩ => ⟨S18432x1024, .f32⟩
  | .hbm, ⟨41, _⟩ => ⟨S1x1024, .f32⟩
  | .hbm, ⟨42, _⟩ => ⟨S18432x1024, .f32⟩
  | .hbm, ⟨43, _⟩ => ⟨S18432x1024, .f32⟩
  | .hbm, ⟨44, _⟩ => ⟨S_, .f32⟩
  | .hbm, ⟨45, _⟩ => ⟨S18432x1024, .f32⟩
  | .hbm, ⟨46, _⟩ => ⟨S18432x1024, .f32⟩
  | .hbm, ⟨47, _⟩ => ⟨S18432x1024, .f32⟩
  | .hbm, ⟨48, _⟩ => ⟨S18432x1024, .f32⟩
  | .hbm, ⟨49, _⟩ => ⟨S1x1024x2688, .f32⟩
  | .hbm, ⟨50, _⟩ => ⟨S1024x2688, .f32⟩
  | .hbm, ⟨51, _⟩ => ⟨S18432x2688, .f32⟩
  | .hbm, ⟨52, _⟩ => ⟨S18432x1536, .f32⟩
  | .hbm, ⟨53, _⟩ => ⟨S18432x3x4x128, .f32⟩
  | .hbm, ⟨54, _⟩ => ⟨S4x18432x3x128, .f32⟩
  | .hbm, ⟨55, _⟩ => ⟨S4x18432x384, .f32⟩
  | .hbm, ⟨56, _⟩ => ⟨S18432x384, .f32⟩
  | .hbm, ⟨57, _⟩ => ⟨S18432x768, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== Ada.lean ====
abbrev S16x1024 : Shape := ⟨2, ![16, 1024]⟩
abbrev S4x1024x6144 : Shape := ⟨3, ![4, 1024, 6144]⟩
abbrev S4x6144 : Shape := ⟨2, ![4, 6144]⟩
abbrev S4x6x1x1024 : Shape := ⟨4, ![4, 6, 1, 1024]⟩
abbrev S4x6x16x1024 : Shape := ⟨4, ![4, 6, 16, 1024]⟩
abbrev S1x1024x1024 : Shape := ⟨3, ![1, 1024, 1024]⟩
abbrev S1x1x1x1024 : Shape := ⟨4, ![1, 1, 1, 1024]⟩
abbrev S1x1x16x1024 : Shape := ⟨4, ![1, 1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x6x1x1024, .f32⟩
  | .hbm, ⟨4, _⟩ => ⟨S4x6x16x1024, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x16x1024, .f32⟩
  | .local _ .vmem, ⟨6, _⟩ => ⟨S1x1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩
abbrev S4x16x6x1024 : Shape := ⟨4, ![4, 16, 6, 1024]⟩
abbrev S4x6x16x1024 : Shape := ⟨4, ![4, 6, 16, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | .hbm, ⟨17, _⟩ => ⟨S4x16x6x1024, .f32⟩
  | .hbm, ⟨18, _⟩ => ⟨S4x6x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Ctx.lean ====
abbrev S18432x1536 : Shape := ⟨2, ![18432, 1536]⟩
abbrev S_ : Shape := ⟨0, ![]⟩
abbrev S8x128 : Shape := ⟨2, ![8, 128]⟩
abbrev S1x128 : Shape := ⟨2, ![1, 128]⟩
abbrev S2048x512 : Shape := ⟨2, ![2048, 512]⟩
abbrev S256x512 : Shape := ⟨2, ![256, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S18432x1536, .f32⟩
  | .hbm, ⟨1, _⟩ => ⟨S_, .f32⟩
  | .hbm, ⟨2, _⟩ => ⟨S8x128, .f32⟩
  | .hbm, ⟨3, _⟩ => ⟨S_, .f32⟩
  | .hbm, ⟨4, _⟩ => ⟨S1x128, .f32⟩
  | .hbm, ⟨5, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x128, .f32⟩
  | .local _ .vmem, ⟨7, _⟩ => ⟨S1x128, .f32⟩
  | .local _ .vmem, ⟨8, _⟩ => ⟨S1x128, .f32⟩
  | .local _ .vmem, ⟨9, _⟩ => ⟨S256x512, .bf16⟩
  | .local _ .vmem, ⟨10, _⟩ => ⟨S256x512, .bf16⟩
  | _, _ => ⟨S18432x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CtxIdeal.lean ====
variable {F : FTy → Type} [FloatOps F] [Named F]
def κ : String → Option EReal := fun
  | "q_scale" => some (((1 / 8) * (Real.log 2)⁻¹ : ℝ) : EReal)
  | _ => none
-- ==== CtxRefIdeal.lean ====
abbrev S18432x1536 : Shape := ⟨2, ![18432, 1536]⟩
abbrev S2048x1536 : Shape := ⟨2, ![2048, 1536]⟩
abbrev S8x256x1536 : Shape := ⟨3, ![8, 256, 1536]⟩
abbrev S8x256x512 : Shape := ⟨3, ![8, 256, 512]⟩
abbrev S8x256x8x64 : Shape := ⟨4, ![8, 256, 8, 64]⟩
abbrev S8x8x256x256 : Shape := ⟨4, ![8, 8, 256, 256]⟩
abbrev S_ : Shape := ⟨0, ![]⟩
abbrev S8x8x256 : Shape := ⟨3, ![8, 8, 256]⟩
abbrev S8x8x256x1 : Shape := ⟨4, ![8, 8, 256, 1]⟩
abbrev S8x8x64x256 : Shape := ⟨4, ![8, 8, 64, 256]⟩
abbrev S2048x512 : Shape := ⟨2, ![2048, 512]⟩

abbrev nBuf : Space → Nat
  | .hbm => 31
  | .vmem => 0
  | .smem => 0
  | _ => 0

abbrev bufTy : (tb : Table) → Fin (tcTables nBuf tb) → BufTy
  | .hbm, ⟨0, _⟩ => ⟨S18432x1536, .f32⟩
  | .hbm, ⟨1, _⟩ => ⟨S2048x1536, .f32⟩
  | .hbm, ⟨2, _⟩ => ⟨S8x256x1536, .f32⟩
  | .hbm, ⟨3, _⟩ => ⟨S8x256x512, .f32⟩
  | .hbm, ⟨4, _⟩ => ⟨S8x256x8x64, .f32⟩
  | .hbm, ⟨5, _⟩ => ⟨S8x256x512, .f32⟩
  | .hbm, ⟨6, _⟩ => ⟨S8x256x8x64, .f32⟩
  | .hbm, ⟨7, _⟩ => ⟨S8x256x512, .f32⟩
  | .hbm, ⟨8, _⟩ => ⟨S8x256x8x64, .f32⟩
  | .hbm, ⟨9, _⟩ => ⟨S8x8x256x256, .f32⟩
  | .hbm, ⟨10, _⟩ => ⟨S_, .f32⟩
  | .hbm, ⟨11, _⟩ => ⟨S8x8x256x256, .f32⟩
  | .hbm, ⟨12, _⟩ => ⟨S8x8x256x256, .f32⟩
  | .hbm, ⟨13, _⟩ => ⟨S_, .f32⟩
  | .hbm, ⟨14, _⟩ => ⟨S8x8x256, .f32⟩
  | .hbm, ⟨15, _⟩ => ⟨S_, .f32⟩
  | .hbm, ⟨16, _⟩ => ⟨S8x8x256, .f32⟩
  | .hbm, ⟨17, _⟩ => ⟨S8x8x256, .f32⟩
  | .hbm, ⟨18, _⟩ => ⟨S8x8x256x1, .f32⟩
  | .hbm, ⟨19, _⟩ => ⟨S8x8x256x256, .f32⟩
  | .hbm, ⟨20, _⟩ => ⟨S8x8x256x256, .f32⟩
  | .hbm, ⟨21, _⟩ => ⟨S8x8x256x256, .f32⟩
  | .hbm, ⟨22, _⟩ => ⟨S_, .f32⟩
  | .hbm, ⟨23, _⟩ => ⟨S8x8x256, .f32⟩
  | .hbm, ⟨24, _⟩ => ⟨S8x8x256x1, .f32⟩
  | .hbm, ⟨25, _⟩ => ⟨S8x8x256x256, .f32⟩
  | .hbm, ⟨26, _⟩ => ⟨S8x8x256x256, .f32⟩
  | .hbm, ⟨27, _⟩ => ⟨S8x8x64x256, .f32⟩
  | .hbm, ⟨28, _⟩ => ⟨S8x256x8x64, .f32⟩
  | .hbm, ⟨29, _⟩ => ⟨S2048x512, .f32⟩
  | .hbm, ⟨30, _⟩ => ⟨S2048x512, .bf16⟩
  | _, _ => ⟨S18432x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Group.lean ====
abbrev S18432x768 : Shape := ⟨2, ![18432, 768]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S_ : Shape := ⟨0, ![]⟩
abbrev S8x128 : Shape := ⟨2, ![8, 128]⟩
abbrev S2048x512 : Shape := ⟨2, ![2048, 512]⟩
abbrev S256x512 : Shape := ⟨2, ![256, 512]⟩
abbrev S256x128 : Shape := ⟨2, ![256, 128]⟩
abbrev S128x128 : Shape := ⟨2, ![128, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S18432x768, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S2x64, .f32⟩
  | .hbm, ⟨5, _⟩ => ⟨S128, .f32⟩
  | .hbm, ⟨6, _⟩ => ⟨S1x128, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S_, .f32⟩
  | .hbm, ⟨12, _⟩ => ⟨S8x128, .f32⟩
  | .hbm, ⟨13, _⟩ => ⟨S_, .f32⟩
  | .hbm, ⟨14, _⟩ => ⟨S1x128, .f32⟩
  | .hbm, ⟨15, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x128, .f32⟩
  | .local _ .vmem, ⟨7, _⟩ => ⟨S1x128, .f32⟩
  | .local _ .vmem, ⟨8, _⟩ => ⟨S1x128, .f32⟩
  | .local _ .vmem, ⟨9, _⟩ => ⟨S256x512, .bf16⟩
  | .local _ .vmem, ⟨10, _⟩ => ⟨S256x512, .bf16⟩
  | _, _ => ⟨S18432x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GroupIdeal.lean ====
variable {F : FTy → Type} [FloatOps F] [Named F]
def κ : String → Option EReal := fun
  | "q_scale" => some (((1 / 8) * (Real.log 2)⁻¹ : ℝ) : EReal)
  | _ => none
-- ==== GroupRefIdeal.lean ====
abbrev S18432x768 : Shape := ⟨2, ![18432, 768]⟩
abbrev S64 : Shape := ⟨1, ![64]⟩
abbrev S2048x768 : Shape := ⟨2, ![2048, 768]⟩
abbrev S8x256x768 : Shape := ⟨3, ![8, 256, 768]⟩
abbrev S8x256x512 : Shape := ⟨3, ![8, 256, 512]⟩
abbrev S8x256x8x64 : Shape := ⟨4, ![8, 256, 8, 64]⟩
abbrev S8x256x128 : Shape := ⟨3, ![8, 256, 128]⟩
abbrev S8x256x2x64 : Shape := ⟨4, ![8, 256, 2, 64]⟩
abbrev S_ : Shape := ⟨0, ![]⟩
abbrev S8x256x8 : Shape := ⟨3, ![8, 256, 8]⟩
abbrev S8x256x8x1 : Shape := ⟨4, ![8, 256, 8, 1]⟩
abbrev S1x1x1x64 : Shape := ⟨4, ![1, 1, 1, 64]⟩
abbrev S8x256x2 : Shape := ⟨3, ![8, 256, 2]⟩
abbrev S8x256x2x1 : Shape := ⟨4, ![8, 256, 2, 1]⟩
abbrev S8x256x2x4x64 : Shape := ⟨5, ![8, 256, 2, 4, 64]⟩
abbrev S8x2x256x256x4 : Shape := ⟨5, ![8, 2, 256, 256, 4]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x2x64x4x256 : Shape := ⟨5, ![8, 2, 64, 4, 256]⟩
abbrev S2048x512 : Shape := ⟨2, ![2048, 512]⟩

abbrev nBuf : Space → Nat
  | .hbm => 67
  | .vmem => 0
  | .smem => 0
  | _ => 0

abbrev bufTy : (tb : Table) → Fin (tcTables nBuf tb) → BufTy
  | .hbm, ⟨0, _⟩ => ⟨S18432x768, .f32⟩
  | .hbm, ⟨1, _⟩ => ⟨S64, .f32⟩
  | .hbm, ⟨2, _⟩ => ⟨S64, .f32⟩
  | .hbm, ⟨3, _⟩ => ⟨S2048x768, .f32⟩
  | .hbm, ⟨4, _⟩ => ⟨S8x256x768, .f32⟩
  | .hbm, ⟨5, _⟩ => ⟨S8x256x512, .f32⟩
  | .hbm, ⟨6, _⟩ => ⟨S8x256x8x64, .f32⟩
  | .hbm, ⟨7, _⟩ => ⟨S8x256x128, .f32⟩
  | .hbm, ⟨8, _⟩ => ⟨S8x256x2x64, .f32⟩
  | .hbm, ⟨9, _⟩ => ⟨S8x256x128, .f32⟩
  | .hbm, ⟨10, _⟩ => ⟨S8x256x2x64, .f32⟩
  | .hbm, ⟨11, _⟩ => ⟨S8x256x8x64, .f32⟩
  | .hbm, ⟨12, _⟩ => ⟨S_, .f32⟩
  | .hbm, ⟨13, _⟩ => ⟨S8x256x8, .f32⟩
  | .hbm, ⟨14, _⟩ => ⟨S8x256x8x1, .f32⟩
  | .hbm, ⟨15, _⟩ => ⟨S_, .f32⟩
  | .hbm, ⟨16, _⟩ => ⟨S8x256x8x1, .f32⟩
  | .hbm, ⟨17, _⟩ => ⟨S8x256x8x1, .f32⟩
  | .hbm, ⟨18, _⟩ => ⟨S_, .f32⟩
  | .hbm, ⟨19, _⟩ => ⟨S8x256x8x1, .f32⟩
  | .hbm, ⟨20, _⟩ => ⟨S8x256x8x1, .f32⟩
  | .hbm, ⟨21, _⟩ => ⟨S8x256x8x1, .f32⟩
  | .hbm, ⟨22, _⟩ => ⟨S8x256x8x64, .f32⟩
  | .hbm, ⟨23, _⟩ => ⟨S8x256x8x64, .f32⟩
  | .hbm, ⟨24, _⟩ => ⟨S1x1x1x64, .f32⟩
  | .hbm, ⟨25, _⟩ => ⟨S8x256x8x64, .f32⟩
  | .hbm, ⟨26, _⟩ => ⟨S8x256x8x64, .f32⟩
  | .hbm, ⟨27, _⟩ => ⟨S8x256x2x64, .f32⟩
  | .hbm, ⟨28, _⟩ => ⟨S_, .f32⟩
  | .hbm, ⟨29, _⟩ => ⟨S8x256x2, .f32⟩
  | .hbm, ⟨30, _⟩ => ⟨S8x256x2x1, .f32⟩
  | .hbm, ⟨31, _⟩ => ⟨S_, .f32⟩
  | .hbm, ⟨32, _⟩ => ⟨S8x256x2x1, .f32⟩
  | .hbm, ⟨33, _⟩ => ⟨S8x256x2x1, .f32⟩
  | .hbm, ⟨34, _⟩ => ⟨S_, .f32⟩
  | .hbm, ⟨35, _⟩ => ⟨S8x256x2x1, .f32⟩
  | .hbm, ⟨36, _⟩ => ⟨S8x256x2x1, .f32⟩
  | .hbm, ⟨37, _⟩ => ⟨S8x256x2x1, .f32⟩
  | .hbm, ⟨38, _⟩ => ⟨S8x256x2x64, .f32⟩
  | .hbm, ⟨39, _⟩ => ⟨S8x256x2x64, .f32⟩
  | .hbm, ⟨40, _⟩ => ⟨S1x1x1x64, .f32⟩
  | .hbm, ⟨41, _⟩ => ⟨S8x256x2x64, .f32⟩
  | .hbm, ⟨42, _⟩ => ⟨S8x256x2x64, .f32⟩
  | .hbm, ⟨43, _⟩ => ⟨S8x256x2x4x64, .f32⟩
  | .hbm, ⟨44, _⟩ => ⟨S8x2x256x256x4, .f32⟩
  | .hbm, ⟨45, _⟩ => ⟨S8x2x4x256x256, .f32⟩
  | .hbm, ⟨46, _⟩ => ⟨S_, .f32⟩
  | .hbm, ⟨47, _⟩ => ⟨S8x2x4x256x256, .f32⟩
  | .hbm, ⟨48, _⟩ => ⟨S8x2x4x256x256, .f32⟩
  | .hbm, ⟨49, _⟩ => ⟨S_, .f32⟩
  | .hbm, ⟨50, _⟩ => ⟨S8x2x4x256, .f32⟩
  | .hbm, ⟨51, _⟩ => ⟨S_, .f32⟩
  | .hbm, ⟨52, _⟩ => ⟨S8x2x4x256, .f32⟩
  | .hbm, ⟨53, _⟩ => ⟨S8x2x4x256, .f32⟩
  | .hbm, ⟨54, _⟩ => ⟨S8x2x4x256x1, .f32⟩
  | .hbm, ⟨55, _⟩ => ⟨S8x2x4x256x256, .f32⟩
  | .hbm, ⟨56, _⟩ => ⟨S8x2x4x256x256, .f32⟩
  | .hbm, ⟨57, _⟩ => ⟨S8x2x4x256x256, .f32⟩
  | .hbm, ⟨58, _⟩ => ⟨S_, .f32⟩
  | .hbm, ⟨59, _⟩ => ⟨S8x2x4x256, .f32⟩
  | .hbm, ⟨60, _⟩ => ⟨S8x2x4x256x1, .f32⟩
  | .hbm, ⟨61, _⟩ => ⟨S8x2x4x256x256, .f32⟩
  | .hbm, ⟨62, _⟩ => ⟨S8x2x4x256x256, .f32⟩
  | .hbm, ⟨63, _⟩ => ⟨S8x2x64x4x256, .f32⟩
  | .hbm, ⟨64, _⟩ => ⟨S8x256x2x4x64, .f32⟩
  | .hbm, ⟨65, _⟩ => ⟨S2048x512, .f32⟩
  | .hbm, ⟨66, _⟩ => ⟨S2048x512, .bf16⟩
  | _, _ => ⟨S18432x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Proof.Attn.Math.lean ====
module

public import Idealize.ShloMosaic.Lib.Pointwise
public import Idealize.ShloMosaic.Lib.IdealHost

@[expose] public section

noncomputable section

open Idealize.ShloMosaic

/-! Real arithmetic of the attention, and the extended reals' operations at real numbers. -/

namespace Cert.AttnProof

/-- The constant added to the mean square. -/
def eps : ℝ := 8796093 / 8796093022208

theorem eps_pos : 0 < eps := by unfold eps; norm_num

/-- One head's row with unit mean square, times its gain. -/
def normR (x g : Fin 64 → ℝ) (d : Fin 64) : ℝ := x d * (Real.sqrt ((∑ k, x k * x k) / 64 + eps))⁻¹ * g d

/-- The lane that a rotation pairs lane `d` with: 16 lanes away, inside its 32 lanes. -/
def partner (d : Fin 64) : Fin 64 := ⟨if d.val % 32 < 16 then d.val + 16 else d.val - 16, by have := d.isLt; split <;> omega⟩

/-- A head's row turned: `sn` carries the sign. -/
def turnR (x cs sn : Fin 64 → ℝ) (d : Fin 64) : ℝ := x d * cs d + x (partner d) * sn d

/-- The mean of `v` under the weights `exp z`. -/
def attR {n : ℕ} (z v : Fin n → ℝ) : ℝ := (∑ s, Real.exp (z s) * v s) / ∑ s, Real.exp (z s)

/-- Lane `d` of half `a` among the 128 lanes. -/
def lane (a : Fin 2) (d : Fin 64) : Fin 128 := ⟨64 * a.val + d.val, by omega⟩

theorem sum_lanes {M : Type*} [AddCommMonoid M] (f : Fin 128 → M) : ∑ k, f k = ∑ d, f (lane 0 d) + ∑ d, f (lane 1 d) := by
  refine (Fin.sum_univ_add (a := 64) (b := 64) f).trans ?_
  congr 1 <;> refine Finset.sum_congr rfl fun d _ => congrArg f (Fin.ext ?_) <;> simp [lane]

/-- A sum over the 128 lanes whose terms outside half `a` are zero. -/
theorem sum_half {M : Type*} [AddCommMonoid M] (f : Fin 128 → M) (a : Fin 2) (h : ∀ b, b ≠ a → ∀ d, f (lane b d) = 0) :
    ∑ k, f k = ∑ d, f (lane a d) := by
  rw [sum_lanes]
  obtain rfl | rfl : a = 0 ∨ a = 1 := by omega
  · rw [Finset.sum_congr rfl fun d _ => h 1 (by decide) d, Finset.sum_const_zero, add_zero]
  · rw [Finset.sum_congr rfl fun d _ => h 0 (by decide) d, Finset.sum_const_zero, zero_add]

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The maximum of finitely many reals, at least one, is real. -/
theorem fold_max {n : ℕ} (f : Fin (n + 1) → ℝ) :
    ∃ M : ℝ, Finset.fold max (⊥ : EReal) (fun i => (f i : EReal)) Finset.univ = (M : EReal) := by
  have key : ∀ s : Finset (Fin (n + 1)), Finset.fold max (⊥ : EReal) (fun i => (f i : EReal)) s = ⊥ ∧ s = ∅
      ∨ ∃ M : ℝ, Finset.fold max (⊥ : EReal) (fun i => (f i : EReal)) s = (M : EReal) := by
    intro s
    induction s using Finset.induction_on with
    | empty => exact Or.inl ⟨rfl, rfl⟩
    | insert a s h ih =>
      rw [Finset.fold_insert h]
      rcases ih with ⟨e, -⟩ | ⟨M, e⟩
      · exact Or.inr ⟨f a, by rw [e]; exact max_bot_right _⟩
      · exact Or.inr ⟨max (f a) M, by rw [e]; exact (EReal.coe_strictMono.monotone.map_max).symm⟩
  rcases key Finset.univ with ⟨-, e⟩ | h
  · exact absurd e (Finset.univ_nonempty.ne_empty)
  · exact h

theorem ofBits_eps : Ideal.ofBits .f32 0x358637BD#32 = (eps : EReal) := by
  simp [Ideal.ofBits, Ideal.ieee, -EReal.coe_mul, eps]; norm_num

theorem ofBits_64th : Ideal.ofBits .f32 0x3C800000#32 = ((1 / 64 : ℝ) : EReal) := by
  simp [Ideal.ofBits, Ideal.ieee, -EReal.coe_mul]; norm_num

theorem ofBits_8th : Ideal.ofBits .f32 0x3E000000#32 = ((1 / 8 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

theorem div_real (x : ℝ) {y : ℝ} (h : y ≠ 0) : Ideal.div (x : EReal) (y : EReal) = ((x / y : ℝ) : EReal) := by
  rw [Ideal.div_coe h, ← EReal.coe_mul]; congr 1; ring

theorem rsqrt_real {x : ℝ} (h : 0 < x) : Ideal.rsqrt (x : EReal) = (((Real.sqrt x)⁻¹ : ℝ) : EReal) := by
  rw [Ideal.rsqrt_coe, if_neg (not_lt.mpr h.le), if_neg h.ne']

theorem meanSq_pos (x : Fin 64 → ℝ) : 0 < (∑ k, x k * x k) / 64 + eps :=
  add_pos_of_nonneg_of_pos (div_nonneg (Finset.sum_nonneg fun k _ => mul_self_nonneg _) (by norm_num)) eps_pos

/-- The weights' mean does not depend on a shift of the exponents. -/
theorem attR_shift {n : ℕ} (z v : Fin n → ℝ) (M : ℝ) :
    (∑ s, Real.exp (z s - M) * v s) / ∑ s, Real.exp (z s - M) = attR z v := by
  unfold attR
  simp only [sub_eq_add_neg, Real.exp_add]
  rw [← Finset.sum_mul, show (∑ s, Real.exp (z s) * Real.exp (-M) * v s) = (∑ s, Real.exp (z s) * v s) * Real.exp (-M) by
    rw [Finset.sum_mul]; exact Finset.sum_congr rfl fun s _ => by ring]
  exact mul_div_mul_right _ _ (Real.exp_pos _).ne'

theorem expSum_pos {n : ℕ} (z : Fin (n + 1) → ℝ) : 0 < ∑ s, Real.exp (z s) :=
  Finset.sum_pos (fun s _ => Real.exp_pos _) Finset.univ_nonempty

end Cert.AttnProof

end
-- ==== Proof.Attn.Angle.lean ====
module

public import proofs.«01_k».proof.Proof.Attn.Math

@[expose] public section

noncomputable section

open Idealize.ShloMosaic Idealize.ShloMosaic.TcCoe

namespace Cert.AttnProof

/-- The `k`-th of the sixteen frequencies. -/
def freq (k : Fin 16) : ℝ := (10000 : ℝ) ^ (-(k.val : ℝ) / 16)

/-- A token's row and column among the 64 × 32 tokens of the picture. -/
def rowR (n : Fin 2048) (k : Fin 16) : ℝ := ((n.val / 64 : ℕ) : ℝ) * freq k

def colR (n : Fin 2048) (k : Fin 16) : ℝ := ((n.val % 64 : ℕ) : ℝ) * freq k

/-- The frequency lane `d` is turned with. -/
def quart (d : Fin 64) : Fin 16 := ⟨d.val % 16, Nat.mod_lt _ (by decide)⟩

/-- The angle lane `d` of token `n` is turned by: the row's in the first half of the lanes, the column's in the second. -/
def ang (n : Fin 2048) (d : Fin 64) : ℝ := if d.val < 32 then rowR n (quart d) else colR n (quart d)

def cosR (n : Fin 2048) (d : Fin 64) : ℝ := Real.cos (ang n d)

/-- The sine with the sign of the turn. -/
def sinR (n : Fin 2048) (d : Fin 64) : ℝ := if d.val % 32 < 16 then -Real.sin (ang n d) else Real.sin (ang n d)

/-- A frequency as the programs compute it. -/
theorem freq_eq (k : Fin 16) : Ideal.pow (Ideal.ofBits .f32 1176256512#32)
    (Ideal.div (-(FloatOps.sitofp (F := Ideal) .f32 (BitVec.ofNat 32 k.val))) (Ideal.ofBits .f32 1098907648#32)) = (freq k : EReal) := by
  have e : (FloatOps.sitofp (F := Ideal) .f32 (BitVec.ofNat 32 k.val) : EReal) = ((k.val : ℝ) : EReal) := by
    show (((BitVec.ofNat 32 k.val).toInt : ℝ) : EReal) = _
    congr 1
    have : ∀ k : Fin 16, (BitVec.ofNat 32 k.val).toInt = (k.val : ℤ) := by decide
    rw [this k]; norm_cast
  rw [e, ofBits_10000, ofBits_16, ← EReal.coe_neg, Ideal.div_coe, ← EReal.coe_mul, Ideal.pow_coe_coe]
  · rw [freq, div_eq_mul_one_div (-(k.val : ℝ))]; rfl
  · norm_num

/-- An angle as the programs compute it. -/
theorem sitofp_small (x : BitVec 32) (n : ℕ) (h : x.toInt = n) : (FloatOps.sitofp (F := Ideal) .f32 x : EReal) = ((n : ℝ) : EReal) := by
  show ((x.toInt : ℝ) : EReal) = _
  rw [h]; norm_cast

end Cert.AttnProof

end
-- ==== Proof.Attn.Body.lean ====
module

public import proofs.«01_k».proof.Proof.Gen.AttnIdeal.Skeleton

@[expose] public section

noncomputable section

open Idealize.ShloMosaic Idealize.ShloMosaic.TcCoe

/-! The body's vector arithmetic for one block of 128 query rows, named part by part: the same operations in the same order
    as the printed body has them, which repeats them for every block and every pair of heads. -/

namespace Cert.AttnProof
open Cert.AttnIdeal Cert.AttnIdeal.Gen

/-- The floor of a lane or row number by 64. -/
def half64 (x : IVec S128x128 32) : IVec S128x128 32 :=
  select (andi (cmpi .ne (subi (extui 32 (cmpi .sgt x (broadcast S128x128 0#32)) natLt_1_32) (extui 32 (cmpi .slt x (broadcast S128x128 0#32)) natLt_1_32))
      (broadcast S128x128 (Scalar.subi (Scalar.extui (Scalar.cmpi .sgt 64#32 0#32)) (Scalar.extui (Scalar.cmpi .slt 64#32 0#32)))))
      (cmpi .ne (remsi x (broadcast S128x128 64#32)) (broadcast S128x128 0#32)))
    (subi (divsi x (broadcast S128x128 64#32)) (broadcast S128x128 1#32)) (divsi x (broadcast S128x128 64#32))

/-- One where row and lane lie in the same half of the 128 lanes, else zero. -/
def ones : FVec Ideal S128x128 .bf16 :=
  truncf .bf16 (sitofp (F := Ideal) .f32 (extui 32 (cmpi .eq (half64 (iota .tc S128x128 32 [0] iota_S128x128_d0_w32))
    (half64 (iota .tc S128x128 32 [1] iota_S128x128_d1_w32))) natLt_1_32)) bitsLt_bf16_f32

/-- The lane number modulo `p`, as the body computes it. -/
def laneMod (p : BitVec 32) : IVec S128x128 32 :=
  select (andi (xori (cmpi .slt (remsi (iota .tc S128x128 32 [1] iota_S128x128_d1_w32) (broadcast S128x128 (Scalar.select (Scalar.cmpi .eq p 0#32) 1#32 p))) (broadcast S128x128 0#32))
      (broadcastTo S128x128 (broadcast S128x128 (Scalar.cmpi .slt (Scalar.select (Scalar.cmpi .eq p 0#32) 1#32 p) 0#32)) broadcasts_S128x128_S128x128))
      (cmpi .ne (remsi (iota .tc S128x128 32 [1] iota_S128x128_d1_w32) (broadcast S128x128 (Scalar.select (Scalar.cmpi .eq p 0#32) 1#32 p))) (broadcast S128x128 0#32)))
    (addi (remsi (iota .tc S128x128 32 [1] iota_S128x128_d1_w32) (broadcast S128x128 (Scalar.select (Scalar.cmpi .eq p 0#32) 1#32 p)))
      (broadcast S128x128 (Scalar.select (Scalar.cmpi .eq p 0#32) 1#32 p)))
    (remsi (iota .tc S128x128 32 [1] iota_S128x128_d1_w32) (broadcast S128x128 (Scalar.select (Scalar.cmpi .eq p 0#32) 1#32 p)))

/-- The lanes whose number modulo 32 is below 16. -/
def low16 : IVec S128x128 1 := cmpi .slt (laneMod 32#32) (broadcast S128x128 16#32)

/-- The first 64 lanes. -/
def low64 : IVec S128x128 1 := cmpi .slt (laneMod 128#32) (broadcast S128x128 64#32)

/-- The last 64 lanes. -/
def high64 : IVec S128x128 1 := xori low64 (constantI S128x128 1 1#1)

/-- The root-mean-square norm of two heads side by side, with its gain. -/
def headNorm (x : FVec Ideal S128x128 .f32) (g : FVec Ideal S1x128 .f32) : FVec Ideal S128x128 .f32 :=
  mulf (mulf x (rsqrt (addf (mulf (addf
      (matmul dot_S128x128_S128x128_S128x128_1_0_0_1_n_n none (truncf .bf16 (mulf x x) bitsLt_bf16_f32) ones (constant S128x128 .f32 0x00000000#32))
      (matmul dot_S128x128_S128x128_S128x128_1_0_0_1_n_n none (truncf .bf16 (subf (mulf x x) (extf .f32 (truncf .bf16 (mulf x x) bitsLt_bf16_f32) bitsLt_bf16_f32)) bitsLt_bf16_f32)
        ones (constant S128x128 .f32 0x00000000#32)))
      (broadcast S128x128 (Scalar.ofBits .f32 0x3C800000#32))) (broadcast S128x128 (Scalar.ofBits .f32 0x358637BD#32)))))
    (broadcastTo S128x128 (shapeCast S1x128 g shapeCasts_S1x128_S1x128) broadcasts_S1x128_S128x128)

/-- The same norm over the context's keys. -/
def normCtx (x : FVec Ideal S256x128 .f32) (g : FVec Ideal S1x128 .f32) : FVec Ideal S256x128 .f32 :=
  mulf (mulf x (rsqrt (addf (mulf (addf
      (matmul dot_S256x128_S128x128_S256x128_1_0_0_1_n_n none (truncf .bf16 (mulf x x) bitsLt_bf16_f32) ones (constant S256x128 .f32 0x00000000#32))
      (matmul dot_S256x128_S128x128_S256x128_1_0_0_1_n_n none (truncf .bf16 (subf (mulf x x) (extf .f32 (truncf .bf16 (mulf x x) bitsLt_bf16_f32) bitsLt_bf16_f32)) bitsLt_bf16_f32)
        ones (constant S256x128 .f32 0x00000000#32)))
      (broadcast S256x128 (Scalar.ofBits .f32 0x3C800000#32))) (broadcast S256x128 (Scalar.ofBits .f32 0x358637BD#32)))))
    (broadcastTo S256x128 (shapeCast S1x128 g shapeCasts_S1x128_S1x128) broadcasts_S1x128_S256x128)

/-- The same norm over the latent keys. -/
def normLat (x : FVec Ideal S2048x128 .f32) (g : FVec Ideal S1x128 .f32) : FVec Ideal S2048x128 .f32 :=
  mulf (mulf x (rsqrt (addf (mulf (addf
      (matmul dot_S2048x128_S128x128_S2048x128_1_0_0_1_n_n none (truncf .bf16 (mulf x x) bitsLt_bf16_f32) ones (constant S2048x128 .f32 0x00000000#32))
      (matmul dot_S2048x128_S128x128_S2048x128_1_0_0_1_n_n none (truncf .bf16 (subf (mulf x x) (extf .f32 (truncf .bf16 (mulf x x) bitsLt_bf16_f32) bitsLt_bf16_f32)) bitsLt_bf16_f32)
        ones (constant S2048x128 .f32 0x00000000#32)))
      (broadcast S2048x128 (Scalar.ofBits .f32 0x3C800000#32))) (broadcast S2048x128 (Scalar.ofBits .f32 0x358637BD#32)))))
    (broadcastTo S2048x128 (shapeCast S1x128 g shapeCasts_S1x128_S1x128) broadcasts_S1x128_S2048x128)

/-- The lane number modulo `p`, over the latent keys. -/
def laneModLat (p : BitVec 32) : IVec S2048x128 32 :=
  select (andi (xori (cmpi .slt (remsi (iota .tc S2048x128 32 [1] iota_S2048x128_d1_w32) (broadcast S2048x128 (Scalar.select (Scalar.cmpi .eq p 0#32) 1#32 p))) (broadcast S2048x128 0#32))
      (broadcastTo S2048x128 (broadcast S2048x128 (Scalar.cmpi .slt (Scalar.select (Scalar.cmpi .eq p 0#32) 1#32 p) 0#32)) broadcasts_S2048x128_S2048x128))
      (cmpi .ne (remsi (iota .tc S2048x128 32 [1] iota_S2048x128_d1_w32) (broadcast S2048x128 (Scalar.select (Scalar.cmpi .eq p 0#32) 1#32 p))) (broadcast S2048x128 0#32)))
    (addi (remsi (iota .tc S2048x128 32 [1] iota_S2048x128_d1_w32) (broadcast S2048x128 (Scalar.select (Scalar.cmpi .eq p 0#32) 1#32 p)))
      (broadcast S2048x128 (Scalar.select (Scalar.cmpi .eq p 0#32) 1#32 p)))
    (remsi (iota .tc S2048x128 32 [1] iota_S2048x128_d1_w32) (broadcast S2048x128 (Scalar.select (Scalar.cmpi .eq p 0#32) 1#32 p)))

/-- The latent keys, normed and turned. -/
def keyLat (x : FVec Ideal S2048x128 .f32) (g : FVec Ideal S1x128 .f32) (cs sn : FVec Ideal S2048x128 .f32) : FVec Ideal S2048x128 .f32 :=
  addf (mulf (normLat x g) (shapeCast S2048x128 cs shapeCasts_S2048x128_S2048x128))
    (mulf (select (cmpi .slt (laneModLat 32#32) (broadcast S2048x128 16#32)) (dynamicRotate 1 112#32 none (normLat x g) rotates_S2048x128_d1)
      (dynamicRotate 1 16#32 none (normLat x g) rotates_S2048x128_d1)) (shapeCast S2048x128 sn shapeCasts_S2048x128_S2048x128))

/-- The rotary position encoding of two heads side by side. -/
def turned (x cs sn : FVec Ideal S128x128 .f32) : FVec Ideal S128x128 .f32 :=
  addf (mulf x (shapeCast S128x128 cs shapeCasts_S128x128_S128x128))
    (mulf (select low16 (dynamicRotate 1 112#32 none x rotates_S128x128_d1) (dynamicRotate 1 16#32 none x rotates_S128x128_d1))
      (shapeCast S128x128 sn shapeCasts_S128x128_S128x128))

/-- The queries of a pair of heads: normed, turned and scaled. -/
def query (x : FVec Ideal S128x128 .f32) (g : FVec Ideal S1x128 .f32) (cs sn : FVec Ideal S128x128 .f32) : FVec Ideal S128x128 .f32 :=
  mulf (turned (headNorm x g) cs sn) (broadcast S128x128 (Named.named κ "q_scale" 0x3E38AA3B#32))

/-- The other half's lanes. -/
def swap (x : FVec Ideal S128x128 .f32) : FVec Ideal S128x128 .f32 := dynamicRotate 1 64#32 none x rotates_S128x128_d1

/-- The two heads of a pair, one under the other, each over the first 64 lanes with zeros beside it. -/
def stackLow (q : FVec Ideal S128x128 .f32) : FVec Ideal S256x128 .f32 :=
  concatenate S256x128 0 [⟨S128x128, select low64 q (broadcast S128x128 (Scalar.ofBits .f32 0x00000000#32))⟩,
    ⟨S128x128, select low64 (swap q) (broadcast S128x128 (Scalar.ofBits .f32 0x00000000#32))⟩] concatenates_S128x128_S128x128_S256x128_d0

/-- The two heads of a pair, one under the other, each over the last 64 lanes with zeros beside it. -/
def stackHigh (q : FVec Ideal S128x128 .f32) : FVec Ideal S256x128 .f32 :=
  concatenate S256x128 0 [⟨S128x128, select high64 (swap q) (broadcast S128x128 (Scalar.ofBits .f32 0x00000000#32))⟩,
    ⟨S128x128, select high64 q (broadcast S128x128 (Scalar.ofBits .f32 0x00000000#32))⟩] concatenates_S128x128_S128x128_S256x128_d0

/-- The scores of stacked queries against all keys. -/
def scores (s : FVec Ideal S256x128 .f32) (k : FVec Ideal S2304x128 .bf16) : FVec Ideal S256x2304 .f32 :=
  matmul dot_S256x128_S2304x128_S256x2304_1_1_0_0_n_n none (truncf .bf16 s bitsLt_bf16_f32) k (constant S256x2304 .f32 0x00000000#32)

/-- The weights before they are divided by their sum. -/
def weights (z : FVec Ideal S256x2304 .f32) : FVec Ideal S256x2304 .f32 :=
  exp2 (subf z (broadcastTo S256x2304 (shapeCast S256x1 (multiReduction .maximumf [1] S256 z 0xFF800000#32 reduces_S256x2304_S256 (.inl rfl) rfl)
    shapeCasts_S256_S256x1) broadcasts_S256x1_S256x2304))

/-- The weighted mean of the values. -/
def mean (p : FVec Ideal S256x2304 .f32) (v : FVec Ideal S2304x128 .bf16) : FVec Ideal S256x128 .f32 :=
  divf (matmul dot_S256x2304_S2304x128_S256x128_1_0_0_1_n_n none (truncf .bf16 p bitsLt_bf16_f32) v (constant S256x128 .f32 0x00000000#32))
    (broadcastTo S256x128 (shapeCast S256x1 (multiReduction .add [1] S256 p 0x00000000#32 reduces_S256x2304_S256 (.inl rfl) rfl)
      shapeCasts_S256_S256x1) broadcasts_S256x1_S256x128)

/-- The attention of stacked queries. -/
def attend (s : FVec Ideal S256x128 .f32) (k v : FVec Ideal S2304x128 .bf16) : FVec Ideal S256x128 .f32 :=
  mean (weights (scores s k)) v

/-- What is stored for a pair of heads that reads the first head of keys and values. -/
def pieceLow (q : FVec Ideal S128x128 .f32) (k v : FVec Ideal S2304x128 .bf16) : FVec Ideal S128x128 .bf16 :=
  truncf .bf16 (select low64 (extractStridedSlice S128x128 ![0, 0] (attend (stackLow q) k v) slices_S256x128_o0_0_S128x128)
    (swap (extractStridedSlice S128x128 ![128, 0] (attend (stackLow q) k v) slices_S256x128_o128_0_S128x128))) bitsLt_bf16_f32

/-- What is stored for a pair of heads that reads the second head of keys and values. -/
def pieceHigh (q : FVec Ideal S128x128 .f32) (k v : FVec Ideal S2304x128 .bf16) : FVec Ideal S128x128 .bf16 :=
  truncf .bf16 (select low64 (swap (extractStridedSlice S128x128 ![0, 0] (attend (stackHigh q) k v) slices_S256x128_o0_0_S128x128))
    (extractStridedSlice S128x128 ![128, 0] (attend (stackHigh q) k v) slices_S256x128_o128_0_S128x128)) bitsLt_bf16_f32

end Cert.AttnProof

end
-- ==== Proof.Attn.Read.lean ====
module

public import proofs.«01_k».proof.Proof.Attn.Body
public import proofs.«01_k».proof.Proof.Attn.Math
public import Idealize.ShloMosaic.Lib.KernelVsHost

@[expose] public section

set_option maxRecDepth 16384

noncomputable section

open Idealize.ShloMosaic Idealize.ShloMosaic.TcCoe

/-! The body's vector arithmetic read at an index, over blocks whose entries are real. -/

namespace Cert.AttnProof
open Cert.AttnIdeal Cert.AttnIdeal.Gen

theorem low16_apply (r c : Fin 128) : low16 (ix2 r c) = if c.val % 32 < 16 then 1#1 else 0#1 := by
  pointwise [low16, laneMod]
  revert c; decide +kernel

theorem low64_apply (r c : Fin 128) : low64 (ix2 r c) = if c.val < 64 then 1#1 else 0#1 := by
  pointwise [low64, laneMod]
  revert c; decide +kernel

theorem high64_apply (r c : Fin 128) : high64 (ix2 r c) = if c.val < 64 then 0#1 else 1#1 := by
  pointwise [high64]
  rw [low64_apply]
  split <;> rfl

/-- The word of `half64` at a number below 128. -/
theorem half64_apply (x : IVec S128x128 32) (n : Fin 128) (i : S128x128.Idx) (h : x i = BitVec.ofNat 32 n) :
    half64 x i = BitVec.ofNat 32 (n.val / 64) := by
  pointwise [half64]
  rw [h]
  clear h
  revert n; decide +kernel

theorem ones_apply (a b : Fin 2) (d e : Fin 64) (r c : Fin 128) (hr : r = lane a d) (hc : c = lane b e) :
    ones (ix2 r c) = if a = b then 1 else 0 := by
  have hw : ∀ a b : Fin 2, IntOp.cmpi .eq (BitVec.ofNat 32 a.val) (BitVec.ofNat 32 b.val) = if a = b then 1#1 else 0#1 := by
    decide +kernel
  have ha : r.val / 64 = a.val := by subst hr; simp only [lane]; omega
  have hb : c.val / 64 = b.val := by subst hc; simp only [lane]; omega
  have e0 := half64_apply (iota .tc S128x128 32 [0] iota_S128x128_d0_w32) r (ix2 r c) (by pointwise)
  have e1 := half64_apply (iota .tc S128x128 32 [1] iota_S128x128_d1_w32) c (ix2 r c) (by pointwise)
  pointwise [ones]
  rw [e0, e1, ha, hb, hw]
  split <;> simp [FloatOps.sitofp]

/-- A row normed, at a lane of half `a`: the sums over all lanes count only the half's own. -/
theorem norm_row (x : Fin 128 → EReal) (g : EReal) (a : Fin 2) (X G : Fin 64 → ℝ) (d : Fin 64)
    (hx : ∀ d, x (lane a d) = (X d : EReal)) (hg : g = (G d : EReal)) :
    x (lane a d) * Ideal.rsqrt ((∑ k, x k * x k * ones (ix2 k (lane a d)) + ∑ k, (x k * x k - x k * x k) * ones (ix2 k (lane a d)))
      * Ideal.ofBits .f32 0x3C800000#32 + Ideal.ofBits .f32 0x358637BD#32) * g = (normR X G d : EReal) := by
  have s1 : ∑ k, x k * x k * ones (ix2 k (lane a d)) = ((∑ k, X k * X k : ℝ) : EReal) := by
    rw [sum_half _ a fun b hb e => by rw [ones_apply b a e d _ _ rfl rfl, if_neg hb, mul_zero], coe_sum]
    refine Finset.sum_congr rfl fun e _ => ?_
    rw [ones_apply a a e d _ _ rfl rfl, if_pos rfl, mul_one, hx, EReal.coe_mul]
  have s2 : ∑ k, (x k * x k - x k * x k) * ones (ix2 k (lane a d)) = 0 := by
    rw [sum_half _ a fun b hb e => by rw [ones_apply b a e d _ _ rfl rfl, if_neg hb, mul_zero]]
    refine Finset.sum_eq_zero fun e _ => ?_
    rw [hx, ← EReal.coe_mul, ← EReal.coe_sub, sub_self, EReal.coe_zero, zero_mul]
  rw [s1, s2, add_zero, ofBits_64th, ofBits_eps, ← EReal.coe_mul, ← EReal.coe_add, mul_one_div, rsqrt_real (meanSq_pos X), hx, hg,
    ← EReal.coe_mul, ← EReal.coe_mul, normR]

/-- The normed row at a lane of half `a`. -/
theorem headNorm_apply (x : FVec Ideal S128x128 .f32) (g : FVec Ideal S1x128 .f32) (r : Fin 128) (a : Fin 2) (X G : Fin 64 → ℝ)
    (hx : ∀ d, x (ix2 r (lane a d)) = (X d : EReal)) (hg : ∀ d, g (ix2 0 (lane a d)) = (G d : EReal)) (d : Fin 64) :
    headNorm x g (ix2 r (lane a d)) = (normR X G d : EReal) := by
  pointwise [headNorm]
  exact norm_row (fun c => x (ix2 r c)) _ a X G d hx (hg d)

/-- A row turned, at a lane of half `a`: `w` says which way the pairing lies. -/
theorem turn_row (x : Fin 128 → EReal) (cs sn : EReal) (w : BitVec 1) (a : Fin 2) (X C S : Fin 64 → ℝ) (d : Fin 64)
    (hw : w = if (lane a d).val % 32 < 16 then 1#1 else 0#1)
    (hx : ∀ d, x (lane a d) = (X d : EReal)) (hc : cs = (C d : EReal)) (hs : sn = (S d : EReal)) :
    x (lane a d) * cs + Scalar.select w (x ⟨((lane a d).val + 128 - 112) % 128, Nat.mod_lt _ (by decide)⟩)
      (x ⟨((lane a d).val + 128 - 16) % 128, Nat.mod_lt _ (by decide)⟩) * sn = (turnR X C S d : EReal) := by
  have hp : Scalar.select w (x ⟨((lane a d).val + 128 - 112) % 128, Nat.mod_lt _ (by decide)⟩)
      (x ⟨((lane a d).val + 128 - 16) % 128, Nat.mod_lt _ (by decide)⟩) = (X (partner d) : EReal) := by
    rw [← hx, hw]
    have hm : (lane a d).val % 32 = d.val % 32 := by simp only [lane]; omega
    rw [hm]
    by_cases h : d.val % 32 < 16
    · rw [if_pos h]
      refine congrArg x (Fin.ext ?_)
      simp only [lane, partner, if_pos h]
      omega
    · rw [if_neg h]
      refine congrArg x (Fin.ext ?_)
      simp only [lane, partner, if_neg h]
      omega
  rw [hp, hx, hc, hs, ← EReal.coe_mul, ← EReal.coe_mul, ← EReal.coe_add, turnR]

/-- The turned row at a lane of half `a`. -/
theorem turned_apply (x cs sn : FVec Ideal S128x128 .f32) (r : Fin 128) (a : Fin 2) (X C S : Fin 64 → ℝ)
    (hx : ∀ d, x (ix2 r (lane a d)) = (X d : EReal)) (hc : ∀ d, cs (ix2 r (lane a d)) = (C d : EReal))
    (hs : ∀ d, sn (ix2 r (lane a d)) = (S d : EReal)) (d : Fin 64) :
    turned x cs sn (ix2 r (lane a d)) = (turnR X C S d : EReal) := by
  pointwise [turned]
  exact turn_row (fun c => x (ix2 r c)) _ _ _ a X C S d (low16_apply r _) hx (hc d) (hs d)

/-- The context keys' norm. -/
theorem normCtx_apply (x : FVec Ideal S256x128 .f32) (g : FVec Ideal S1x128 .f32) (r : Fin 256) (a : Fin 2) (X G : Fin 64 → ℝ)
    (hx : ∀ d, x (ix2 r (lane a d)) = (X d : EReal)) (hg : ∀ d, g (ix2 0 (lane a d)) = (G d : EReal)) (d : Fin 64) :
    normCtx x g (ix2 r (lane a d)) = (normR X G d : EReal) := by
  pointwise [normCtx]
  exact norm_row (fun c => x (ix2 r c)) _ a X G d hx (hg d)

/-- The latent keys' norm. -/
theorem normLat_apply (x : FVec Ideal S2048x128 .f32) (g : FVec Ideal S1x128 .f32) (r : Fin 2048) (a : Fin 2) (X G : Fin 64 → ℝ)
    (hx : ∀ d, x (ix2 r (lane a d)) = (X d : EReal)) (hg : ∀ d, g (ix2 0 (lane a d)) = (G d : EReal)) (d : Fin 64) :
    normLat x g (ix2 r (lane a d)) = (normR X G d : EReal) := by
  pointwise [normLat]
  exact norm_row (fun c => x (ix2 r c)) _ a X G d hx (hg d)

/-- The latent keys turned. -/
theorem keyLat_apply (x : FVec Ideal S2048x128 .f32) (g : FVec Ideal S1x128 .f32) (cs sn : FVec Ideal S2048x128 .f32) (r : Fin 2048)
    (a : Fin 2) (X G C S : Fin 64 → ℝ) (hx : ∀ d, x (ix2 r (lane a d)) = (X d : EReal)) (hg : ∀ d, g (ix2 0 (lane a d)) = (G d : EReal))
    (hc : ∀ d, cs (ix2 r (lane a d)) = (C d : EReal)) (hs : ∀ d, sn (ix2 r (lane a d)) = (S d : EReal)) (d : Fin 64) :
    keyLat x g cs sn (ix2 r (lane a d)) = (turnR (normR X G) C S d : EReal) := by
  pointwise [keyLat]
  refine turn_row (fun c => normLat x g (ix2 r c)) _ _ _ a (normR X G) C S d ?_ (normLat_apply x g r a X G hx hg) (hc d) (hs d)
  generalize lane a d = c
  pointwise [laneModLat]
  revert c; decide +kernel

/-- The scale of the scores times log₂ e. -/
def qs : ℝ := 1 / 8 * (Real.log 2)⁻¹

/-- The query of a head, at a lane. -/
theorem query_apply (x : FVec Ideal S128x128 .f32) (g : FVec Ideal S1x128 .f32) (cs sn : FVec Ideal S128x128 .f32) (r : Fin 128)
    (a : Fin 2) (X G C S : Fin 64 → ℝ) (hx : ∀ d, x (ix2 r (lane a d)) = (X d : EReal)) (hg : ∀ d, g (ix2 0 (lane a d)) = (G d : EReal))
    (hc : ∀ d, cs (ix2 r (lane a d)) = (C d : EReal)) (hs : ∀ d, sn (ix2 r (lane a d)) = (S d : EReal)) (d : Fin 64) :
    query x g cs sn (ix2 r (lane a d)) = ((turnR (normR X G) C S d * qs : ℝ) : EReal) := by
  pointwise [query]
  rw [turned_apply _ cs sn r a (normR X G) C S (headNorm_apply x g r a X G hx hg) hc hs, EReal.coe_mul]
  rfl

/-- Row `r` of head `a` among the stacked rows. -/
def row2 (a : Fin 2) (r : Fin 128) : Fin 256 := ⟨128 * a.val + r.val, by omega⟩

theorem low_lane (r : Fin 128) (b : Fin 2) (d : Fin 64) : low64 (ix2 r (lane b d)) = if b = 0 then 1#1 else 0#1 := by
  rw [low64_apply]
  obtain rfl | rfl : b = 0 ∨ b = 1 := by omega
  · rw [if_pos (by simp only [lane, Fin.val_zero]; omega), if_pos rfl]
  · rw [if_neg (by simp only [lane, Fin.val_one]; omega), if_neg (by decide)]

theorem high_lane (r : Fin 128) (b : Fin 2) (d : Fin 64) : high64 (ix2 r (lane b d)) = if b = 0 then 0#1 else 1#1 := by
  rw [high64_apply]
  obtain rfl | rfl : b = 0 ∨ b = 1 := by omega
  · rw [if_pos (by simp only [lane, Fin.val_zero]; omega), if_pos rfl]
  · rw [if_neg (by simp only [lane, Fin.val_one]; omega), if_neg (by decide)]

theorem swap_apply (x : FVec Ideal S128x128 .f32) (r : Fin 128) (a : Fin 2) (d : Fin 64) :
    swap x (ix2 r (lane a d)) = x (ix2 r (lane (1 - a) d)) := by
  pointwise [swap]
  refine congrArg (fun c => x (ix2 r c)) (Fin.ext ?_)
  obtain rfl | rfl : a = 0 ∨ a = 1 := by omega
  · show (64 * 0 + d.val + 128 - 64) % 128 = 64 * 1 + d.val
    omega
  · show (64 * 1 + d.val + 128 - 64) % 128 = 64 * 0 + d.val
    omega

/-- The stacked queries: over half `b` the head's own lanes, zero beside it. -/
def stack (b : Fin 2) (q : FVec Ideal S128x128 .f32) : FVec Ideal S256x128 .f32 := if b = 0 then stackLow q else stackHigh q

theorem stack_apply (b a : Fin 2) (q : FVec Ideal S128x128 .f32) (r : Fin 128) (e : Fin 2) (d : Fin 64) :
    stack b q (ix2 (row2 a r) (lane e d)) = if e = b then q (ix2 r (lane a d)) else 0 := by
  have row0 : ∀ h : (row2 0 r).val < 128, (⟨(row2 0 r).val, h⟩ : Fin 128) = r := fun h => Fin.ext (by simp [row2])
  have row1 : ∀ h : (row2 1 r).val - 128 < 128, (⟨(row2 1 r).val - 128, h⟩ : Fin 128) = r := fun h => Fin.ext (by simp [row2])
  obtain rfl | rfl : b = 0 ∨ b = 1 := by omega
  · obtain rfl | rfl : a = 0 ∨ a = 1 := by omega
    · show stackLow q _ = _
      pointwise [stackLow]
      rw [dif_pos (by simp only [row2, Fin.val_zero]; omega), row0, low_lane]
      split
      · next h => subst h; rfl
      · rfl
    · show stackLow q _ = _
      pointwise [stackLow]
      rw [dif_neg (by simp only [row2, Fin.val_one]; omega), row1, low_lane]
      split
      · next h => subst h; exact swap_apply q r 0 d
      · rfl
  · obtain rfl | rfl : a = 0 ∨ a = 1 := by omega
    · show stackHigh q _ = _
      pointwise [stackHigh]
      rw [dif_pos (by simp only [row2, Fin.val_zero]; omega), row0, high_lane]
      obtain rfl | rfl : e = 0 ∨ e = 1 := by omega
      · rfl
      · exact swap_apply q r 1 d
    · show stackHigh q _ = _
      pointwise [stackHigh]
      rw [dif_neg (by simp only [row2, Fin.val_one]; omega), row1, high_lane]
      obtain rfl | rfl : e = 0 ∨ e = 1 := by omega
      · rfl
      · rfl

/-- A stacked row's scores are the head's own. -/
theorem scores_apply (b a : Fin 2) (q : FVec Ideal S128x128 .f32) (k : FVec Ideal S2304x128 .bf16) (r : Fin 128) (Q : Fin 64 → ℝ)
    (K : Fin 2304 → Fin 64 → ℝ) (hq : ∀ d, q (ix2 r (lane a d)) = (Q d : EReal)) (hk : ∀ s d, k (ix2 s (lane b d)) = (K s d : EReal))
    (s : Fin 2304) : scores (stack b q) k (ix2 (row2 a r) s) = ((∑ d, Q d * K s d : ℝ) : EReal) := by
  pointwise [scores]
  rw [sum_half _ b fun e he d => by rw [stack_apply, if_neg he, zero_mul], coe_sum]
  refine Finset.sum_congr rfl fun d _ => ?_
  rw [stack_apply, if_pos rfl, hq, hk, EReal.coe_mul]

theorem exp2_real (x : ℝ) : FloatOps.exp2 (F := Ideal) (φ := .f32) (x : EReal) = ((Real.exp (x * Real.log 2) : ℝ) : EReal) := by
  show Ideal.exp2 (x : EReal) = _
  rw [Ideal.exp2_coe, Real.rpow_eq_pow, Real.rpow_def_of_pos (by norm_num), mul_comm]

/-- The attention of one row: the values' mean under the weights `exp`. -/
theorem attend_apply (s : FVec Ideal S256x128 .f32) (k v : FVec Ideal S2304x128 .bf16) (r : Fin 256) (c : Fin 128) (z w : Fin 2304 → ℝ)
    (hz : ∀ i, scores s k (ix2 r i) = (z i : EReal)) (hv : ∀ i, v (ix2 i c) = (w i : EReal)) :
    attend s k v (ix2 r c) = (attR (fun i => z i * Real.log 2) w : EReal) := by
  obtain ⟨M, hM⟩ := fold_max z
  have hw : ∀ i, weights (scores s k) (ix2 r i) = ((Real.exp (z i * Real.log 2 - M * Real.log 2) : ℝ) : EReal) := fun i => by
    pointwise [weights]
    simp only [hz, ofBits_bot]
    rw [hM, ← EReal.coe_sub, exp2_real, sub_mul]
  pointwise [attend, mean]
  simp only [hw, hv, ← EReal.coe_mul, ← coe_sum]
  rw [div_real _ (expSum_pos _).ne', attR_shift]

/-- What is stored for a pair of heads that reads head `b` of keys and values. -/
def piece (b : Fin 2) (q : FVec Ideal S128x128 .f32) (k v : FVec Ideal S2304x128 .bf16) : FVec Ideal S128x128 .bf16 :=
  if b = 0 then pieceLow q k v else pieceHigh q k v

/-- Each half of the stored piece is its head's attention, at the lanes of the head of keys and values. -/
theorem piece_apply (b a : Fin 2) (q : FVec Ideal S128x128 .f32) (k v : FVec Ideal S2304x128 .bf16) (r : Fin 128) (d : Fin 64) :
    piece b q k v (ix2 r (lane a d)) = attend (stack b q) k v (ix2 (row2 a r) (lane b d)) := by
  have row0 : ∀ h : r.val < 256, (⟨r.val, h⟩ : Fin 256) = row2 0 r := fun h => Fin.ext (by simp [row2])
  have row1 : ∀ h : 128 + r.val < 256, (⟨128 + r.val, h⟩ : Fin 256) = row2 1 r := fun h => Fin.ext (by simp [row2])
  obtain rfl | rfl : b = 0 ∨ b = 1 := by omega
  · show pieceLow q k v _ = attend (stackLow q) k v _
    pointwise [pieceLow]
    rw [low_lane]
    obtain rfl | rfl : a = 0 ∨ a = 1 := by omega
    · rw [row0]; rfl
    · rw [swap_apply]
      pointwise
      rw [row1]; rfl
  · show pieceHigh q k v _ = attend (stackHigh q) k v _
    pointwise [pieceHigh]
    rw [low_lane]
    obtain rfl | rfl : a = 0 ∨ a = 1 := by omega
    · rw [swap_apply]
      pointwise
      rw [row0]
    · rw [row1]; rfl

/-- A head's output row, from its row of the projection, the gains, the angles and its keys and values. -/
def headR (X G C S : Fin 64 → ℝ) (K V : Fin 2304 → Fin 64 → ℝ) (d : Fin 64) : ℝ :=
  attR (fun s => (∑ e, turnR (normR X G) C S e * K s e) / 8) fun s => V s d

theorem stored_apply (b a : Fin 2) (x : FVec Ideal S128x128 .f32) (g : FVec Ideal S1x128 .f32) (cs sn : FVec Ideal S128x128 .f32)
    (k v : FVec Ideal S2304x128 .bf16) (r : Fin 128) (X G C S : Fin 64 → ℝ) (K V : Fin 2304 → Fin 64 → ℝ)
    (hx : ∀ d, x (ix2 r (lane a d)) = (X d : EReal)) (hg : ∀ d, g (ix2 0 (lane a d)) = (G d : EReal))
    (hc : ∀ d, cs (ix2 r (lane a d)) = (C d : EReal)) (hs : ∀ d, sn (ix2 r (lane a d)) = (S d : EReal))
    (hk : ∀ s d, k (ix2 s (lane b d)) = (K s d : EReal)) (hv : ∀ s d, v (ix2 s (lane b d)) = (V s d : EReal)) (d : Fin 64) :
    piece b (query x g cs sn) k v (ix2 r (lane a d)) = (headR X G C S K V d : EReal) := by
  rw [piece_apply, attend_apply _ k v _ _ _ _ (scores_apply b a _ k r _ K (query_apply x g cs sn r a X G C S hx hg hc hs) hk)
    fun i => hv i d, headR]
  congr 2
  funext s
  rw [Finset.sum_mul, Finset.sum_div]
  refine Finset.sum_congr rfl fun e _ => ?_
  have := Real.log_pos (by norm_num : (1 : ℝ) < 2)
  unfold qs
  field_simp

/-- The head of keys and values that output lane `j` reads. -/
def kvHead (j : Fin 512) : Fin 2 := ⟨j.val / 256, by omega⟩

/-- One block of 512 query rows, all eight heads side by side. -/
def blockR (X : Fin 512 → Fin 512 → ℝ) (G : Fin 64 → ℝ) (C S : Fin 512 → Fin 64 → ℝ) (K V : Fin 2 → Fin 2304 → Fin 64 → ℝ)
    (i j : Fin 512) : ℝ :=
  headR (fun e => X i ⟨64 * (j.val / 64) + e.val, by omega⟩) G (C i) (S i) (K (kvHead j)) (V (kvHead j)) ⟨j.val % 64, Nat.mod_lt _ (by decide)⟩

/-- What is stored for 128 rows from row `o` and a pair of heads at lane `p`, reading head `b` of keys and values. -/
def tile (b : Fin 2) (x : FVec Ideal S512x512 .f32) (g : FVec Ideal S1x128 .f32) (cs sn : FVec Ideal S512x128 .f32)
    (k v : FVec Ideal S2304x128 .bf16) (o p : ℕ) (h1 : ∀ a, (![o, 0] : Fin 2 → ℕ) a + S128x512.size a ≤ S512x512.size a)
    (h2 : ∀ a, (![o, 0] : Fin 2 → ℕ) a + S128x128.size a ≤ S512x128.size a) (h3 : S128x512.Slices ![0, p] S128x128) :
    FVec Ideal S128x128 .bf16 :=
  piece b (query (extractStridedSlice S128x128 ![0, p] (fun y : S128x512.Idx => x ((Rect.unit (s := S512x512) ![o, 0] S128x512.size h1).idx y)) h3) g
    (fun y => cs ((Rect.unit (s := S512x128) ![o, 0] S128x128.size h2).idx y)) (fun y => sn ((Rect.unit (s := S512x128) ![o, 0] S128x128.size h2).idx y))) k v

theorem tile_apply (b : Fin 2) (x : FVec Ideal S512x512 .f32) (g : FVec Ideal S1x128 .f32) (cs sn : FVec Ideal S512x128 .f32)
    (k v : FVec Ideal S2304x128 .bf16) (X : Fin 512 → Fin 512 → ℝ) (G : Fin 64 → ℝ) (C S : Fin 512 → Fin 64 → ℝ)
    (K V : Fin 2 → Fin 2304 → Fin 64 → ℝ) (hx : ∀ i j, x (ix2 i j) = (X i j : EReal)) (hg : ∀ a d, g (ix2 0 (lane a d)) = (G d : EReal))
    (hc : ∀ i a d, cs (ix2 i (lane a d)) = (C i d : EReal)) (hs : ∀ i a d, sn (ix2 i (lane a d)) = (S i d : EReal))
    (hk : ∀ s a d, k (ix2 s (lane a d)) = (K a s d : EReal)) (hv : ∀ s a d, v (ix2 s (lane a d)) = (V a s d : EReal))
    (o p : ℕ) (h1 : ∀ a, (![o, 0] : Fin 2 → ℕ) a + S128x512.size a ≤ S512x512.size a)
    (h2 : ∀ a, (![o, 0] : Fin 2 → ℕ) a + S128x128.size a ≤ S512x128.size a) (h3 : S128x512.Slices ![0, p] S128x128)
    (hp : p % 128 = 0) (hb : p / 256 = b.val) (y : S128x128.Idx) (i j : Fin 512) (ei : i.val = o + (y 0).val) (ej : j.val = p + (y 1).val) :
    tile b x g cs sn k v o p h1 h2 h3 y = (blockR X G C S K V i j : EReal) := by
  obtain ⟨r, l, rfl⟩ : ∃ (r l : Fin 128), y = ix2 r l := ⟨y 0, y 1, by funext a; fin_cases a <;> rfl⟩
  have ei : i.val = o + r.val := ei
  have ej : j.val = p + l.val := ej
  obtain ⟨a, d, rfl⟩ : ∃ a d, l = lane a d :=
    ⟨⟨l.val / 64, by omega⟩, ⟨l.val % 64, Nat.mod_lt _ (by decide)⟩, Fin.ext (by simp only [lane]; omega)⟩
  have ea : (lane a d).val = 64 * a.val + d.val := rfl
  have hr : ∀ (n : ℕ) (h : n < 512), n = o + r.val → (⟨n, h⟩ : Fin 512) = i := fun n h e => Fin.ext (by show n = i.val; omega)
  refine (stored_apply b a _ g _ _ k v r (fun e => X i ⟨64 * (j.val / 64) + e.val, by omega⟩) G (C i) (S i) (K b) (V b)
    (fun e => ?_) (hg a) (fun e => ?_) (fun e => ?_) (fun s e => hk s b e) (fun s e => hv s b e) d).trans ?_
  · refine (congrArg x (funext fun w => ?_)).trans (hx i _)
    fin_cases w
    · refine Fin.ext ?_
      show o + 1 * (0 + r.val) = i.val
      omega
    · refine Fin.ext ?_
      show 0 + 1 * (p + (64 * a.val + e.val)) = 64 * (j.val / 64) + e.val
      omega
  · refine (congrArg cs (funext fun w => ?_)).trans (hc i a e)
    fin_cases w
    · exact Fin.ext (show o + 1 * r.val = i.val by omega)
    · exact Fin.ext (show 0 + 1 * (64 * a.val + e.val) = 64 * a.val + e.val by omega)
  · refine (congrArg sn (funext fun w => ?_)).trans (hs i a e)
    fin_cases w
    · exact Fin.ext (show o + 1 * r.val = i.val by omega)
    · exact Fin.ext (show 0 + 1 * (64 * a.val + e.val) = 64 * a.val + e.val by omega)
  · have e1 : kvHead j = b := Fin.ext (by show j.val / 256 = b.val; omega)
    have e2 : (⟨j.val % 64, Nat.mod_lt _ (by decide)⟩ : Fin 64) = d := Fin.ext (by show j.val % 64 = d.val; omega)
    rw [blockR, e1, e2]

end Cert.AttnProof

end
-- ==== Proof.Attn.Scratch.lean ====
module

public import proofs.«01_k».proof.Proof.Gen.AttnIdeal.Value
public import proofs.«01_k».proof.Proof.Attn.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe

namespace Cert.AttnProof
open Cert.AttnIdeal Cert.AttnIdeal.Gen

variable (m : (ℓ : Loc nD τ sig) → Buf (Elt Ideal) ℓ)

/-- The keys of one block of the batch: the context's normed, the latents' normed and turned. -/
def keysR (Xc : Fin 256 → Fin 2 → Fin 64 → ℝ) (Xl : Fin 2048 → Fin 2 → Fin 64 → ℝ) (G : Fin 64 → ℝ) (C S : Fin 2048 → Fin 64 → ℝ)
    (a : Fin 2) (s : Fin 2304) : Fin 64 → ℝ :=
  if h : s.val < 256 then normR (Xc ⟨s.val, h⟩ a) G
  else turnR (normR (Xl ⟨s.val - 256, by omega⟩ a) G) (C ⟨s.val - 256, by omega⟩) (S ⟨s.val - 256, by omega⟩)

/-- The values of one block of the batch. -/
def valsR (Xc : Fin 256 → Fin 2 → Fin 64 → ℝ) (Xl : Fin 2048 → Fin 2 → Fin 64 → ℝ) (a : Fin 2) (s : Fin 2304) : Fin 64 → ℝ :=
  if h : s.val < 256 then Xc ⟨s.val, h⟩ a else Xl ⟨s.val - 256, by omega⟩ a

set_option maxHeartbeats 1000000 in
theorem key_A (c : Dev nD) (t : Fin cfg0.N) (h : t.val % 4 = 0) (Xc : Fin 256 → Fin 2 → Fin 64 → ℝ) (Xl : Fin 2048 → Fin 2 → Fin 64 → ℝ)
    (G : Fin 64 → ℝ) (C S : Fin 2048 → Fin 64 → ℝ) (hx : ∀ i a d, iblk m c 1 t (ix2 i (lane a d)) = (Xc i a d : EReal))
    (hl : ∀ i a d, iblk m c 2 t (ix2 i (lane a d)) = (Xl i a d : EReal)) (hg : ∀ a d, iblk m c 10 t (ix2 0 (lane a d)) = (G d : EReal))
    (hc : ∀ i a d, iblk m c 7 t (ix2 i (lane a d)) = (C i d : EReal)) (hs : ∀ i a d, iblk m c 8 t (ix2 i (lane a d)) = (S i d : EReal))
    (s : Fin 2304) (a : Fin 2) (d : Fin 64) :
    (outsAt0 m c t.val t.isLt).2.1 (ix2 s (lane a d)) = (keysR Xc Xl G C S a s d : EReal) := by
  have hk := congrArg (fun z => z.2.1) (outsAt0_A m c t h)
  frame_open at hk
  frame_out at hk
  refine (congrFun hk _).trans ?_
  clear hk
  canon_tiles y hy using View.cover_of_tiledBy _ ![256, 128] (by sl_kernel_rfl) _
  · obtain ⟨r, l, rfl⟩ : ∃ (r : Fin 2048) (l : Fin 128), y = ix2 r l := ⟨y 0, y 1, by funext a; fin_cases a <;> rfl⟩
    obtain rfl : lane a d = l := Fin.ext hy1
    have e : s.val = 256 + r.val := hy0
    have e' : (⟨s.val - 256, by omega⟩ : Fin 2048) = r := Fin.ext (by show s.val - 256 = r.val; omega)
    refine Eq.trans (b := keyLat (iblk m c 2 t) (iblk m c 10 t) (iblk m c 7 t) (iblk m c 8 t) (ix2 r (lane a d))) ?_
      ((keyLat_apply _ _ _ _ r a (Xl r a) G (C r) (S r) (hl r a) (hg a) (hc r a) (hs r a) d).trans ?_)
    · clear hx hl hg hc hs
      rw [shapeCast_self]
      rfl
    · rw [keysR, dif_neg (by omega), e']
  · obtain ⟨r, l, rfl⟩ : ∃ (r : Fin 256) (l : Fin 128), y = ix2 r l := ⟨y 0, y 1, by funext a; fin_cases a <;> rfl⟩
    obtain rfl : lane a d = l := Fin.ext hy1
    have e : s.val = r.val := hy0
    have e' : (⟨s.val, by omega⟩ : Fin 256) = r := Fin.ext e
    refine Eq.trans (b := normCtx (iblk m c 1 t) (iblk m c 10 t) (ix2 r (lane a d))) ?_
      ((normCtx_apply _ _ r a (Xc r a) G (hx r a) (hg a) d).trans ?_)
    · clear hx hl hg hc hs
      rw [shapeCast_self]
      rfl
    · rw [keysR, dif_pos (by omega), e']

theorem val_A (c : Dev nD) (t : Fin cfg0.N) (h : t.val % 4 = 0) (Xc : Fin 256 → Fin 2 → Fin 64 → ℝ) (Xl : Fin 2048 → Fin 2 → Fin 64 → ℝ)
    (hx : ∀ i a d, iblk m c 3 t (ix2 i (lane a d)) = (Xc i a d : EReal)) (hl : ∀ i a d, iblk m c 4 t (ix2 i (lane a d)) = (Xl i a d : EReal))
    (s : Fin 2304) (a : Fin 2) (d : Fin 64) :
    (outsAt0 m c t.val t.isLt).2.2 (ix2 s (lane a d)) = (valsR Xc Xl a s d : EReal) := by
  have hk := congrArg (fun z => z.2.2) (outsAt0_A m c t h)
  frame_open at hk
  frame_out at hk
  refine (congrFun hk _).trans ?_
  clear hk
  canon_tiles y hy using View.cover_of_tiledBy _ ![256, 128] (by sl_kernel_rfl) _
  · obtain ⟨r, l, rfl⟩ : ∃ (r : Fin 2048) (l : Fin 128), y = ix2 r l := ⟨y 0, y 1, by funext a; fin_cases a <;> rfl⟩
    obtain rfl : lane a d = l := Fin.ext hy1
    have e : s.val = 256 + r.val := hy0
    have e' : (⟨s.val - 256, by omega⟩ : Fin 2048) = r := Fin.ext (by show s.val - 256 = r.val; omega)
    refine Eq.trans (b := iblk m c 4 t (ix2 r (lane a d))) ?_ ((hl r a d).trans ?_)
    · rw [shapeCast_self]
      rfl
    · rw [valsR, dif_neg (by omega), e']
  · obtain ⟨r, l, rfl⟩ : ∃ (r : Fin 256) (l : Fin 128), y = ix2 r l := ⟨y 0, y 1, by funext a; fin_cases a <;> rfl⟩
    obtain rfl : lane a d = l := Fin.ext hy1
    have e : s.val = r.val := hy0
    have e' : (⟨s.val, by omega⟩ : Fin 256) = r := Fin.ext e
    refine Eq.trans (b := iblk m c 3 t (ix2 r (lane a d))) ?_ ((hx r a d).trans ?_)
    · rw [shapeCast_self]
      rfl
    · rw [valsR, dif_pos (by omega), e']

end Cert.AttnProof

end
-- ==== Proof.Attn.Formula.lean ====
module

public import proofs.«01_k».proof.Proof.Attn.Angle
public import proofs.«01_k».proof.Proof.Attn.Scratch

@[expose] public section

noncomputable section

open Idealize.ShloMosaic Idealize.ShloMosaic.TcCoe

/-! The attention of the layer as one formula over real arrays. -/

namespace Cert.AttnProof

/-- Lanes `o`, `o + 1`, … of the context's rows of sample `b`, two heads of 64. -/
def ctxR (Q : Fin 18432 → Fin 768 → ℝ) (b : Fin 8) (o : ℕ) (ho : o ≤ 640) (i : Fin 256) (a : Fin 2) (d : Fin 64) : ℝ :=
  Q ⟨256 * b.val + i.val, by omega⟩ ⟨o + (64 * a.val + d.val), by omega⟩

/-- The same lanes of the latents' rows of sample `b`. -/
def latR (Q : Fin 18432 → Fin 768 → ℝ) (b : Fin 8) (o : ℕ) (ho : o ≤ 640) (i : Fin 2048) (a : Fin 2) (d : Fin 64) : ℝ :=
  Q ⟨2048 + (2048 * b.val + i.val), by omega⟩ ⟨o + (64 * a.val + d.val), by omega⟩

/-- All keys of sample `b`. -/
def kR (Q : Fin 18432 → Fin 768 → ℝ) (GK : Fin 64 → ℝ) (b : Fin 8) : Fin 2 → Fin 2304 → Fin 64 → ℝ :=
  keysR (ctxR Q b 512 (by decide)) (latR Q b 512 (by decide)) GK cosR sinR

/-- All values of sample `b`. -/
def vR (Q : Fin 18432 → Fin 768 → ℝ) (b : Fin 8) : Fin 2 → Fin 2304 → Fin 64 → ℝ :=
  valsR (ctxR Q b 640 (by decide)) (latR Q b 640 (by decide))

/-- One lane of one head's output for token `n` of sample `b`. -/
def outR (Q : Fin 18432 → Fin 768 → ℝ) (GQ GK : Fin 64 → ℝ) (b : Fin 8) (n : Fin 2048) (j : Fin 512) : ℝ :=
  headR (fun e => Q ⟨2048 + (2048 * b.val + n.val), by omega⟩ ⟨64 * (j.val / 64) + e.val, by omega⟩) GQ (cosR n) (sinR n)
    (kR Q GK b (kvHead j)) (vR Q b (kvHead j)) ⟨j.val % 64, Nat.mod_lt _ (by decide)⟩

end Cert.AttnProof

end
-- ==== Proof.Attn.Fold.lean ====
module

public import proofs.«01_k».proof.Proof.Attn.Body

@[expose] public section

noncomputable section

open Idealize.ShloMosaic Idealize.ShloMosaic.TcCoe

/-! The body's parts recognised in what it stores: each printed nest of operations is the named part. The parts that count
    lanes take the lane numbers as an argument here. -/

namespace Cert.AttnProof
open Cert.AttnIdeal Cert.AttnIdeal.Gen

theorem one_word : Scalar.subi (Scalar.extui (Scalar.cmpi .sgt 64#32 0#32)) (Scalar.extui (Scalar.cmpi .slt 64#32 0#32)) = 1#32 := rfl

theorem mod32_word : Scalar.select (Scalar.cmpi .eq 32#32 0#32) 1#32 32#32 = 32#32 := rfl

theorem mod128_word : Scalar.select (Scalar.cmpi .eq 128#32 0#32) 1#32 128#32 = 128#32 := rfl

theorem neg32_word : Scalar.cmpi .slt 32#32 0#32 = 0#1 := rfl

theorem neg128_word : Scalar.cmpi .slt 128#32 0#32 = 0#1 := rfl

theorem half64_fold (x : IVec S128x128 32) :
    select (andi (cmpi .ne (subi (extui 32 (cmpi .sgt x (broadcast S128x128 0#32)) natLt_1_32) (extui 32 (cmpi .slt x (broadcast S128x128 0#32)) natLt_1_32))
      (broadcast S128x128 1#32)) (cmpi .ne (remsi x (broadcast S128x128 64#32)) (broadcast S128x128 0#32)))
    (subi (divsi x (broadcast S128x128 64#32)) (broadcast S128x128 1#32)) (divsi x (broadcast S128x128 64#32)) = half64 x := rfl

/-- One where two numbers are equal, else zero. -/
def same (a b : IVec S128x128 32) : FVec Ideal S128x128 .bf16 :=
  truncf .bf16 (sitofp (F := Ideal) .f32 (extui 32 (cmpi .eq a b) natLt_1_32)) bitsLt_bf16_f32

theorem same_fold (a b : IVec S128x128 32) :
    truncf .bf16 (sitofp (F := Ideal) .f32 (extui 32 (cmpi .eq a b) natLt_1_32)) bitsLt_bf16_f32 = same a b := rfl

/-- The remainder brought to the sign of `p`. -/
def remOf (x : IVec S128x128 32) (p : BitVec 32) : IVec S128x128 32 :=
  select (andi (xori (cmpi .slt (remsi x (broadcast S128x128 p)) (broadcast S128x128 0#32))
      (broadcastTo S128x128 (broadcast S128x128 0#1) broadcasts_S128x128_S128x128))
      (cmpi .ne (remsi x (broadcast S128x128 p)) (broadcast S128x128 0#32)))
    (addi (remsi x (broadcast S128x128 p)) (broadcast S128x128 p)) (remsi x (broadcast S128x128 p))

theorem remOf_fold (x : IVec S128x128 32) (p : BitVec 32) :
  select (andi (xori (cmpi .slt (remsi x (broadcast S128x128 p)) (broadcast S128x128 0#32))
      (broadcastTo S128x128 (broadcast S128x128 0#1) broadcasts_S128x128_S128x128))
      (cmpi .ne (remsi x (broadcast S128x128 p)) (broadcast S128x128 0#32)))
    (addi (remsi x (broadcast S128x128 p)) (broadcast S128x128 p)) (remsi x (broadcast S128x128 p)) = remOf x p := rfl

/-- `headNorm` over a given matrix of ones. -/
def normOf (e : FVec Ideal S128x128 .bf16) (x : FVec Ideal S128x128 .f32) (g : FVec Ideal S1x128 .f32) : FVec Ideal S128x128 .f32 :=
  mulf (mulf x (rsqrt (addf (mulf (addf
      (matmul dot_S128x128_S128x128_S128x128_1_0_0_1_n_n none (truncf .bf16 (mulf x x) bitsLt_bf16_f32) e (constant S128x128 .f32 0x00000000#32))
      (matmul dot_S128x128_S128x128_S128x128_1_0_0_1_n_n none (truncf .bf16 (subf (mulf x x) (extf .f32 (truncf .bf16 (mulf x x) bitsLt_bf16_f32) bitsLt_bf16_f32)) bitsLt_bf16_f32)
        e (constant S128x128 .f32 0x00000000#32)))
      (broadcast S128x128 (FloatOps.ofBits .f32 0x3C800000#32))) (broadcast S128x128 (FloatOps.ofBits .f32 0x358637BD#32)))))
    (broadcastTo S128x128 (shapeCast S1x128 g shapeCasts_S1x128_S1x128) broadcasts_S1x128_S128x128)

theorem normOf_fold (e : FVec Ideal S128x128 .bf16) (x : FVec Ideal S128x128 .f32) (g : FVec Ideal S1x128 .f32) :
  mulf (mulf x (rsqrt (addf (mulf (addf
      (matmul dot_S128x128_S128x128_S128x128_1_0_0_1_n_n none (truncf .bf16 (mulf x x) bitsLt_bf16_f32) e (constant S128x128 .f32 0x00000000#32))
      (matmul dot_S128x128_S128x128_S128x128_1_0_0_1_n_n none (truncf .bf16 (subf (mulf x x) (extf .f32 (truncf .bf16 (mulf x x) bitsLt_bf16_f32) bitsLt_bf16_f32)) bitsLt_bf16_f32)
        e (constant S128x128 .f32 0x00000000#32)))
      (broadcast S128x128 (FloatOps.ofBits .f32 0x3C800000#32))) (broadcast S128x128 (FloatOps.ofBits .f32 0x358637BD#32)))))
    (broadcastTo S128x128 (shapeCast S1x128 g shapeCasts_S1x128_S1x128) broadcasts_S1x128_S128x128) = normOf e x g := rfl

/-- `turned` over given lane numbers. -/
def turnedOf (a : Fin S128x128.rank) (h : S128x128.Rotates a none) (l : IVec S128x128 32) (x cs sn : FVec Ideal S128x128 .f32) : FVec Ideal S128x128 .f32 :=
  addf (mulf x cs)
    (mulf (select (cmpi .slt l (broadcast S128x128 16#32)) (dynamicRotate a 112#32 none x h) (dynamicRotate a 16#32 none x h)) sn)

theorem turnedOf_fold (a : Fin S128x128.rank) (h : S128x128.Rotates a none) (l : IVec S128x128 32) (x cs sn : FVec Ideal S128x128 .f32) :
  addf (mulf x cs)
    (mulf (select (cmpi .slt l (broadcast S128x128 16#32)) (dynamicRotate a 112#32 none x h) (dynamicRotate a 16#32 none x h)) sn) = turnedOf a h l x cs sn := rfl

theorem scores_fold (s : FVec Ideal S256x128 .f32) (k : FVec Ideal S2304x128 .bf16) :
  matmul dot_S256x128_S2304x128_S256x2304_1_1_0_0_n_n none (truncf .bf16 s bitsLt_bf16_f32) k (constant S256x2304 .f32 0x00000000#32) = scores s k := rfl

/-- `weights` over given axes. -/
def weightsOf (d : List (Fin S256x2304.rank)) (h : S256x2304.Reduces d S256) (hφ : FKind.Formats .f32)
    (w : BitVec FTy.f32.bits)
    (hacc : w = FKind.maximumf.neutral .f32 hφ) (z : FVec Ideal S256x2304 .f32) : FVec Ideal S256x2304 .f32 :=
  exp2 (subf z (broadcastTo S256x2304 (shapeCast S256x1 (multiReduction .maximumf d S256 z w h hφ hacc)
    shapeCasts_S256_S256x1) broadcasts_S256x1_S256x2304))

theorem weightsOf_fold (d : List (Fin S256x2304.rank)) (h : S256x2304.Reduces d S256) (hφ : FKind.Formats .f32)
    (w : BitVec FTy.f32.bits)
    (hacc : w = FKind.maximumf.neutral .f32 hφ) (z : FVec Ideal S256x2304 .f32) :
  exp2 (subf z (broadcastTo S256x2304 (shapeCast S256x1 (multiReduction .maximumf d S256 z w h hφ hacc)
    shapeCasts_S256_S256x1) broadcasts_S256x1_S256x2304)) = weightsOf d h hφ w hacc z := rfl

/-- `mean` over given axes. -/
def meanOf (d : List (Fin S256x2304.rank)) (h : S256x2304.Reduces d S256) (hφ : FKind.Formats .f32)
    (w : BitVec FTy.f32.bits)
    (hacc : w = FKind.add.neutral .f32 hφ) (p : FVec Ideal S256x2304 .f32)
    (v : FVec Ideal S2304x128 .bf16) : FVec Ideal S256x128 .f32 :=
  divf (matmul dot_S256x2304_S2304x128_S256x128_1_0_0_1_n_n none (truncf .bf16 p bitsLt_bf16_f32) v (constant S256x128 .f32 0x00000000#32))
    (broadcastTo S256x128 (shapeCast S256x1 (multiReduction .add d S256 p w h hφ hacc)
      shapeCasts_S256_S256x1) broadcasts_S256x1_S256x128)

theorem meanOf_fold (d : List (Fin S256x2304.rank)) (h : S256x2304.Reduces d S256) (hφ : FKind.Formats .f32)
    (w : BitVec FTy.f32.bits)
    (hacc : w = FKind.add.neutral .f32 hφ) (p : FVec Ideal S256x2304 .f32)
    (v : FVec Ideal S2304x128 .bf16) :
  divf (matmul dot_S256x2304_S2304x128_S256x128_1_0_0_1_n_n none (truncf .bf16 p bitsLt_bf16_f32) v (constant S256x128 .f32 0x00000000#32))
    (broadcastTo S256x128 (shapeCast S256x1 (multiReduction .add d S256 p w h hφ hacc)
      shapeCasts_S256_S256x1) broadcasts_S256x1_S256x128) = meanOf d h hφ w hacc p v := rfl

end Cert.AttnProof

end
-- ==== Proof.Attn.Block.lean ====
module

public import proofs.«01_k».proof.Proof.Gen.AttnIdeal.Value
public import proofs.«01_k».proof.Proof.Attn.Read
public import proofs.«01_k».proof.Proof.Attn.Fold
public import Idealize.ShloMosaic.Lib.Pipeline.ValueKit
public import Idealize.ShloMosaic.Lib.Pipeline.ReadBack

@[expose] public section

set_option maxRecDepth 16384

noncomputable section

open Idealize.ShloMosaic Idealize.ShloMosaic.TcCoe

namespace Cert.AttnProof
open Cert.AttnIdeal Cert.AttnIdeal.Gen

variable (m : (ℓ : Loc nD τ sig) → Buf (Elt Ideal) ℓ)

/-- The line of `tile` that the lanes from `p` on are, with the head of keys and values that goes with them. -/
theorem tileAt_apply (x : FVec Ideal S512x512 .f32) (g : FVec Ideal S1x128 .f32) (cs sn : FVec Ideal S512x128 .f32)
    (k v : FVec Ideal S2304x128 .bf16) (X : Fin 512 → Fin 512 → ℝ) (G : Fin 64 → ℝ) (C S : Fin 512 → Fin 64 → ℝ)
    (K V : Fin 2 → Fin 2304 → Fin 64 → ℝ) (hx : ∀ i j, x (ix2 i j) = (X i j : EReal)) (hg : ∀ a d, g (ix2 0 (lane a d)) = (G d : EReal))
    (hc : ∀ i a d, cs (ix2 i (lane a d)) = (C i d : EReal)) (hs : ∀ i a d, sn (ix2 i (lane a d)) = (S i d : EReal))
    (hk : ∀ s a d, k (ix2 s (lane a d)) = (K a s d : EReal)) (hv : ∀ s a d, v (ix2 s (lane a d)) = (V a s d : EReal))
    (o p : ℕ) (h1 : ∀ a, (![o, 0] : Fin 2 → ℕ) a + S128x512.size a ≤ S512x512.size a)
    (h2 : ∀ a, (![o, 0] : Fin 2 → ℕ) a + S128x128.size a ≤ S512x128.size a) (h3 : S128x512.Slices ![0, p] S128x128)
    (hp : p % 128 = 0) (hb : p / 256 < 2) (y : S128x128.Idx) (i j : Fin 512) (ei : i.val = o + (y 0).val) (ej : j.val = p + (y 1).val) :
    tile ⟨p / 256, hb⟩ x g cs sn k v o p h1 h2 h3 y = (blockR X G C S K V i j : EReal) :=
  tile_apply _ x g cs sn k v X G C S K V hx hg hc hs hk hv o p h1 h2 h3 hp rfl y i j ei ej

set_option maxHeartbeats 4000000 in
/-- The block of a point that reads the keys and values as an earlier point left them. -/
theorem out_B (c : Dev nD) (t : Fin cfg0.N) (h : ¬t.val % 4 = 0) (X : Fin 512 → Fin 512 → ℝ) (G : Fin 64 → ℝ) (C S : Fin 512 → Fin 64 → ℝ)
    (K V : Fin 2 → Fin 2304 → Fin 64 → ℝ) (hx : ∀ i j, X0_0 m c t (ix2 i j) = (X i j : EReal))
    (hg : ∀ a d, iblk m c 9 t (ix2 0 (lane a d)) = (G d : EReal))
    (hc : ∀ i a d, iblk m c 5 t (ix2 i (lane a d)) = (C i d : EReal)) (hs : ∀ i a d, iblk m c 6 t (ix2 i (lane a d)) = (S i d : EReal))
    (hk : ∀ s a d, (outsAt0 m c (t.val - 1) (Nat.lt_of_le_of_lt (Nat.sub_le _ _) t.isLt)).2.1 (ix2 s (lane a d)) = (K a s d : EReal))
    (hv : ∀ s a d, (outsAt0 m c (t.val - 1) (Nat.lt_of_le_of_lt (Nat.sub_le _ _) t.isLt)).2.2 (ix2 s (lane a d)) = (V a s d : EReal))
    : (outsAt0 m c t.val t.isLt).1 = fun y => (blockR X G C S K V (y 0) (y 1) : EReal) := by
  rw [outsAt0_B m c t h]
  frame_open
  frame_out
  simp only [read_unread_whole]
  rw [(hs0_0 t).read_unread, (hs0_5 t).read_unread, (hs0_6 t).read_unread, (hs0_9 t).read_unread, View.ld_unit_lit' (S := S1x128) _ (iblk m c 9 t) (by decide)]
  funext z
  canon_tiles y hy
  all_goals
    first
      | have e0 : (z 0).val = 0 + (y 0).val := hy0.trans (Nat.zero_add _).symm
      | have e0 := hy0
    first
      | have e1 : (z 1).val = 0 + (y 1).val := hy1.trans (Nat.zero_add _).symm
      | have e1 := hy1
    refine Eq.trans ?_ (tileAt_apply (X0_0 m c t) (iblk m c 9 t) (iblk m c 5 t) (iblk m c 6 t) _ _ X G C S K V hx hg hc hs hk hv _ _
      (by decide) (by decide) (by decide) (by decide) (by decide) y (z 0) (z 1) e0 e1)
    clear hx hg hc hs hk hv
    open_payloads
    dsimp only [one_word, mod32_word, mod128_word, neg32_word, neg128_word, half64_fold, same_fold, remOf_fold, normOf_fold, turnedOf_fold,
      scores_fold, weightsOf_fold, meanOf_fold]
    rfl

end Cert.AttnProof

end
-- ==== Proof.Attn.First.lean ====
module

public import proofs.«01_k».proof.Proof.Gen.AttnIdeal.Value
public import proofs.«01_k».proof.Proof.Attn.Block
public import Idealize.ShloMosaic.Lib.Pipeline.ValueKit
public import Idealize.ShloMosaic.Lib.Pipeline.ReadBack

@[expose] public section

set_option maxRecDepth 16384

noncomputable section

open Idealize.ShloMosaic Idealize.ShloMosaic.TcCoe

namespace Cert.AttnProof
open Cert.AttnIdeal Cert.AttnIdeal.Gen

variable (m : (ℓ : Loc nD τ sig) → Buf (Elt Ideal) ℓ)

set_option maxHeartbeats 4000000 in
/-- The block of a point that reads the keys and values as it stores them itself. -/
theorem out_A (c : Dev nD) (t : Fin cfg0.N) (h : t.val % 4 = 0) (X : Fin 512 → Fin 512 → ℝ) (G : Fin 64 → ℝ) (C S : Fin 512 → Fin 64 → ℝ)
    (K V : Fin 2 → Fin 2304 → Fin 64 → ℝ) (hx : ∀ i j, X0_0 m c t (ix2 i j) = (X i j : EReal))
    (hg : ∀ a d, iblk m c 9 t (ix2 0 (lane a d)) = (G d : EReal))
    (hc : ∀ i a d, iblk m c 5 t (ix2 i (lane a d)) = (C i d : EReal)) (hs : ∀ i a d, iblk m c 6 t (ix2 i (lane a d)) = (S i d : EReal))
    (hk : ∀ s a d, (outsAt0 m c t.val t.isLt).2.1 (ix2 s (lane a d)) = (K a s d : EReal))
    (hv : ∀ s a d, (outsAt0 m c t.val t.isLt).2.2 (ix2 s (lane a d)) = (V a s d : EReal))
    : (outsAt0 m c t.val t.isLt).1 = fun y => (blockR X G C S K V (y 0) (y 1) : EReal) := by
  have ek := congrArg (fun z => z.2.1) (outsAt0_A m c t h)
  frame_open at ek
  frame_out at ek
  have ev := congrArg (fun z => z.2.2) (outsAt0_A m c t h)
  frame_open at ev
  frame_out at ev
  rw [outsAt0_A m c t h]
  frame_open
  frame_out
  rw [View.readCov_eq_canon_ld _ _ _ (View.cover_of_tiledBy _ ![256, 128] (by sl_kernel_rfl)), View.readCov_eq_canon_ld _ _ _ (View.cover_of_tiledBy _ ![256, 128] (by sl_kernel_rfl)),
    View.ld_unit_lit' (S := S2304x128) _ _ (by decide), View.ld_unit_lit' (S := S2304x128) _ _ (by decide), ← ek, ← ev]
  clear ek ev
  rw [(hs0_0 t).read_unread, (hs0_5 t).read_unread, (hs0_6 t).read_unread, (hs0_9 t).read_unread, View.ld_unit_lit' (S := S1x128) _ (iblk m c 9 t) (by decide)]
  funext z
  canon_tiles y hy
  all_goals
    first
      | have e0 : (z 0).val = 0 + (y 0).val := hy0.trans (Nat.zero_add _).symm
      | have e0 := hy0
    first
      | have e1 : (z 1).val = 0 + (y 1).val := hy1.trans (Nat.zero_add _).symm
      | have e1 := hy1
    refine Eq.trans ?_ (tileAt_apply (X0_0 m c t) (iblk m c 9 t) (iblk m c 5 t) (iblk m c 6 t) _ _ X G C S K V hx hg hc hs hk hv _ _
      (by decide) (by decide) (by decide) (by decide) (by decide) y (z 0) (z 1) e0 e1)
    clear hx hg hc hs hk hv
    open_payloads
    dsimp only [one_word, mod32_word, mod128_word, neg32_word, neg128_word, half64_fold, same_fold, remOf_fold, normOf_fold, turnedOf_fold,
      scores_fold, weightsOf_fold, meanOf_fold]
    rfl

end Cert.AttnProof

end
-- ==== Proof.Attn.Tables.lean ====
module

public import proofs.«01_k».proof.Proof.Gen.AttnIdeal.Value
public import proofs.«01_k».proof.Proof.Attn.Angle
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.AttnProof
open Cert.AttnIdeal Cert.AttnIdeal.Gen

variable (m : (ℓ : Loc nD τ sig) → Buf (Elt Ideal) ℓ)

/-- Four arrays of 16 lanes side by side. -/
theorem cat4 (A B C D : Vec Ideal S2048x16 .f32) (h) (n : Fin 2048) (d : Fin 64) :
    concatenate S2048x64 1 [⟨S2048x16, A⟩, ⟨S2048x16, B⟩, ⟨S2048x16, C⟩, ⟨S2048x16, D⟩] h (ix2 n d)
      = (if d.val < 16 then A else if d.val < 32 then B else if d.val < 48 then C else D) (ix2 n (quart d)) := by
  pointwise
  have hd := d.isLt
  by_cases h1 : d.val < 16
  · rw [dif_pos h1, if_pos h1]; congr 2; apply Fin.ext; show d.val = d.val % 16; omega
  by_cases h2 : d.val < 32
  · rw [dif_neg h1, dif_pos (by omega), if_neg h1, if_pos h2]; congr 2; apply Fin.ext; show d.val - 16 = d.val % 16; omega
  by_cases h3 : d.val < 48
  · rw [dif_neg h1, dif_neg (by omega), dif_pos (by omega), if_neg h1, if_neg h2, if_pos h3]
    congr 2; apply Fin.ext; show d.val - 16 - 16 = d.val % 16; omega
  · rw [dif_neg h1, dif_neg (by omega), dif_neg (by omega), if_neg h1, if_neg h2, if_neg h3]
    congr 2; apply Fin.ext; show d.val - 16 - 16 - 16 = d.val % 16; omega

theorem count_line (U : Valuation τ sig (Elt Ideal)) (n : Fin 2048) :
    StableHlo.after (hostOps0 (F := Ideal)) U (Proc.tc.devRef main_v0) (ix1 n) = BitVec.ofNat 32 n.val := by
  entry_read
  pointwise

theorem freq_line (U : Valuation τ sig (Elt Ideal)) (k : Fin 16) :
    StableHlo.after (hostOps0 (F := Ideal)) U (Proc.tc.devRef main_v6) (ix1 k) = (freq k : EReal) := by
  entry_read
  pointwise
  exact freq_eq k

theorem const_line (U : Valuation τ sig (Elt Ideal)) :
    StableHlo.after (hostOps0 (F := Ideal)) U (Proc.tc.devRef main_c) = constantI S_ 32 64#32 := by
  entry_read
  try rfl

theorem const_line' (U : Valuation τ sig (Elt Ideal)) :
    StableHlo.after (hostOps0_2 (F := Ideal)) U (Proc.tc.devRef main_c_1) = constantI S_ 32 64#32 := by
  entry_read
  try rfl

theorem div_line (U : Valuation τ sig (Elt Ideal)) (n : Fin 2048)
    (h0 : U (Proc.tc.devRef main_v0) (ix1 n) = BitVec.ofNat 32 n.val) (hc : U (Proc.tc.devRef main_c) = constantI S_ 32 64#32) :
    (StableHlo.after (hostOps0_1 (F := Ideal)) U (Proc.tc.devRef main_v7) (ix1 n) : BitVec 32).toInt = ((n.val / 64 : ℕ) : ℤ) := by
  entry_read
  simp only [StableHlo.TRef.ofBuf_toBuf]
  generalize hx : (.of main_v0 : StableHlo.TRef sig ⟨S2048, .i32⟩).ofBuf (U (Proc.tc.devRef main_v0)) = x
  generalize hy : (.of main_c : StableHlo.TRef sig ⟨S_, .i32⟩).ofBuf (U (Proc.tc.devRef main_c)) = y
  have ex : x (ix1 n) = BitVec.ofNat 32 n.val := by rw [← hx]; exact h0
  have ey : y = constantI S_ 32 64#32 := by rw [← hy]; exact hc
  subst ey
  change BitVec.toInt ((select _ _ _ : IVec S2048 32) (ix1 n)) = _
  clear h0 hc hx hy
  pointwise
  rw [ex]
  clear ex
  revert n
  decide +kernel

theorem rem_line (U : Valuation τ sig (Elt Ideal)) (n : Fin 2048)
    (h0 : U (Proc.tc.devRef main_v0) (ix1 n) = BitVec.ofNat 32 n.val) (hc : U (Proc.tc.devRef main_c_1) = constantI S_ 32 64#32) :
    (StableHlo.after (hostOps0_3 (F := Ideal)) U (Proc.tc.devRef main_v14) (ix1 n) : BitVec 32).toInt = ((n.val % 64 : ℕ) : ℤ) := by
  entry_read
  simp only [StableHlo.TRef.ofBuf_toBuf]
  generalize hx : (.of main_v0 : StableHlo.TRef sig ⟨S2048, .i32⟩).ofBuf (U (Proc.tc.devRef main_v0)) = x
  generalize hy : (.of main_c_1 : StableHlo.TRef sig ⟨S_, .i32⟩).ofBuf (U (Proc.tc.devRef main_c_1)) = y
  have ex : x (ix1 n) = BitVec.ofNat 32 n.val := by rw [← hx]; exact h0
  have ey : y = constantI S_ 32 64#32 := by rw [← hy]; exact hc
  subst ey
  change BitVec.toInt ((select _ _ _ : IVec S2048 32) (ix1 n)) = _
  clear h0 hc hx hy
  pointwise
  rw [ex]
  clear ex
  revert n
  decide +kernel

theorem row_line (U : Valuation τ sig (Elt Ideal)) (n : Fin 2048) (k : Fin 16) :
    StableHlo.after (hostOps0_2 (F := Ideal)) U (Proc.tc.devRef main_v13) (ix2 n k)
      = FloatOps.sitofp (F := Ideal) .f32 (U (Proc.tc.devRef main_v7) (ix1 n)) * U (Proc.tc.devRef main_v6) (ix1 k) := by
  entry_read
  pointwise

abbrev part1 : List (HloOp τ sig (Elt Ideal)) := List.take 10 hostOps0_4

abbrev part2 : List (HloOp τ sig (Elt Ideal)) := List.take 1 (List.drop 10 hostOps0_4)

abbrev part3 : List (HloOp τ sig (Elt Ideal)) := List.take 6 (List.drop 11 hostOps0_4)

abbrev part4 : List (HloOp τ sig (Elt Ideal)) := List.take 1 (List.drop 17 hostOps0_4)

abbrev part5 : List (HloOp τ sig (Elt Ideal)) := List.drop 18 hostOps0_4

theorem col_line (U : Valuation τ sig (Elt Ideal)) (n : Fin 2048) (k : Fin 16) :
    StableHlo.after (part1) U (Proc.tc.devRef main_v20) (ix2 n k)
      = FloatOps.sitofp (F := Ideal) .f32 (U (Proc.tc.devRef main_v14) (ix1 n)) * U (Proc.tc.devRef main_v6) (ix1 k) := by
  simp only [part1, hostOps0_4, List.take_succ_cons, List.take_zero, List.drop_succ_cons, List.drop_zero]
  entry_read
  pointwise

theorem keep_1_v0 (U : Valuation τ sig (Elt Ideal)) : StableHlo.after (hostOps0_1 (F := Ideal)) U (Proc.tc.devRef main_v0) = U (Proc.tc.devRef main_v0) := by
  entry_read
  rfl

theorem keep_1_v6 (U : Valuation τ sig (Elt Ideal)) : StableHlo.after (hostOps0_1 (F := Ideal)) U (Proc.tc.devRef main_v6) = U (Proc.tc.devRef main_v6) := by
  entry_read
  rfl

theorem keep_2_v0 (U : Valuation τ sig (Elt Ideal)) : StableHlo.after (hostOps0_2 (F := Ideal)) U (Proc.tc.devRef main_v0) = U (Proc.tc.devRef main_v0) := by
  entry_read
  rfl

theorem keep_2_v6 (U : Valuation τ sig (Elt Ideal)) : StableHlo.after (hostOps0_2 (F := Ideal)) U (Proc.tc.devRef main_v6) = U (Proc.tc.devRef main_v6) := by
  entry_read
  rfl

theorem keep_3_v6 (U : Valuation τ sig (Elt Ideal)) : StableHlo.after (hostOps0_3 (F := Ideal)) U (Proc.tc.devRef main_v6) = U (Proc.tc.devRef main_v6) := by
  entry_read
  rfl

theorem keep_3_v13 (U : Valuation τ sig (Elt Ideal)) : StableHlo.after (hostOps0_3 (F := Ideal)) U (Proc.tc.devRef main_v13) = U (Proc.tc.devRef main_v13) := by
  entry_read
  rfl

theorem lane_mod (a : Fin 2) (d : Fin 64) : (lane a d).val % 64 = d.val := by
  show (64 * a.val + d.val) % 64 = d.val
  have := d.isLt; omega

/-- The fifth list of host lines in five pieces. -/
theorem parts (U : Valuation τ sig (Elt Ideal)) : StableHlo.after (hostOps0_4 (F := Ideal)) U
    = StableHlo.after part5 (StableHlo.after part4 (StableHlo.after part3 (StableHlo.after part2 (StableHlo.after part1 U)))) := by
  simp only [← StableHlo.after_append]
  rfl

theorem part1_v13 (U : Valuation τ sig (Elt Ideal)) : StableHlo.after part1 U (Proc.tc.devRef main_v13) = U (Proc.tc.devRef main_v13) := by
  simp only [part1, hostOps0_4, List.take_succ_cons, List.take_zero, List.drop_succ_cons, List.drop_zero]
  entry_read
  try rfl

theorem part1_arg1 (U : Valuation τ sig (Elt Ideal)) : StableHlo.after part1 U (Proc.tc.devRef main_arg1) = U (Proc.tc.devRef main_arg1) := by
  simp only [part1, hostOps0_4, List.take_succ_cons, List.take_zero, List.drop_succ_cons, List.drop_zero]
  entry_read
  try rfl

theorem part1_arg2 (U : Valuation τ sig (Elt Ideal)) : StableHlo.after part1 U (Proc.tc.devRef main_arg2) = U (Proc.tc.devRef main_arg2) := by
  simp only [part1, hostOps0_4, List.take_succ_cons, List.take_zero, List.drop_succ_cons, List.drop_zero]
  entry_read
  try rfl

theorem part2_v13 (U : Valuation τ sig (Elt Ideal)) : StableHlo.after part2 U (Proc.tc.devRef main_v13) = U (Proc.tc.devRef main_v13) := by
  simp only [part2, hostOps0_4, List.take_succ_cons, List.take_zero, List.drop_succ_cons, List.drop_zero]
  entry_read
  try rfl

theorem part2_v20 (U : Valuation τ sig (Elt Ideal)) : StableHlo.after part2 U (Proc.tc.devRef main_v20) = U (Proc.tc.devRef main_v20) := by
  simp only [part2, hostOps0_4, List.take_succ_cons, List.take_zero, List.drop_succ_cons, List.drop_zero]
  entry_read
  try rfl

theorem part2_arg1 (U : Valuation τ sig (Elt Ideal)) : StableHlo.after part2 U (Proc.tc.devRef main_arg1) = U (Proc.tc.devRef main_arg1) := by
  simp only [part2, hostOps0_4, List.take_succ_cons, List.take_zero, List.drop_succ_cons, List.drop_zero]
  entry_read
  try rfl

theorem part2_arg2 (U : Valuation τ sig (Elt Ideal)) : StableHlo.after part2 U (Proc.tc.devRef main_arg2) = U (Proc.tc.devRef main_arg2) := by
  simp only [part2, hostOps0_4, List.take_succ_cons, List.take_zero, List.drop_succ_cons, List.drop_zero]
  entry_read
  try rfl

theorem part3_v25 (U : Valuation τ sig (Elt Ideal)) : StableHlo.after part3 U (Proc.tc.devRef main_v25) = U (Proc.tc.devRef main_v25) := by
  simp only [part3, hostOps0_4, List.take_succ_cons, List.take_zero, List.drop_succ_cons, List.drop_zero]
  entry_read
  try rfl

theorem part3_arg1 (U : Valuation τ sig (Elt Ideal)) : StableHlo.after part3 U (Proc.tc.devRef main_arg1) = U (Proc.tc.devRef main_arg1) := by
  simp only [part3, hostOps0_4, List.take_succ_cons, List.take_zero, List.drop_succ_cons, List.drop_zero]
  entry_read
  try rfl

theorem part3_arg2 (U : Valuation τ sig (Elt Ideal)) : StableHlo.after part3 U (Proc.tc.devRef main_arg2) = U (Proc.tc.devRef main_arg2) := by
  simp only [part3, hostOps0_4, List.take_succ_cons, List.take_zero, List.drop_succ_cons, List.drop_zero]
  entry_read
  try rfl

theorem part4_v25 (U : Valuation τ sig (Elt Ideal)) : StableHlo.after part4 U (Proc.tc.devRef main_v25) = U (Proc.tc.devRef main_v25) := by
  simp only [part4, hostOps0_4, List.take_succ_cons, List.take_zero, List.drop_succ_cons, List.drop_zero]
  entry_read
  try rfl

theorem part4_arg1 (U : Valuation τ sig (Elt Ideal)) : StableHlo.after part4 U (Proc.tc.devRef main_arg1) = U (Proc.tc.devRef main_arg1) := by
  simp only [part4, hostOps0_4, List.take_succ_cons, List.take_zero, List.drop_succ_cons, List.drop_zero]
  entry_read
  try rfl

theorem part4_arg2 (U : Valuation τ sig (Elt Ideal)) : StableHlo.after part4 U (Proc.tc.devRef main_arg2) = U (Proc.tc.devRef main_arg2) := by
  simp only [part4, hostOps0_4, List.take_succ_cons, List.take_zero, List.drop_succ_cons, List.drop_zero]
  entry_read
  try rfl

theorem part1_v21 (U : Valuation τ sig (Elt Ideal)) : StableHlo.after part1 U (Proc.tc.devRef main_v21) = (Host.cos (F := Ideal) (s := S2048x16) (φ := .f32) (U (Proc.tc.devRef main_v13))) := by
  simp only [part1, hostOps0_4, List.take_succ_cons, List.take_zero, List.drop_succ_cons, List.drop_zero]
  entry_read
  try rfl

theorem part1_v22 (U : Valuation τ sig (Elt Ideal)) : StableHlo.after part1 U (Proc.tc.devRef main_v22) = (Host.cos (F := Ideal) (s := S2048x16) (φ := .f32) (U (Proc.tc.devRef main_v13))) := by
  simp only [part1, hostOps0_4, List.take_succ_cons, List.take_zero, List.drop_succ_cons, List.drop_zero]
  entry_read
  try rfl

theorem part1_v23 (U : Valuation τ sig (Elt Ideal)) : StableHlo.after part1 U (Proc.tc.devRef main_v23) = (Host.cos (F := Ideal) (s := S2048x16) (φ := .f32) (StableHlo.after part1 U (Proc.tc.devRef main_v20))) := by
  simp only [part1, hostOps0_4, List.take_succ_cons, List.take_zero, List.drop_succ_cons, List.drop_zero]
  entry_read
  try rfl

theorem part1_v24 (U : Valuation τ sig (Elt Ideal)) : StableHlo.after part1 U (Proc.tc.devRef main_v24) = (Host.cos (F := Ideal) (s := S2048x16) (φ := .f32) (StableHlo.after part1 U (Proc.tc.devRef main_v20))) := by
  simp only [part1, hostOps0_4, List.take_succ_cons, List.take_zero, List.drop_succ_cons, List.drop_zero]
  entry_read
  try rfl

theorem part2_v25 (U : Valuation τ sig (Elt Ideal)) : StableHlo.after part2 U (Proc.tc.devRef main_v25)
    = concatenate S2048x64 1 [⟨S2048x16, U (Proc.tc.devRef main_v21)⟩, ⟨S2048x16, U (Proc.tc.devRef main_v22)⟩, ⟨S2048x16, U (Proc.tc.devRef main_v23)⟩, ⟨S2048x16, U (Proc.tc.devRef main_v24)⟩] concatenates_S2048x16_S2048x16_S2048x16_S2048x16_S2048x64_d1 := by
  simp only [part2, hostOps0_4, List.take_succ_cons, List.take_zero, List.drop_succ_cons, List.drop_zero, StableHlo.after_cons, StableHlo.after_nil]
  rw [StableHlo.nary4_result]
  rfl

theorem part3_v27 (U : Valuation τ sig (Elt Ideal)) : StableHlo.after part3 U (Proc.tc.devRef main_v27) = (Host.negf (F := Ideal) (s := S2048x16) (φ := .f32) (Host.sin (F := Ideal) (s := S2048x16) (φ := .f32) (U (Proc.tc.devRef main_v13)))) := by
  simp only [part3, hostOps0_4, List.take_succ_cons, List.take_zero, List.drop_succ_cons, List.drop_zero]
  entry_read
  try rfl

theorem part3_v28 (U : Valuation τ sig (Elt Ideal)) : StableHlo.after part3 U (Proc.tc.devRef main_v28) = (Host.sin (F := Ideal) (s := S2048x16) (φ := .f32) (U (Proc.tc.devRef main_v13))) := by
  simp only [part3, hostOps0_4, List.take_succ_cons, List.take_zero, List.drop_succ_cons, List.drop_zero]
  entry_read
  try rfl

theorem part3_v30 (U : Valuation τ sig (Elt Ideal)) : StableHlo.after part3 U (Proc.tc.devRef main_v30) = (Host.negf (F := Ideal) (s := S2048x16) (φ := .f32) (Host.sin (F := Ideal) (s := S2048x16) (φ := .f32) (U (Proc.tc.devRef main_v20)))) := by
  simp only [part3, hostOps0_4, List.take_succ_cons, List.take_zero, List.drop_succ_cons, List.drop_zero]
  entry_read
  try rfl

theorem part3_v31 (U : Valuation τ sig (Elt Ideal)) : StableHlo.after part3 U (Proc.tc.devRef main_v31) = (Host.sin (F := Ideal) (s := S2048x16) (φ := .f32) (U (Proc.tc.devRef main_v20))) := by
  simp only [part3, hostOps0_4, List.take_succ_cons, List.take_zero, List.drop_succ_cons, List.drop_zero]
  entry_read
  try rfl

theorem part4_v32 (U : Valuation τ sig (Elt Ideal)) : StableHlo.after part4 U (Proc.tc.devRef main_v32)
    = concatenate S2048x64 1 [⟨S2048x16, U (Proc.tc.devRef main_v27)⟩, ⟨S2048x16, U (Proc.tc.devRef main_v28)⟩, ⟨S2048x16, U (Proc.tc.devRef main_v30)⟩, ⟨S2048x16, U (Proc.tc.devRef main_v31)⟩] concatenates_S2048x16_S2048x16_S2048x16_S2048x16_S2048x64_d1 := by
  simp only [part4, hostOps0_4, List.take_succ_cons, List.take_zero, List.drop_succ_cons, List.drop_zero, StableHlo.after_cons, StableHlo.after_nil]
  rw [StableHlo.nary4_result]
  rfl

theorem part5_v35 (U : Valuation τ sig (Elt Ideal)) (n : Fin 2048) (a : Fin 2) (d : Fin 64) :
    StableHlo.after part5 U (Proc.tc.devRef main_v35) (ix2 n (lane a d)) = U (Proc.tc.devRef main_v25) (ix2 n d) := by
  simp only [part5, hostOps0_4, List.take_succ_cons, List.take_zero, List.drop_succ_cons, List.drop_zero]
  entry_read
  pointwise
  congr 2
  exact Fin.ext (lane_mod a d)

theorem part5_v38 (U : Valuation τ sig (Elt Ideal)) (n : Fin 2048) (a : Fin 2) (d : Fin 64) :
    StableHlo.after part5 U (Proc.tc.devRef main_v38) (ix2 n (lane a d)) = U (Proc.tc.devRef main_v32) (ix2 n d) := by
  simp only [part5, hostOps0_4, List.take_succ_cons, List.take_zero, List.drop_succ_cons, List.drop_zero]
  entry_read
  pointwise
  congr 2
  exact Fin.ext (lane_mod a d)

theorem part5_v42 (U : Valuation τ sig (Elt Ideal)) (a : Fin 2) (d : Fin 64) :
    StableHlo.after part5 U (Proc.tc.devRef main_v42) (ix2 0 (lane a d)) = U (Proc.tc.devRef main_arg1) (ix1 d) := by
  simp only [part5, hostOps0_4, List.take_succ_cons, List.take_zero, List.drop_succ_cons, List.drop_zero]
  entry_read
  pointwise
  congr 2
  exact Fin.ext (lane_mod a d)

theorem part5_v46 (U : Valuation τ sig (Elt Ideal)) (a : Fin 2) (d : Fin 64) :
    StableHlo.after part5 U (Proc.tc.devRef main_v46) (ix2 0 (lane a d)) = U (Proc.tc.devRef main_arg2) (ix1 d) := by
  simp only [part5, hostOps0_4, List.take_succ_cons, List.take_zero, List.drop_succ_cons, List.drop_zero]
  entry_read
  pointwise
  congr 2
  exact Fin.ext (lane_mod a d)

theorem keep_arg1 (U : Valuation τ sig (Elt Ideal)) : StableHlo.after (hostOps0 (F := Ideal)) U (Proc.tc.devRef main_arg1) = U (Proc.tc.devRef main_arg1) := by
  entry_read
  try rfl

theorem keep_arg2 (U : Valuation τ sig (Elt Ideal)) : StableHlo.after (hostOps0 (F := Ideal)) U (Proc.tc.devRef main_arg2) = U (Proc.tc.devRef main_arg2) := by
  entry_read
  try rfl

theorem keep_1_arg1 (U : Valuation τ sig (Elt Ideal)) : StableHlo.after (hostOps0_1 (F := Ideal)) U (Proc.tc.devRef main_arg1) = U (Proc.tc.devRef main_arg1) := by
  entry_read
  try rfl

theorem keep_1_arg2 (U : Valuation τ sig (Elt Ideal)) : StableHlo.after (hostOps0_1 (F := Ideal)) U (Proc.tc.devRef main_arg2) = U (Proc.tc.devRef main_arg2) := by
  entry_read
  try rfl

theorem keep_2_arg1 (U : Valuation τ sig (Elt Ideal)) : StableHlo.after (hostOps0_2 (F := Ideal)) U (Proc.tc.devRef main_arg1) = U (Proc.tc.devRef main_arg1) := by
  entry_read
  try rfl

theorem keep_2_arg2 (U : Valuation τ sig (Elt Ideal)) : StableHlo.after (hostOps0_2 (F := Ideal)) U (Proc.tc.devRef main_arg2) = U (Proc.tc.devRef main_arg2) := by
  entry_read
  try rfl

theorem keep_3_arg1 (U : Valuation τ sig (Elt Ideal)) : StableHlo.after (hostOps0_3 (F := Ideal)) U (Proc.tc.devRef main_arg1) = U (Proc.tc.devRef main_arg1) := by
  entry_read
  try rfl

theorem keep_3_arg2 (U : Valuation τ sig (Elt Ideal)) : StableHlo.after (hostOps0_3 (F := Ideal)) U (Proc.tc.devRef main_arg2) = U (Proc.tc.devRef main_arg2) := by
  entry_read
  try rfl

/-- The values after the first four lists of host lines. -/
abbrev tops (U : Valuation τ sig (Elt Ideal)) : Valuation τ sig (Elt Ideal) :=
  StableHlo.after hostOps0_3 (StableHlo.after hostOps0_2 (StableHlo.after hostOps0_1 (StableHlo.after hostOps0 U)))

variable (m : (ℓ : Loc nD τ sig) → Buf (Elt Ideal) ℓ)

theorem vals_eq (c : Dev nD) (b : Ref sig .tc) : V m c b
    = StableHlo.after part5 (StableHlo.after part4 (StableHlo.after part3 (StableHlo.after part2 (StableHlo.after part1 (tops fun b => m (c, b)))))) (Proc.tc.devRef b) := by
  show StableHlo.after (List.flatten [hostOps0, hostOps0_1, hostOps0_2, hostOps0_3, hostOps0_4]) (fun b => m (c, b)) (Proc.tc.devRef b) = _
  rw [← parts]
  simp only [List.flatten_cons, List.flatten_nil, List.append_nil, StableHlo.after_append]

theorem tops_row (U : Valuation τ sig (Elt Ideal)) (n : Fin 2048) (k : Fin 16) :
    tops U (Proc.tc.devRef main_v13) (ix2 n k) = (rowR n k : EReal) := by
  rw [tops, keep_3_v13, row_line, keep_1_v6, freq_line, sitofp_small _ _ (div_line _ n (count_line U n) (const_line U)), ← EReal.coe_mul]
  rfl

theorem tops_col (U : Valuation τ sig (Elt Ideal)) (n : Fin 2048) (k : Fin 16) :
    StableHlo.after part1 (tops U) (Proc.tc.devRef main_v20) (ix2 n k) = (colR n k : EReal) := by
  rw [col_line, tops, keep_3_v6, keep_2_v6, keep_1_v6, freq_line, sitofp_small _ _ (rem_line _ n (by rw [keep_2_v0, keep_1_v0, count_line]) (const_line' _)), ← EReal.coe_mul]
  rfl

theorem tab_cos (c : Dev nD) (n : Fin 2048) (a : Fin 2) (d : Fin 64) :
    V m c main_v35 (ix2 n (lane a d)) = (cosR n d : EReal) := by
  rw [vals_eq, part5_v35, part4_v25, part3_v25, part2_v25, cat4, part1_v21, part1_v22, part1_v23, part1_v24]
  have h1 := tops_row (fun b => m (c, b)) n (quart d)
  have h2 := tops_col (fun b => m (c, b)) n (quart d)
  generalize tops (fun b => m (c, b)) (Proc.tc.devRef main_v13) = X at *
  generalize StableHlo.after part1 (tops fun b => m (c, b)) (Proc.tc.devRef main_v20) = Y at *
  have hX : Host.cos (F := Ideal) (s := S2048x16) (φ := .f32) X (ix2 n (quart d)) = (Real.cos (rowR n (quart d)) : EReal) := by
    show Ideal.cos (X (ix2 n (quart d))) = _
    rw [h1, Ideal.cos_coe]
  have hY : Host.cos (F := Ideal) (s := S2048x16) (φ := .f32) Y (ix2 n (quart d)) = (Real.cos (colR n (quart d)) : EReal) := by
    show Ideal.cos (Y (ix2 n (quart d))) = _
    rw [h2, Ideal.cos_coe]
  rw [cosR, ang]
  split_ifs <;> first | exact hX | exact hY | (exfalso; omega)

theorem tab_sin (c : Dev nD) (n : Fin 2048) (a : Fin 2) (d : Fin 64) :
    V m c main_v38 (ix2 n (lane a d)) = (sinR n d : EReal) := by
  rw [vals_eq, part5_v38, part4_v32, cat4, part3_v27, part3_v28, part3_v30, part3_v31, part2_v13, part1_v13, part2_v20]
  have h1 := tops_row (fun b => m (c, b)) n (quart d)
  have h2 := tops_col (fun b => m (c, b)) n (quart d)
  generalize tops (fun b => m (c, b)) (Proc.tc.devRef main_v13) = X at *
  generalize StableHlo.after part1 (tops fun b => m (c, b)) (Proc.tc.devRef main_v20) = Y at *
  have hX : Host.sin (F := Ideal) (s := S2048x16) (φ := .f32) X (ix2 n (quart d)) = (Real.sin (rowR n (quart d)) : EReal) := by
    show Ideal.sin (X (ix2 n (quart d))) = _
    rw [h1, Ideal.sin_coe]
  have hY : Host.sin (F := Ideal) (s := S2048x16) (φ := .f32) Y (ix2 n (quart d)) = (Real.sin (colR n (quart d)) : EReal) := by
    show Ideal.sin (Y (ix2 n (quart d))) = _
    rw [h2, Ideal.sin_coe]
  have nX : Host.negf (F := Ideal) (s := S2048x16) (φ := .f32) (Host.sin (F := Ideal) (s := S2048x16) (φ := .f32) X) (ix2 n (quart d))
      = ((-Real.sin (rowR n (quart d)) : ℝ) : EReal) := by
    show -(Host.sin (F := Ideal) (s := S2048x16) (φ := .f32) X (ix2 n (quart d))) = _
    rw [hX, EReal.coe_neg]
  have nY : Host.negf (F := Ideal) (s := S2048x16) (φ := .f32) (Host.sin (F := Ideal) (s := S2048x16) (φ := .f32) Y) (ix2 n (quart d))
      = ((-Real.sin (colR n (quart d)) : ℝ) : EReal) := by
    show -(Host.sin (F := Ideal) (s := S2048x16) (φ := .f32) Y (ix2 n (quart d))) = _
    rw [hY, EReal.coe_neg]
  rw [sinR, ang]
  have hd := d.isLt
  split_ifs <;> first | exact hX | exact hY | exact nX | exact nY | (exfalso; omega)

theorem gain_q (c : Dev nD) (a : Fin 2) (d : Fin 64) :
    V m c main_v42 (ix2 0 (lane a d)) = m ((c : Thread nD τ).loc main_arg1) (ix1 d) := by
  rw [vals_eq, part5_v42, part4_arg1, part3_arg1, part2_arg1, part1_arg1, tops, keep_3_arg1, keep_2_arg1, keep_1_arg1, keep_arg1]

theorem gain_k (c : Dev nD) (a : Fin 2) (d : Fin 64) :
    V m c main_v46 (ix2 0 (lane a d)) = m ((c : Thread nD τ).loc main_arg2) (ix1 d) := by
  rw [vals_eq, part5_v46, part4_arg2, part3_arg2, part2_arg2, part1_arg2, tops, keep_3_arg2, keep_2_arg2, keep_1_arg2, keep_arg2]

end Cert.AttnProof

end
-- ==== Proof.Attn.Kernel.lean ====
module

public import proofs.«01_k».proof.Proof.Attn.Formula
public import proofs.«01_k».proof.Proof.Attn.First
public import proofs.«01_k».proof.Proof.Attn.Tables

@[expose] public section

set_option maxRecDepth 16384

noncomputable section

open Idealize.ShloMosaic Idealize.ShloMosaic.TcCoe Idealize.SL.Sem
open Idealize.ShloMosaic.Pipeline (Dat)

/-! The kernel's result array after the run. -/

namespace Cert.AttnProof
open Cert.AttnIdeal Cert.AttnIdeal.Gen

/-- Which block each window reads or writes at a point. -/
theorem idx : ∀ t : Fin cfg0.N, win0_0.index t = ![t.val + 4, 0] ∧ win0_1.index t = ![t.val / 4, 4] ∧ win0_2.index t = ![1 + t.val / 4, 4]
    ∧ win0_3.index t = ![t.val / 4, 5] ∧ win0_4.index t = ![1 + t.val / 4, 5] ∧ win0_5.index t = ![t.val % 4, 0] ∧ win0_6.index t = ![t.val % 4, 0]
    ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

variable (m : (ℓ : Loc nD τ sig) → Buf (Elt Ideal) ℓ) (Q : Fin 18432 → Fin 768 → ℝ) (GQ GK : Fin 64 → ℝ) (c : Dev nD)

/-- The arguments' entries are these real numbers. -/
structure Args : Prop where
  q : ∀ i j, m ((c : Thread nD τ).loc main_arg0) (ix2 i j) = (Q i j : EReal)
  gq : ∀ d, m ((c : Thread nD τ).loc main_arg1) (ix1 d) = (GQ d : EReal)
  gk : ∀ d, m ((c : Thread nD τ).loc main_arg2) (ix1 d) = (GK d : EReal)

/-- The sample point `t` works on. -/
def smp (t : Fin cfg0.N) : Fin 8 := ⟨t.val / 4, by have := lt_of_lt_of_eq t.isLt N_0; omega⟩

/-- The token of row `i` of point `t`'s block. -/
def tok (t : Fin cfg0.N) (i : Fin 512) : Fin 2048 := ⟨t.val % 4 * 512 + i.val, by omega⟩

variable {m Q GQ GK c}

theorem read_ctx_k (H : Args m Q GQ GK c) (t : Fin cfg0.N) (i : Fin 256) (a : Fin 2) (d : Fin 64) :
    iblk m c 1 t (ix2 i (lane a d)) = (ctxR Q (smp t) 512 (by decide) i a d : EReal) := by
  obtain ⟨e0, e1, e2, e3, e4, e5, e6, e7, e8, e9, e10, e11⟩ := idx t
  refine Eq.trans ?_ (H.q _ _)
  blk_ext [iblk, V, e1, smp, lane]

theorem read_lat_k (H : Args m Q GQ GK c) (t : Fin cfg0.N) (i : Fin 2048) (a : Fin 2) (d : Fin 64) :
    iblk m c 2 t (ix2 i (lane a d)) = (latR Q (smp t) 512 (by decide) i a d : EReal) := by
  obtain ⟨e0, e1, e2, e3, e4, e5, e6, e7, e8, e9, e10, e11⟩ := idx t
  refine Eq.trans ?_ (H.q _ _)
  blk_ext [iblk, V, e2, smp, lane]

theorem read_ctx_v (H : Args m Q GQ GK c) (t : Fin cfg0.N) (i : Fin 256) (a : Fin 2) (d : Fin 64) :
    iblk m c 3 t (ix2 i (lane a d)) = (ctxR Q (smp t) 640 (by decide) i a d : EReal) := by
  obtain ⟨e0, e1, e2, e3, e4, e5, e6, e7, e8, e9, e10, e11⟩ := idx t
  refine Eq.trans ?_ (H.q _ _)
  blk_ext [iblk, V, e3, smp, lane]

theorem read_lat_v (H : Args m Q GQ GK c) (t : Fin cfg0.N) (i : Fin 2048) (a : Fin 2) (d : Fin 64) :
    iblk m c 4 t (ix2 i (lane a d)) = (latR Q (smp t) 640 (by decide) i a d : EReal) := by
  obtain ⟨e0, e1, e2, e3, e4, e5, e6, e7, e8, e9, e10, e11⟩ := idx t
  refine Eq.trans ?_ (H.q _ _)
  blk_ext [iblk, V, e4, smp, lane]

theorem read_q (H : Args m Q GQ GK c) (t : Fin cfg0.N) (i j : Fin 512) :
    X0_0 m c t (ix2 i j) = (Q ⟨2048 + (2048 * (smp t).val + (tok t i).val), by have := (smp t).isLt; have := (tok t i).isLt; omega⟩ ⟨j.val, by omega⟩ : EReal) := by
  obtain ⟨e0, e1, e2, e3, e4, e5, e6, e7, e8, e9, e10, e11⟩ := idx t
  refine Eq.trans ?_ (H.q _ _)
  unfold X0_0 Pipeline.Window.fill
  rw [dif_pos (moved0_0 t _)]
  blk_ext [iblk, V, e0, smp, tok]

theorem read_cq (t : Fin cfg0.N) (i : Fin 512) (a : Fin 2) (d : Fin 64) : iblk m c 5 t (ix2 i (lane a d)) = (cosR (tok t i) d : EReal) := by
  obtain ⟨e0, e1, e2, e3, e4, e5, e6, e7, e8, e9, e10, e11⟩ := idx t
  refine Eq.trans ?_ (tab_cos m c (tok t i) a d)
  blk_ext [iblk, e5, tok]

theorem read_sq (t : Fin cfg0.N) (i : Fin 512) (a : Fin 2) (d : Fin 64) : iblk m c 6 t (ix2 i (lane a d)) = (sinR (tok t i) d : EReal) := by
  obtain ⟨e0, e1, e2, e3, e4, e5, e6, e7, e8, e9, e10, e11⟩ := idx t
  refine Eq.trans ?_ (tab_sin m c (tok t i) a d)
  blk_ext [iblk, e6, tok]

theorem read_ck (t : Fin cfg0.N) (i : Fin 2048) (a : Fin 2) (d : Fin 64) : iblk m c 7 t (ix2 i (lane a d)) = (cosR i d : EReal) := by
  obtain ⟨e0, e1, e2, e3, e4, e5, e6, e7, e8, e9, e10, e11⟩ := idx t
  refine Eq.trans ?_ (tab_cos m c i a d)
  blk_ext [iblk, e7]

theorem read_sk (t : Fin cfg0.N) (i : Fin 2048) (a : Fin 2) (d : Fin 64) : iblk m c 8 t (ix2 i (lane a d)) = (sinR i d : EReal) := by
  obtain ⟨e0, e1, e2, e3, e4, e5, e6, e7, e8, e9, e10, e11⟩ := idx t
  refine Eq.trans ?_ (tab_sin m c i a d)
  blk_ext [iblk, e8]

theorem read_gq (H : Args m Q GQ GK c) (t : Fin cfg0.N) (a : Fin 2) (d : Fin 64) : iblk m c 9 t (ix2 0 (lane a d)) = (GQ d : EReal) := by
  obtain ⟨e0, e1, e2, e3, e4, e5, e6, e7, e8, e9, e10, e11⟩ := idx t
  refine Eq.trans ?_ ((gain_q m c a d).trans (H.gq d))
  blk_ext [iblk, e9]

theorem read_gk (H : Args m Q GQ GK c) (t : Fin cfg0.N) (a : Fin 2) (d : Fin 64) : iblk m c 10 t (ix2 0 (lane a d)) = (GK d : EReal) := by
  obtain ⟨e0, e1, e2, e3, e4, e5, e6, e7, e8, e9, e10, e11⟩ := idx t
  refine Eq.trans ?_ ((gain_k m c a d).trans (H.gk d))
  blk_ext [iblk, e10]

/-- What the two scratch arrays hold after point `n`: the keys and values of its sample. -/
theorem held (H : Args m Q GQ GK c) : ∀ (n : ℕ) (hn : n < cfg0.N) (s : Fin 2304) (a : Fin 2) (d : Fin 64),
    (outsAt0 m c n hn).2.1 (ix2 s (lane a d)) = (kR Q GK (smp ⟨n, hn⟩) a s d : EReal)
    ∧ (outsAt0 m c n hn).2.2 (ix2 s (lane a d)) = (vR Q (smp ⟨n, hn⟩) a s d : EReal) := by
  intro n
  induction n with
  | zero =>
    intro hn s a d
    exact ⟨key_A m c ⟨0, hn⟩ rfl _ _ _ _ _ (read_ctx_k H _) (read_lat_k H _) (read_gk H _) (read_ck _) (read_sk _) s a d,
      val_A m c ⟨0, hn⟩ rfl _ _ (read_ctx_v H _) (read_lat_v H _) s a d⟩
  | succ n ih =>
    intro hn s a d
    by_cases h : (n + 1) % 4 = 0
    · exact ⟨key_A m c ⟨n + 1, hn⟩ h _ _ _ _ _ (read_ctx_k H _) (read_lat_k H _) (read_gk H _) (read_ck _) (read_sk _) s a d,
        val_A m c ⟨n + 1, hn⟩ h _ _ (read_ctx_v H _) (read_lat_v H _) s a d⟩
    · have hp : n < cfg0.N := Nat.lt_of_succ_lt hn
      have es : smp ⟨n + 1, hn⟩ = smp ⟨n, hp⟩ := Fin.ext (by show (n + 1) / 4 = n / 4; omega)
      have e1 : (outsAt0 m c (n + 1) hn).2.1 = (outsAt0 m c n hp).2.1 := congrArg (fun z => z.2.1) (outsAt0_B m c ⟨n + 1, hn⟩ h)
      have e2 : (outsAt0 m c (n + 1) hn).2.2 = (outsAt0 m c n hp).2.2 := congrArg (fun z => z.2.2) (outsAt0_B m c ⟨n + 1, hn⟩ h)
      rw [es, e1, e2]
      exact ih hp s a d

/-- The block stored at point `t`. -/
theorem block (H : Args m Q GQ GK c) (t : Fin cfg0.N) :
    (outsAt0 m c t.val t.isLt).1 = fun y => (outR Q GQ GK (smp t) (tok t (y 0)) (y 1) : EReal) := by
  have e : (fun y : S512x512.Idx => (outR Q GQ GK (smp t) (tok t (y 0)) (y 1) : EReal)) = fun y => (blockR (fun i j =>
      Q ⟨2048 + (2048 * (smp t).val + (tok t i).val), by have := (smp t).isLt; have := (tok t i).isLt; omega⟩ ⟨j.val, by omega⟩)
      GQ (fun i => cosR (tok t i)) (fun i => sinR (tok t i)) (kR Q GK (smp t)) (vR Q (smp t)) (y 0) (y 1) : EReal) := by
    funext y; unfold outR blockR; rfl
  rw [e]
  by_cases h : t.val % 4 = 0
  · exact out_A m c t h _ GQ _ _ (kR Q GK (smp t)) (vR Q (smp t)) (read_q H t) (read_gq H t) (read_cq t) (read_sq t)
      (fun s a d => (held H t.val t.isLt s a d).1) (fun s a d => (held H t.val t.isLt s a d).2)
  · have hp : t.val - 1 < cfg0.N := Nat.lt_of_le_of_lt (Nat.sub_le _ _) t.isLt
    have es : smp ⟨t.val - 1, hp⟩ = smp t := Fin.ext (by show (t.val - 1) / 4 = t.val / 4; omega)
    exact out_B m c t h _ GQ _ _ (kR Q GK (smp t)) (vR Q (smp t)) (read_q H t) (read_gq H t) (read_cq t) (read_sq t)
      (fun s a d => es ▸ (held H _ hp s a d).1) (fun s a d => es ▸ (held H _ hp s a d).2)

/-- The result array of the run. -/
def res (Q : Fin 18432 → Fin 768 → ℝ) (GQ GK : Fin 64 → ℝ) (c : Dev nD) : Buf (Elt Ideal) ((c : Thread nD τ).loc main_v47) := fun i : S16384x512.Idx =>
  (outR Q GQ GK ⟨(i 0).val / 2048, by have : (i 0).val < 16384 := (i 0).isLt; omega⟩ ⟨(i 0).val % 2048, Nat.mod_lt _ (by decide)⟩ (i 1) : EReal)

theorem final (H : Args m Q GQ GK c) : (dats m 0 c).arrAt 11 cfg0.N = res Q GQ GK c := by
  refine (dats m 0 c).arrAt_eq_of_covers 11 _ (by decide +kernel) fun t hf y => ?_
  obtain ⟨e0, e1, e2, e3, e4, e5, e6, e7, e8, e9, e10, e11⟩ := idx t
  have hN : t.val < 32 := lt_of_lt_of_eq t.isLt N_0
  blk_simp
  rw [after0_11, block H t]
  obtain ⟨r, j, rfl⟩ : ∃ r j : Fin 512, y = ix2 r j := ⟨y 0, y 1, by funext a; fin_cases a <;> rfl⟩
  have hn : t.val * 512 + r.val < 16384 := by have := r.isLt; omega
  have hE : (win0_11.blk t).view.emb (ix2 r j) = ix2 (⟨t.val * 512 + r.val, hn⟩ : Fin 16384) j := by
    blk_ext [e11]
  show _ = res Q GQ GK c ((win0_11.blk t).view.emb (ix2 r j))
  rw [hE]
  show (outR Q GQ GK (smp t) (tok t r) j : EReal) = (outR Q GQ GK ⟨(t.val * 512 + r.val) / 2048, _⟩ ⟨(t.val * 512 + r.val) % 2048, _⟩ j : EReal)
  have hr := r.isLt
  congr 2
  · exact Fin.ext (by show t.val / 4 = (t.val * 512 + r.val) / 2048; omega)
  · exact Fin.ext (by show t.val % 4 * 512 + r.val = (t.val * 512 + r.val) % 2048; omega)

end Cert.AttnProof

end
-- ==== Proof.Attn.Reference.lean ====
module

public import proofs.«01_k».proof.Proof.Gen.AttnRefIdeal.Read
public import proofs.«01_k».proof.Proof.Attn.Formula
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.AttnProof
open Cert.AttnRefIdeal Cert.AttnRefIdeal.Gen Cert.AttnRefIdeal.Read

variable {x0 : FVec Ideal S18432x768 .f32} {x1 x2 : FVec Ideal S64 .f32} {Q : Fin 18432 → Fin 768 → ℝ} {GQ GK : Fin 64 → ℝ}

/-! ## The rows of the projection -/

theorem ref_ctx_k (h : ∀ i j, x0 (ix2 i j) = (Q i j : EReal)) (b : Fin 8) (i : Fin 256) (a : Fin 2) (d : Fin 64) :
    val_main_v5 (F := Ideal) x0 (ix4 b i a d) = (ctxR Q b 512 (by decide) i a d : EReal) := by
  pointwise [val_main_v5, val_main_v4, val_main_v1, val_main_v0]
  rw [h, ctxR]
  congr 3 <;> ring

theorem ref_ctx_v (h : ∀ i j, x0 (ix2 i j) = (Q i j : EReal)) (b : Fin 8) (i : Fin 256) (a : Fin 2) (d : Fin 64) :
    val_main_v7 (F := Ideal) x0 (ix4 b i a d) = (ctxR Q b 640 (by decide) i a d : EReal) := by
  pointwise [val_main_v7, val_main_v6, val_main_v1, val_main_v0]
  rw [h, ctxR]
  congr 3 <;> ring

theorem ref_lat_q (h : ∀ i j, x0 (ix2 i j) = (Q i j : EReal)) (b : Fin 8) (i : Fin 2048) (a : Fin 8) (d : Fin 64) :
    val_main_v11 (F := Ideal) x0 (ix4 b i a d) = (Q ⟨2048 + (2048 * b.val + i.val), by omega⟩ ⟨64 * a.val + d.val, by omega⟩ : EReal) := by
  pointwise [val_main_v11, val_main_v10, val_main_v9, val_main_v8]
  rw [h]
  congr 3 <;> ring

theorem ref_lat_k (h : ∀ i j, x0 (ix2 i j) = (Q i j : EReal)) (b : Fin 8) (i : Fin 2048) (a : Fin 2) (d : Fin 64) :
    val_main_v13 (F := Ideal) x0 (ix4 b i a d) = (latR Q b 512 (by decide) i a d : EReal) := by
  pointwise [val_main_v13, val_main_v12, val_main_v9, val_main_v8]
  rw [h, latR]
  congr 3 <;> ring

theorem ref_lat_v (h : ∀ i j, x0 (ix2 i j) = (Q i j : EReal)) (b : Fin 8) (i : Fin 2048) (a : Fin 2) (d : Fin 64) :
    val_main_v15 (F := Ideal) x0 (ix4 b i a d) = (latR Q b 640 (by decide) i a d : EReal) := by
  pointwise [val_main_v15, val_main_v14, val_main_v9, val_main_v8]
  rw [h, latR]
  congr 3 <;> ring

/-! ## Rows of unit mean square -/

theorem norm_eq (X : Fin 64 → EReal) (g : EReal) (x G : Fin 64 → ℝ) (d : Fin 64) (hx : ∀ d, X d = (x d : EReal)) (hg : g = (G d : EReal)) :
    X d * Ideal.rsqrt (Ideal.div (∑ e, X e * X e) (Ideal.ofBits .f32 0x42800000#32) + Ideal.ofBits .f32 0x358637BD#32) * g
      = (normR x G d : EReal) := by
  simp only [hx, hg, ← EReal.coe_mul]
  rw [← coe_sum, ofBits_64, ofBits_eps, div_real _ (by norm_num), ← EReal.coe_add, rsqrt_real (meanSq_pos _), ← EReal.coe_mul, ← EReal.coe_mul]
  rfl

theorem ref_norm_ctx (h : ∀ i j, x0 (ix2 i j) = (Q i j : EReal)) (hk : ∀ d, x2 (ix1 d) = (GK d : EReal)) (b : Fin 8) (i : Fin 256) (a : Fin 2) (d : Fin 64) :
    val_main_v49 (F := Ideal) x0 x2 (ix4 b i a d) = (normR (ctxR Q b 512 (by decide) i a) GK d : EReal) := by
  pointwise [val_main_v49, val_main_v48, val_main_v47, val_main_v46, val_main_v45, val_main_v44, val_main_v43, val_main_v42, val_main_v41, val_main_v40, val_main_v39, val_main_v38, val_main_v37, val_main_cst_2, val_main_cst_3, val_main_cst_4]
  exact norm_eq (fun d => val_main_v5 (F := Ideal) x0 (ix4 b i a d)) _ _ _ d (ref_ctx_k h b i a) (hk d)

theorem ref_norm_q (h : ∀ i j, x0 (ix2 i j) = (Q i j : EReal)) (hq : ∀ d, x1 (ix1 d) = (GQ d : EReal)) (b : Fin 8) (i : Fin 2048) (a : Fin 8) (d : Fin 64) :
    val_main_v62 (F := Ideal) x0 x1 (ix4 b i a d)
      = (normR (fun e => Q ⟨2048 + (2048 * b.val + i.val), by omega⟩ ⟨64 * a.val + e.val, by omega⟩) GQ d : EReal) := by
  pointwise [val_main_v62, val_main_v61, val_main_v60, val_main_v59, val_main_v58, val_main_v57, val_main_v56, val_main_v55, val_main_v54, val_main_v53, val_main_v52, val_main_v51, val_main_v50, val_main_cst_5, val_main_cst_6, val_main_cst_7]
  exact norm_eq (fun d => val_main_v11 (F := Ideal) x0 (ix4 b i a d)) _ _ _ d (ref_lat_q h b i a) (hq d)

theorem ref_norm_k (h : ∀ i j, x0 (ix2 i j) = (Q i j : EReal)) (hk : ∀ d, x2 (ix1 d) = (GK d : EReal)) (b : Fin 8) (i : Fin 2048) (a : Fin 2) (d : Fin 64) :
    val_main_v112 (F := Ideal) x0 x2 (ix4 b i a d) = (normR (latR Q b 512 (by decide) i a) GK d : EReal) := by
  pointwise [val_main_v112, val_main_v111, val_main_v110, val_main_v109, val_main_v108, val_main_v107, val_main_v106, val_main_v105, val_main_v104, val_main_v103, val_main_v102, val_main_v101, val_main_v100, val_main_cst_8, val_main_cst_9, val_main_cst_10]
  exact norm_eq (fun d => val_main_v13 (F := Ideal) x0 (ix4 b i a d)) _ _ _ d (ref_lat_k h b i a) (hk d)

/-! ## The angles -/

theorem ref_div (n : Fin 2048) : (val_main_v23 (F := Ideal) (ix1 n) : BitVec 32).toInt = ((n.val / 64 : ℕ) : ℤ) := by
  have e : val_main_call0_v0 (F := Ideal) = constantI S_ 32 64#32 := rfl
  pointwise [val_main_v23, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_v16, e]
  revert n
  decide +kernel

theorem ref_rem (n : Fin 2048) : (val_main_v30 (F := Ideal) (ix1 n) : BitVec 32).toInt = ((n.val % 64 : ℕ) : ℤ) := by
  have e : val_main_call1_v0 (F := Ideal) = constantI S_ 32 64#32 := rfl
  pointwise [val_main_v30, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_v14, val_main_call1_c, val_main_call1_c_0, val_main_call1_c_1, val_main_call1_c_2, val_main_call1_c_3, val_main_v16, e]
  revert n
  decide +kernel

theorem ref_row (n : Fin 2048) (k : Fin 16) : val_main_v29 (F := Ideal) (ix2 n k) = (rowR n k : EReal) := by
  pointwise [val_main_v29, val_main_v28, val_main_v27, val_main_v26, val_main_v25, val_main_v24, val_main_v22, val_main_v21, val_main_v20, val_main_v19, val_main_v18, val_main_v17, val_main_cst, val_main_cst_0]
  rw [freq_eq, sitofp_small _ _ (ref_div n), ← EReal.coe_mul]
  rfl

theorem ref_col (n : Fin 2048) (k : Fin 16) : val_main_v36 (F := Ideal) (ix2 n k) = (colR n k : EReal) := by
  pointwise [val_main_v36, val_main_v35, val_main_v34, val_main_v33, val_main_v32, val_main_v31, val_main_v22, val_main_v21, val_main_v20, val_main_v19, val_main_v18, val_main_v17, val_main_cst, val_main_cst_0]
  rw [freq_eq, sitofp_small _ _ (ref_rem n), ← EReal.coe_mul]
  rfl

/-! ## The turn -/

/-- The four quarters of a turned row, as the reference writes them. -/
theorem turn_eq (X : Fin 64 → EReal) (R C : Fin 16 → EReal) (x : Fin 64 → ℝ) (n : Fin 2048) (d : Fin 64) (hx : ∀ d, X d = (x d : EReal))
    (hr : ∀ k, R k = (rowR n k : EReal)) (hc : ∀ k, C k = (colR n k : EReal)) :
    (if h : d.val < 32 then
      if h1 : d.val < 16 then X d * Ideal.cos (R ⟨d.val, h1⟩) - X ⟨16 + d.val, by omega⟩ * Ideal.sin (R ⟨d.val, h1⟩)
      else X ⟨d.val - 16, by omega⟩ * Ideal.sin (R ⟨d.val - 16, by omega⟩) + X ⟨16 + (d.val - 16), by omega⟩ * Ideal.cos (R ⟨d.val - 16, by omega⟩)
    else
      if h1 : d.val - 32 < 16 then X ⟨32 + (d.val - 32), by omega⟩ * Ideal.cos (C ⟨d.val - 32, h1⟩) - X ⟨32 + (16 + (d.val - 32)), by omega⟩ * Ideal.sin (C ⟨d.val - 32, h1⟩)
      else X ⟨32 + (d.val - 32 - 16), by omega⟩ * Ideal.sin (C ⟨d.val - 32 - 16, by omega⟩)
        + X ⟨32 + (16 + (d.val - 32 - 16)), by omega⟩ * Ideal.cos (C ⟨d.val - 32 - 16, by omega⟩))
      = (turnR x (cosR n) (sinR n) d : EReal) := by
  have hd := d.isLt
  simp only [hx, hr, hc, Ideal.cos_coe, Ideal.sin_coe, ← EReal.coe_mul, ← EReal.coe_add, ← EReal.coe_sub]
  unfold turnR cosR sinR ang
  congr 1
  have ix : ∀ u v : Fin 64, u.val = v.val → x u = x v := fun u v h => congrArg x (Fin.ext h)
  by_cases h1 : d.val < 32
  · rw [dif_pos h1, if_pos h1]
    by_cases h2 : d.val < 16
    · have hq : quart d = ⟨d.val, h2⟩ := Fin.ext (Nat.mod_eq_of_lt h2)
      rw [dif_pos h2, if_pos (by omega), hq, ix (partner d) ⟨16 + d.val, by omega⟩ (by unfold partner; simp only; rw [if_pos (by omega)]; omega)]
      ring_nf
    · have hq : quart d = ⟨d.val - 16, by omega⟩ := Fin.ext (by unfold quart; simp only; omega)
      rw [dif_neg h2, if_neg (by omega), hq, ix (partner d) ⟨d.val - 16, by omega⟩ (by unfold partner; simp only; rw [if_neg (by omega)]),
        ix ⟨16 + (d.val - 16), by omega⟩ d (by simp only; omega)]
      ring_nf
  · rw [dif_neg h1, if_neg h1]
    by_cases h2 : d.val - 32 < 16
    · have hq : quart d = ⟨d.val - 32, h2⟩ := Fin.ext (by unfold quart; simp only; omega)
      rw [dif_pos h2, if_pos (by omega), hq, ix (partner d) ⟨32 + (16 + (d.val - 32)), by omega⟩ (by unfold partner; simp only; rw [if_pos (by omega)]; omega),
        ix ⟨32 + (d.val - 32), by omega⟩ d (by simp only; omega)]
      ring_nf
    · have hq : quart d = ⟨d.val - 32 - 16, by omega⟩ := Fin.ext (by unfold quart; simp only; omega)
      rw [dif_neg h2, if_neg (by omega), hq, ix (partner d) ⟨32 + (d.val - 32 - 16), by omega⟩ (by unfold partner; simp only; rw [if_neg (by omega)]; omega),
        ix ⟨32 + (16 + (d.val - 32 - 16)), by omega⟩ d (by simp only; omega)]
      ring_nf

theorem ref_turn_q (h : ∀ i j, x0 (ix2 i j) = (Q i j : EReal)) (hq : ∀ d, x1 (ix1 d) = (GQ d : EReal)) (b : Fin 8) (i : Fin 2048) (a : Fin 8) (d : Fin 64) :
    val_main_v99 (F := Ideal) x0 x1 (ix4 b i a d)
      = (turnR (normR (fun e => Q ⟨2048 + (2048 * b.val + i.val), by omega⟩ ⟨64 * a.val + e.val, by omega⟩) GQ) (cosR i) (sinR i) d : EReal) := by
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63]
  exact turn_eq (fun d => val_main_v62 (F := Ideal) x0 x1 (ix4 b i a d)) (fun k => val_main_v29 (F := Ideal) (ix2 i k))
    (fun k => val_main_v36 (F := Ideal) (ix2 i k)) _ i d (ref_norm_q h hq b i a) (ref_row i) (ref_col i)

theorem ref_turn_k (h : ∀ i j, x0 (ix2 i j) = (Q i j : EReal)) (hk : ∀ d, x2 (ix1 d) = (GK d : EReal)) (b : Fin 8) (i : Fin 2048) (a : Fin 2) (d : Fin 64) :
    val_main_v149 (F := Ideal) x0 x2 (ix4 b i a d) = (turnR (normR (latR Q b 512 (by decide) i a) GK) (cosR i) (sinR i) d : EReal) := by
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113]
  exact turn_eq (fun d => val_main_v112 (F := Ideal) x0 x2 (ix4 b i a d)) (fun k => val_main_v29 (F := Ideal) (ix2 i k))
    (fun k => val_main_v36 (F := Ideal) (ix2 i k)) _ i d (ref_norm_k h hk b i a) (ref_row i) (ref_col i)

/-! ## Keys and values -/

theorem ref_keys (h : ∀ i j, x0 (ix2 i j) = (Q i j : EReal)) (hk : ∀ d, x2 (ix1 d) = (GK d : EReal)) (b : Fin 8) (s : Fin 2304) (a : Fin 2) (d : Fin 64) :
    val_main_v150 (F := Ideal) x0 x2 (ix4 b s a d) = (kR Q GK b a s d : EReal) := by
  pointwise [val_main_v150]
  unfold kR keysR
  split_ifs with hs
  · exact ref_norm_ctx h hk _ _ _ _
  · exact ref_turn_k h hk _ _ _ _
  · rename_i hne; exact absurd rfl hne

theorem ref_vals (h : ∀ i j, x0 (ix2 i j) = (Q i j : EReal)) (b : Fin 8) (s : Fin 2304) (a : Fin 2) (d : Fin 64) :
    val_main_v151 (F := Ideal) x0 (ix4 b s a d) = (vR Q b a s d : EReal) := by
  pointwise [val_main_v151]
  unfold vR valsR
  split_ifs with hs
  · exact ref_ctx_v h _ _ _ _
  · exact ref_lat_v h _ _ _ _
  · rename_i hne; exact absurd rfl hne

/-! ## Scores -/

/-- The score of a query row against a key row. -/
def scoreR (Q : Fin 18432 → Fin 768 → ℝ) (GQ GK : Fin 64 → ℝ) (b : Fin 8) (a : Fin 2) (g : Fin 4) (n : Fin 2048) (s : Fin 2304) : ℝ :=
  (∑ e, turnR (normR (fun e => Q ⟨2048 + (2048 * b.val + n.val), by omega⟩ ⟨64 * (a.val * 4 + g.val) + e.val, by omega⟩) GQ) (cosR n) (sinR n) e
    * kR Q GK b a s e) / 8

theorem ref_score (h : ∀ i j, x0 (ix2 i j) = (Q i j : EReal)) (hq : ∀ d, x1 (ix1 d) = (GQ d : EReal)) (hk : ∀ d, x2 (ix1 d) = (GK d : EReal))
    (b : Fin 8) (a : Fin 2) (g : Fin 4) (n : Fin 2048) (s : Fin 2304) :
    val_main_v156 (F := Ideal) x0 x1 x2 (ix5 b a g n s) = (scoreR Q GQ GK b a g n s : EReal) := by
  pointwise [val_main_v156, val_main_v155, val_main_v154, val_main_v153, val_main_v152, val_main_cst_11]
  simp only [ref_keys h hk, ref_turn_q h hq, ← EReal.coe_mul]
  rw [← coe_sum, ofBits_8th, ← EReal.coe_mul, scoreR]
  congr 1
  rw [mul_one_div]
  congr 1
  exact Finset.sum_congr rfl fun e _ => mul_comm _ _

end Cert.AttnProof

end
-- ==== Proof.Attn.Softmax.lean ====
module

public import proofs.«01_k».proof.Proof.Gen.AttnRefIdeal.Read
public import proofs.«01_k».proof.Proof.Attn.Reference
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.AttnProof
open Cert.AttnRefIdeal Cert.AttnRefIdeal.Gen Cert.AttnRefIdeal.Read

variable {x0 : FVec Ideal S18432x768 .f32} {x1 x2 : FVec Ideal S64 .f32} {Q : Fin 18432 → Fin 768 → ℝ} {GQ GK : Fin 64 → ℝ}

theorem smax (b : Fin 8) (a : Fin 2) (g : Fin 4) (n : Fin 2048) :
    val_main_v157 (F := Ideal) x0 x1 x2 (ix4 b a g n)
      = Finset.fold max (Ideal.ofBits .f32 0xFF800000#32) (fun x => val_main_v156 (F := Ideal) x0 x1 x2 (ix5 b a g n x)) Finset.univ := by
  pointwise [val_main_v157, val_main_cst_12]

theorem sexp (b : Fin 8) (a : Fin 2) (g : Fin 4) (n : Fin 2048) (s : Fin 2304) :
    val_main_v163 (F := Ideal) x0 x1 x2 (ix5 b a g n s)
      = Ideal.exp (val_main_v156 (F := Ideal) x0 x1 x2 (ix5 b a g n s) - max (Ideal.ofBits .f32 0xFF800000#32) (val_main_v157 (F := Ideal) x0 x1 x2 (ix4 b a g n))) := by
  rw [val_main_v163_apply, val_main_v162_apply, val_main_v161_apply, val_main_v160_apply, val_main_v159_apply, val_main_v158_apply, val_main_cst_13_apply]
  have e : idx_main_v160 (idx_main_v161 (ix5 b a g n s)) = ix4 b a g n := by funext i; fin_cases i <;> rfl
  rw [e]
  generalize val_main_v157 (F := Ideal) x0 x1 x2 (ix4 b a g n) = M
  generalize val_main_v156 (F := Ideal) x0 x1 x2 (ix5 b a g n s) = Z
  rfl

theorem swt (b : Fin 8) (a : Fin 2) (g : Fin 4) (n : Fin 2048) (s : Fin 2304) :
    val_main_v167 (F := Ideal) x0 x1 x2 (ix5 b a g n s)
      = Ideal.div (val_main_v163 (F := Ideal) x0 x1 x2 (ix5 b a g n s)) (∑ s, val_main_v163 (F := Ideal) x0 x1 x2 (ix5 b a g n s)) := by
  pointwise [val_main_v167, val_main_v166, val_main_v165, val_main_v164, val_main_cst_14]

theorem sout (b : Fin 8) (a : Fin 2) (g : Fin 4) (n : Fin 2048) (d : Fin 64) :
    val_main_v168 (F := Ideal) x0 x1 x2 (ix5 b a d g n)
      = ∑ s, val_main_v151 (F := Ideal) x0 (ix4 b s a d) * val_main_v167 (F := Ideal) x0 x1 x2 (ix5 b a g n s) := by
  pointwise [val_main_v168]

/-- Means under weights: the reference's order of the products. -/
theorem mean_swap (z v : Fin 2304 → ℝ) (M : ℝ) :
    (∑ s, v s * (Real.exp (z s - M) / ∑ t, Real.exp (z t - M))) = attR z v := by
  rw [← attR_shift z v M, Finset.sum_div]
  exact Finset.sum_congr rfl fun s _ => by rw [← mul_div_assoc, mul_comm]

/-- The reference's attention of one row, from its scores and values. -/
theorem sattn (b : Fin 8) (a : Fin 2) (g : Fin 4) (n : Fin 2048) (d : Fin 64) (z v : Fin 2304 → ℝ)
    (hz : ∀ s, val_main_v156 (F := Ideal) x0 x1 x2 (ix5 b a g n s) = (z s : EReal))
    (hv : ∀ s, val_main_v151 (F := Ideal) x0 (ix4 b s a d) = (v s : EReal)) :
    val_main_v168 (F := Ideal) x0 x1 x2 (ix5 b a d g n) = (attR z v : EReal) := by
  obtain ⟨M, hM⟩ := fold_max (n := 2303) z
  have hm : val_main_v157 (F := Ideal) x0 x1 x2 (ix4 b a g n) = (M : EReal) := by
    rw [smax, ofBits_bot, ← hM]
    exact congrArg (fun f => Finset.fold max ⊥ f Finset.univ) (funext hz)
  have he : ∀ s, val_main_v163 (F := Ideal) x0 x1 x2 (ix5 b a g n s) = ((Real.exp (z s - M) : ℝ) : EReal) := fun s => by
    rw [sexp, hz, hm, ofBits_bot, max_eq_right bot_le, ← EReal.coe_sub, Ideal.exp_coe]
  rw [sout, ← mean_swap z v M, coe_sum]
  refine Finset.sum_congr rfl fun s _ => ?_
  rw [hv, swt, he, Finset.sum_congr rfl fun t _ => he t, ← coe_sum, div_real _ (expSum_pos (n := 2303) _).ne', ← EReal.coe_mul]

/-- The reference's result at row `r`, lane `j`. -/
theorem ref_out (h : ∀ i j, x0 (ix2 i j) = (Q i j : EReal)) (hq : ∀ d, x1 (ix1 d) = (GQ d : EReal)) (hk : ∀ d, x2 (ix1 d) = (GK d : EReal))
    (r : Fin 16384) (j : Fin 512) :
    val_main_v171 (F := Ideal) x0 x1 x2 (ix2 r j)
      = (outR Q GQ GK ⟨r.val / 2048, by omega⟩ ⟨r.val % 2048, Nat.mod_lt _ (by decide)⟩ j : EReal) := by
  pointwise [val_main_v171, val_main_v170, val_main_v169]
  refine (sattn _ _ _ _ _ _ _ (fun s => ref_score h hq hk _ _ _ _ s) (fun s => ref_vals h _ _ _ _)).trans ?_
  have e : ∀ k : Fin 64, (64 * (j.val / 256 * 4 + j.val / 64 % 4) + k.val) = 64 * (j.val / 64) + k.val := fun k => by omega
  unfold outR headR
  refine congrArg (fun f => ((attR f _ : ℝ) : EReal)) (funext fun s => ?_)
  simp only [scoreR, e]
  rfl

end Cert.AttnProof

end
-- ==== Proof.Attn.Claims.lean ====
module

public import proofs.«01_k».proof.Defs
public import proofs.«01_k».proof.Proof.Gen.Attn.Frame
public import proofs.«01_k».proof.Proof.Gen.AttnIdeal.Frame
public import proofs.«01_k».proof.Proof.Gen.Pre_finite
public import proofs.«01_k».proof.Proof.Attn.Kernel
public import proofs.«01_k».proof.Proof.Attn.Softmax
public import Idealize.ShloMosaic.Lib.Quiescent
public import Idealize.ShloMosaic.Lib.ReduceAll

@[expose] public section

noncomputable section

open Idealize.ShloMosaic Idealize.ShloMosaic.TcCoe Idealize.SL.Sem

/-! The five claims about the attention. -/

namespace Cert.AttnProof

/-- The kernel ends quiescent, its arguments unchanged. -/
theorem frame_k : Cert.quiescent_Attn := fun m ρ _ => Cert.Attn.Gen.frame m ρ

/-- So does the kernel over the extended reals. -/
theorem frame_ki : Cert.quiescent_AttnIdeal := fun m ρ _ => Cert.AttnIdeal.Gen.frame m ρ

theorem frame_ki_finite : Cert.quiescent_AttnIdeal_pre_finite := fun m ρ _ => Cert.AttnIdeal.Gen.frame m ρ

/-- So does the reference; it declares no semaphore. -/
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

theorem frame_ri_finite : Cert.quiescent_AttnRefIdeal_pre_finite := fun m ρ _ => frame_ri m ρ trivial

/-- The rounded scale of the queries stands for its exact value. -/
theorem preserved : Cert.preserves_Attn_AttnIdeal := IdealRules.named_const.statement _ _ _ _ _ rfl

/-- An extended real whose magnitude compares below infinity is real. -/
theorem real_of_lt {x : Ideal .f32} (h : FloatOps.cmpf .olt (FloatOps.hostAbsf x) (FloatOps.ofBits (F := Ideal) .f32 0x7F800000#32) = 1#1) :
    x = ((EReal.toReal x : ℝ) : EReal) := by
  rw [← Ideal.xori_weird_eq_hostAbsf_olt_inf] at h
  have hw : ¬ ((x : EReal) = ⊤ ∨ (x : EReal) = ⊥) := fun hx => by
    have : FloatOps.weird x = 1#1 := by
      show BitVec.ofBool (decide ((x : EReal) = ⊤ ∨ (x : EReal) = ⊥)) = 1#1
      rw [decide_eq_true hx]; rfl
    rw [this] at h
    exact absurd h (by decide)
  push Not at hw
  exact (EReal.coe_toReal hw.1 hw.2).symm

/-- Under the precondition every entry of the three arrays is real. -/
theorem real_of_finite {x : FVec Ideal Cert.Pre_finite.S18432x768 .f32} {y z : FVec Ideal Cert.Pre_finite.S64 .f32}
    (h : Cert.Pre_finite.fn (F := Ideal) x y z = fun _ => 1#1) :
    (∀ i, x i = ((EReal.toReal (x i) : ℝ) : EReal)) ∧ (∀ i, y i = ((EReal.toReal (y i) : ℝ) : EReal))
      ∧ ∀ i, z i = ((EReal.toReal (z i) : ℝ) : EReal) := by
  have e := congrFun h ix0
  obtain ⟨e, e3⟩ := IntOp.andi_eq_one.1 e
  obtain ⟨e1, e2⟩ := IntOp.andi_eq_one.1 e
  haveI : Subsingleton Cert.Pre_finite.S_.Idx := ⟨fun a b => funext fun k => k.elim0⟩
  exact ⟨fun i => real_of_lt (Host.reduce_andi_all _ _ _ _ _ e1 i), fun i => real_of_lt (Host.reduce_andi_all _ _ _ _ _ e2 i),
    fun i => real_of_lt (Host.reduce_andi_all _ _ _ _ _ e3 i)⟩

variable (m : (ℓ : Loc Cert.AttnIdeal.nD Cert.AttnIdeal.τ Cert.AttnIdeal.sig) → Buf (Elt Ideal) ℓ) (c : Dev Cert.AttnIdeal.nD)

/-- The entries of the projected queries, keys and values, as reals. -/
def entQ (i : Fin 18432) (j : Fin 768) : ℝ :=
  EReal.toReal (m ((c.tc : Thread Cert.AttnIdeal.nD Cert.AttnIdeal.τ).loc Cert.AttnIdeal.main_arg0) (ix2 i j))

/-- The gains of the queries. -/
def entGQ (d : Fin 64) : ℝ :=
  EReal.toReal (m ((c.tc : Thread Cert.AttnIdeal.nD Cert.AttnIdeal.τ).loc Cert.AttnIdeal.main_arg1) (ix1 d))

/-- The gains of the keys. -/
def entGK (d : Fin 64) : ℝ :=
  EReal.toReal (m ((c.tc : Thread Cert.AttnIdeal.nD Cert.AttnIdeal.τ).loc Cert.AttnIdeal.main_arg2) (ix1 d))

theorem args (h : Cert.Pre_AttnIdeal_finite m) : Args m (entQ m c) (entGQ m c) (entGK m c) c :=
  have hr := real_of_finite (h c)
  ⟨fun _ _ => hr.1 _, fun _ => hr.2.1 _, fun _ => hr.2.2 _⟩

/-- Kernel and reference leave the same result: both leave the attention of the arguments' entries. -/
theorem value : Cert.algebraic_AttnIdeal_AttnRefIdeal_pre_finite := by
  intro m ρ m' ρ' hpre hagree
  refine ⟨fun c => res (entQ m c) (entGQ m c) (entGK m c) c, ?_, ?_⟩
  · exact (θ_run Cert.AttnIdeal.defs _ _).mono (fun _ h c => ⟨(h c).1.trans (final (args m c hpre)), (h c).2⟩)
      (Cert.AttnIdeal.Value.run_blocks (F := Ideal) m ρ)
  · refine (θ_run Cert.AttnRefIdeal.defs _ _).mono
      (fun _ h c => ⟨((h c).1.trans (Cert.AttnRefIdeal.Read.val_main_v171_eq _)).trans ?_, (h c).2⟩)
      (Cert.AttnRefIdeal.Value.run (F := Ideal) m' ρ')
    obtain ⟨a0, a1, a2⟩ := hagree c
    funext i
    have e : i = ix2 (i 0) (i 1) := by funext a; fin_cases a <;> rfl
    rw [e]
    exact ref_out (fun i j => (congrFun a0 _).trans ((args m c hpre).q i j)) (fun d => (congrFun a1 _).trans ((args m c hpre).gq d))
      (fun d => (congrFun a2 _).trans ((args m c hpre).gk d)) (i 0) (i 1)

end Cert.AttnProof

end
-- ==== Proof.Mlp.Row.lean ====
module

public import Idealize.ShloMosaic.Lib.Pointwise

@[expose] public section

noncomputable section

open Idealize.ShloMosaic

/-! The out-projection, the two residual updates and the MLP for ONE token, as functions of the token's rows. -/

namespace Cert.MlpProof

/-- A row of `1024` values, RMS-normalised and multiplied by a gain. -/
def rms (f g : Fin 1024 → EReal) (j : Fin 1024) : EReal :=
  f j * Ideal.rsqrt (Ideal.div (∑ k, f k * f k) (Ideal.ofBits .f32 1149239296#32) + Ideal.ofBits .f32 897988541#32) * g j

/-- The out-projection of the two mixed halves: the first half of the weight's rows for `a`, the second for `b`. -/
def outp (a b : Fin 512 → EReal) (wo : Fin 1024 → Fin 1024 → EReal) (j : Fin 1024) : EReal :=
  (∑ k : Fin 512, a k * wo ⟨k, by omega⟩ j) + ∑ k : Fin 512, b k * wo ⟨512 + k, by omega⟩ j

/-- A residual update: the row plus the gated normalised update. -/
def resid (h o m g : Fin 1024 → EReal) (j : Fin 1024) : EReal := h j + m j * rms o g j

/-- The modulated normalised row that the MLP reads. -/
def modu (x g sh sc : Fin 1024 → EReal) (j : Fin 1024) : EReal := rms x g j * (1 + sc j) + sh j

/-- One hidden unit before squaring: the rectified product of the row with a column of the first weight. -/
def hid (u : Fin 1024 → EReal) (w1 : Fin 1024 → Fin 4096 → EReal) (d : Fin 4096) : EReal := max (∑ k, u k * w1 k d) 0

/-- The MLP's product with the second weight, as the sum of the two halves of the hidden units. -/
def mlp (u : Fin 1024 → EReal) (w1 : Fin 1024 → Fin 4096 → EReal) (w2 : Fin 4096 → Fin 1024 → EReal) (j : Fin 1024) : EReal :=
  (∑ d : Fin 2048, hid u w1 ⟨d, by omega⟩ * hid u w1 ⟨d, by omega⟩ * w2 ⟨d, by omega⟩ j)
    + ∑ d : Fin 2048, hid u w1 ⟨2048 + d, by omega⟩ * hid u w1 ⟨2048 + d, by omega⟩ * w2 ⟨2048 + d, by omega⟩ j

/-- The row after the out-projection's residual update. -/
def mid (a b : Fin 512 → EReal) (h m2 g0 : Fin 1024 → EReal) (wo : Fin 1024 → Fin 1024 → EReal) : Fin 1024 → EReal :=
  resid h (outp a b wo) m2 g0

/-- The token's row after the out-projection, the MLP and both residual updates. -/
def fin (a b : Fin 512 → EReal) (h m2 m3 m4 m5 g0 g1 g2 : Fin 1024 → EReal) (wo : Fin 1024 → Fin 1024 → EReal)
    (w1 : Fin 1024 → Fin 4096 → EReal) (w2 : Fin 4096 → Fin 1024 → EReal) : Fin 1024 → EReal :=
  resid (mid a b h m2 g0 wo) (mlp (modu (mid a b h m2 g0 wo) g1 m3 m4) w1 w2) m5 g2

/-- A sum over `n + n` terms is the sum of its two halves. -/
theorem sum_halves (n : ℕ) (N : ℕ) (hN : N = n + n) (f : Fin N → EReal) :
    ∑ k, f k = (∑ k : Fin n, f ⟨k, by omega⟩) + ∑ k : Fin n, f ⟨n + k, by omega⟩ := by
  subst hN
  exact Fin.sum_univ_add f

/-- The two halves of the MLP's sum are one sum over all hidden units. -/
theorem mlp_eq (u : Fin 1024 → EReal) (w1 : Fin 1024 → Fin 4096 → EReal) (w2 : Fin 4096 → Fin 1024 → EReal) (j : Fin 1024) :
    mlp u w1 w2 j = ∑ d, hid u w1 d * hid u w1 d * w2 d j :=
  (sum_halves 2048 4096 rfl fun d => hid u w1 d * hid u w1 d * w2 d j).symm

/-- The out-projection's two sums are one sum over the two mixed halves side by side. -/
theorem outp_eq (a b : Fin 512 → EReal) (wo : Fin 1024 → Fin 1024 → EReal) (j : Fin 1024) (ab : Fin 1024 → EReal)
    (ha : ∀ k : Fin 512, ab ⟨k, by omega⟩ = a k) (hb : ∀ k : Fin 512, ab ⟨512 + k, by omega⟩ = b k) :
    outp a b wo j = ∑ k, ab k * wo k j := by
  rw [sum_halves 512 1024 rfl]
  simp only [ha, hb, outp]

end Cert.MlpProof

end
-- ==== Proof.Mlp.Block.lean ====
module

public import proofs.«01_k».proof.Proof.Mlp.Row
public import proofs.«01_k».proof.Proof.Gen.MlpIdeal.Value

@[expose] public section

noncomputable section

open Idealize.ShloMosaic Idealize.ShloMosaic.TcCoe

/-! What the body stores at a grid point, read at an index: each row of the block is the token function `fin` of the rows
    of the blocks it read. -/

namespace Cert.MlpProof
open Cert.MlpIdeal Cert.MlpIdeal.Gen

/-- Whether the point's rows are the context's (the first four points) or the latents'. -/
def isCtx (i : grid0.Coords) : BitVec 1 := Scalar.cmpi .slt (Scalar.addi (BitVec.ofNat 32 (i 0).val) 0#32) 4#32

/-- The product with the out-projection's weight, at an index. -/
theorem pay1 (i : grid0.Coords) (v2 v3 v7 v8 : Vec Ideal S512x512 .bf16) (v11 v14 : Vec Ideal S1x512x1024 .bf16)
    (wo : Fin 1024 → Fin 1024 → EReal) (h1 : ∀ (k : Fin 512) (j : Fin 1024), v11 (ix3 0 k j) = wo ⟨k, by omega⟩ j)
    (h2 : ∀ (k : Fin 512) (j : Fin 1024), v14 (ix3 0 k j) = wo ⟨512 + k, by omega⟩ j) (r : Fin 512) (j : Fin 1024) :
    k0_pay1 (F := Ideal) i v2 v3 v7 v8 v11 v14 (ix2 r j)
      = outp (fun k => Scalar.select (isCtx i) (v2 (ix2 r k)) (v3 (ix2 r k)))
          (fun k => Scalar.select (isCtx i) (v7 (ix2 r k)) (v8 (ix2 r k))) wo j := by
  pointwise [k0_pay1]
  simp only [h1, h2, outp, isCtx]

/-- The row after the first residual update, at an index. -/
theorem pay5 (i : grid0.Coords) (v2 v3 v7 v8 : Vec Ideal S512x512 .bf16) (v11 v14 : Vec Ideal S1x512x1024 .bf16)
    (v10 : Vec Ideal S512x1024 .f32) (v18 : Vec Ideal S1x1x1x1024 .f32) (v20 : Vec Ideal S1x1x1024 .f32) (r : Fin 512) (j : Fin 1024) :
    k0_pay5 (F := Ideal) v10 (k0_pay1 i v2 v3 v7 v8 v11 v14) (k0_pay2 v18) (k0_pay3 v20) (k0_pay4 i v2 v3 v7 v8 v11 v14)
        (Scalar.ofBits .f32 0x358637BD#32) (ix2 r j)
      = resid (fun j => v10 (ix2 r j)) (fun j => k0_pay1 i v2 v3 v7 v8 v11 v14 (ix2 r j)) (fun j => v18 (ix4 0 0 0 j))
          (fun j => v20 (ix3 0 0 j)) j := by
  pointwise [k0_pay5, k0_pay2, k0_pay3, k0_pay4]
  rfl

/-- The modulated row the MLP reads, at an index. -/
theorem pay6 (v10 v17 : FVec Ideal S512x1024 .f32) (v19 v21 : FVec Ideal S1x1024 .f32) (v26 : FVec Ideal S512x1 .f32)
    (cst : Ideal .f32) (v37 : Vec Ideal S1x1x1024 .f32) (v51 v57 : Vec Ideal S1x1x1x1024 .f32) (r : Fin 512) (j : Fin 1024) :
    k0_pay6 (F := Ideal) v10 v17 v19 v21 v26 cst v37 v51 v57 (ix2 r j)
      = modu (fun j => k0_pay5 v10 v17 v19 v21 v26 cst (ix2 r j)) (fun j => v37 (ix3 0 0 j)) (fun j => v57 (ix4 0 0 0 j))
          (fun j => v51 (ix4 0 0 0 j)) j := by
  pointwise [k0_pay6]
  rfl

/-- A hidden unit of the first half, at an index. -/
theorem pay7 (v10 v17 : FVec Ideal S512x1024 .f32) (v19 v21 : FVec Ideal S1x1024 .f32) (v26 : FVec Ideal S512x1 .f32)
    (cst : Ideal .f32) (v37 : Vec Ideal S1x1x1024 .f32) (v51 v57 : Vec Ideal S1x1x1x1024 .f32) (v62 : Vec Ideal S1x1024x2048 .bf16)
    (r : Fin 512) (d : Fin 2048) :
    k0_pay7 (F := Ideal) v10 v17 v19 v21 v26 cst v37 v51 v57 v62 (ix2 r d)
      = max (∑ k, k0_pay6 (F := Ideal) v10 v17 v19 v21 v26 cst v37 v51 v57 (ix2 r k) * v62 (ix3 0 k d)) 0 := by
  pointwise [k0_pay7]

/-- The stored row, at an index, over the row after the first update, the MLP's input row and its first hidden half. -/
theorem pay8 (v36 : FVec Ideal S512x1024 .f32) (v61 : FVec Ideal S512x1024 .bf16) (v66 : FVec Ideal S512x2048 .f32)
    (v69 v79 : Vec Ideal S1x2048x1024 .bf16) (v72 : Vec Ideal S1x1024x2048 .bf16) (v83 : Vec Ideal S1x1x1x1024 .f32)
    (v85 : Vec Ideal S1x1x1024 .f32) (r : Fin 512) (j : Fin 1024) (u : Fin 1024 → EReal)
    (w1 : Fin 1024 → Fin 4096 → EReal) (w2 : Fin 4096 → Fin 1024 → EReal)
    (hu : ∀ k, v61 (ix2 r k) = u k)
    (h66 : ∀ d : Fin 2048, v66 (ix2 r d) = hid u w1 ⟨d, by omega⟩)
    (h72 : ∀ (k : Fin 1024) (d : Fin 2048), v72 (ix3 0 k d) = w1 k ⟨2048 + d, by omega⟩)
    (h69 : ∀ (d : Fin 2048) (j : Fin 1024), v69 (ix3 0 d j) = w2 ⟨d, by omega⟩ j)
    (h79 : ∀ (d : Fin 2048) (j : Fin 1024), v79 (ix3 0 d j) = w2 ⟨2048 + d, by omega⟩ j) :
    k0_pay8 (F := Ideal) v36 v61 v66 v69 v72 v79 v83 v85 (ix2 r j)
      = resid (fun j => v36 (ix2 r j)) (mlp u w1 w2) (fun j => v83 (ix4 0 0 0 j)) (fun j => v85 (ix3 0 0 j)) j := by
  pointwise [k0_pay8]
  simp only [hu, h66, h72, h69, h79]
  rfl

/-- The stored value over the loads it is computed from, at an index: the token function of their rows. -/
theorem chain (i : grid0.Coords) (v2 v3 v7 v8 : Vec Ideal S512x512 .bf16) (v10 : Vec Ideal S512x1024 .f32)
    (v11 v14 : Vec Ideal S1x512x1024 .bf16) (v18 v51 v57 v83 : Vec Ideal S1x1x1x1024 .f32) (v20 v37 v85 : Vec Ideal S1x1x1024 .f32)
    (v62 v72 : Vec Ideal S1x1024x2048 .bf16) (v69 v79 : Vec Ideal S1x2048x1024 .bf16)
    (wo : Fin 1024 → Fin 1024 → EReal) (w1 : Fin 1024 → Fin 4096 → EReal) (w2 : Fin 4096 → Fin 1024 → EReal)
    (h11 : ∀ (k : Fin 512) (j : Fin 1024), v11 (ix3 0 k j) = wo ⟨k, by omega⟩ j)
    (h14 : ∀ (k : Fin 512) (j : Fin 1024), v14 (ix3 0 k j) = wo ⟨512 + k, by omega⟩ j)
    (h62 : ∀ (k : Fin 1024) (d : Fin 2048), v62 (ix3 0 k d) = w1 k ⟨d, by omega⟩)
    (h72 : ∀ (k : Fin 1024) (d : Fin 2048), v72 (ix3 0 k d) = w1 k ⟨2048 + d, by omega⟩)
    (h69 : ∀ (d : Fin 2048) (j : Fin 1024), v69 (ix3 0 d j) = w2 ⟨d, by omega⟩ j)
    (h79 : ∀ (d : Fin 2048) (j : Fin 1024), v79 (ix3 0 d j) = w2 ⟨2048 + d, by omega⟩ j) (r : Fin 512) (j : Fin 1024) :
    k0_pay8 (F := Ideal)
        (k0_pay5 v10 (k0_pay1 i v2 v3 v7 v8 v11 v14) (k0_pay2 v18) (k0_pay3 v20) (k0_pay4 i v2 v3 v7 v8 v11 v14) (Scalar.ofBits .f32 0x358637BD#32))
        (k0_pay6 v10 (k0_pay1 i v2 v3 v7 v8 v11 v14) (k0_pay2 v18) (k0_pay3 v20) (k0_pay4 i v2 v3 v7 v8 v11 v14) (Scalar.ofBits .f32 0x358637BD#32) v37 v51 v57)
        (k0_pay7 v10 (k0_pay1 i v2 v3 v7 v8 v11 v14) (k0_pay2 v18) (k0_pay3 v20) (k0_pay4 i v2 v3 v7 v8 v11 v14) (Scalar.ofBits .f32 0x358637BD#32) v37 v51 v57 v62)
        v69 v72 v79 v83 v85 (ix2 r j)
      = fin (fun k => Scalar.select (isCtx i) (v2 (ix2 r k)) (v3 (ix2 r k)))
          (fun k => Scalar.select (isCtx i) (v7 (ix2 r k)) (v8 (ix2 r k))) (fun j => v10 (ix2 r j))
          (fun j => v18 (ix4 0 0 0 j)) (fun j => v57 (ix4 0 0 0 j)) (fun j => v51 (ix4 0 0 0 j)) (fun j => v83 (ix4 0 0 0 j))
          (fun j => v20 (ix3 0 0 j)) (fun j => v37 (ix3 0 0 j)) (fun j => v85 (ix3 0 0 j)) wo w1 w2 j := by
  refine (pay8 _ _ _ _ _ _ _ _ r j _ w1 w2 (fun k => rfl) (fun d => ?_) h72 h69 h79).trans ?_
  · rw [pay7]; simp only [h62]; rfl
  · simp only [pay6, pay5, pay1 i v2 v3 v7 v8 v11 v14 wo h11 h14]
    rfl

/-- The block a point stores, at an index: the token function of the rows of the blocks it read. -/
theorem out_apply (i : grid0.Coords) (x0 x1 x2 x3 : Vec Ideal S512x512 .bf16) (x4 : Vec Ideal S512x1024 .f32)
    (x5 : Vec Ideal S1x1x6x1024 .f32) (x6 x7 x8 : Vec Ideal S1x1x1024 .f32) (x9 : Vec Ideal S1x1024x1024 .bf16)
    (x10 : Vec Ideal S1x1024x4096 .bf16) (x11 : Vec Ideal S1x4096x1024 .bf16) (r : Fin 512) (j : Fin 1024) :
    out0_12 (F := Ideal) i x0 x1 x2 x3 x4 x5 x6 x7 x8 x9 x10 x11 (ix2 r j)
      = fin (fun k => Scalar.select (isCtx i) (x0 (ix2 r k)) (x1 (ix2 r k)))
          (fun k => Scalar.select (isCtx i) (x2 (ix2 r k)) (x3 (ix2 r k))) (fun j => x4 (ix2 r j))
          (fun j => x5 (ix4 0 0 2 j)) (fun j => x5 (ix4 0 0 3 j)) (fun j => x5 (ix4 0 0 4 j)) (fun j => x5 (ix4 0 0 5 j))
          (fun j => x6 (ix3 0 0 j)) (fun j => x7 (ix3 0 0 j)) (fun j => x8 (ix3 0 0 j))
          (fun k j => x9 (ix3 0 k j)) (fun k d => x10 (ix3 0 k d)) (fun d j => x11 (ix3 0 d j)) j := by
  unfold_out out0_12
  rw [View.canon_unit_zero (by decide)]
  refine (chain i _ _ _ _ _ _ _ _ _ _ _ _ _ _ _ _ _ _ (fun k j => x9 (ix3 0 k j)) (fun k d => x10 (ix3 0 k d))
    (fun d j => x11 (ix3 0 d j)) (fun k j => ?_) (fun k j => ?_) (fun k j => ?_) (fun k j => ?_) (fun k j => ?_) (fun k j => ?_) r j).trans ?_
  all_goals pointwise

end Cert.MlpProof

end
-- ==== Proof.Mlp.Kernel.lean ====
module

public import proofs.«01_k».proof.Proof.Mlp.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The kernel's result array after the run: the token function of the argument arrays, at every token. -/

namespace Cert.MlpProof
open Cert.MlpIdeal Cert.MlpIdeal.Gen

/-- The mixed row of token `n`: the context's array for the first 2048 tokens, then the latents'. -/
def half (x : FVec Ideal S2048x512 .bf16) (y : FVec Ideal S16384x512 .bf16) (n : Fin 18432) (k : Fin 512) : EReal :=
  if h : n.val < 2048 then x (ix2 ⟨n, h⟩ k) else y (ix2 ⟨n - 2048, by omega⟩ k)

/-- The modulation row of token `n`: row 8 for the context, else the token's sample. -/
def smp (n : Fin 18432) : Fin 16 := ⟨if n.val < 2048 then 8 else (n.val - 2048) / 2048, by split <;> omega⟩

/-- The result as one function of the argument arrays: the token function at every token. -/
def G (x0 : FVec Ideal S2048x512 .bf16) (x1 : FVec Ideal S16384x512 .bf16) (x2 : FVec Ideal S2048x512 .bf16)
    (x3 : FVec Ideal S16384x512 .bf16) (x4 : FVec Ideal S18432x1024 .f32) (x5 : FVec Ideal S4x16x6x1024 .f32)
    (x6 x7 x8 : FVec Ideal S4x1024 .f32) (x9 : FVec Ideal S4x1024x1024 .f32) (x10 : FVec Ideal S4x1024x4096 .f32)
    (x11 : FVec Ideal S4x4096x1024 .f32) (n : Fin 18432) (j : Fin 1024) : EReal :=
  fin (half x0 x1 n) (half x2 x3 n) (fun j => x4 (ix2 n j)) (fun j => x5 (ix4 1 (smp n) 2 j)) (fun j => x5 (ix4 1 (smp n) 3 j))
    (fun j => x5 (ix4 1 (smp n) 4 j)) (fun j => x5 (ix4 1 (smp n) 5 j)) (fun j => x6 (ix2 1 j)) (fun j => x7 (ix2 1 j))
    (fun j => x8 (ix2 1 j)) (fun k j => x9 (ix3 1 k j)) (fun k d => x10 (ix3 1 k d)) (fun d j => x11 (ix3 1 d j)) j

/-- Which block each window reads or writes at a point. -/
theorem idx : ∀ t : Fin cfg0.N, win0_0.index t = ![min t.val 3, 0] ∧ win0_1.index t = ![t.val - 4, 0] ∧ win0_2.index t = ![min t.val 3, 0]
    ∧ win0_3.index t = ![t.val - 4, 0] ∧ win0_4.index t = ![t.val, 0]
    ∧ win0_5.index t = ![1, if t.val < 4 then 8 else (t.val - 4) / 4, 0, 0] ∧ win0_6.index t = ![1, 0, 0] ∧ win0_7.index t = ![1, 0, 0]
    ∧ win0_8.index t = ![1, 0, 0] ∧ win0_9.index t = ![1, 0, 0] ∧ win0_10.index t = ![1, 0, 0] ∧ win0_11.index t = ![1, 0, 0]
    ∧ win0_12.index t = ![t.val, 0] :=
  (by decide +kernel : ∀ t : Fin grid0.N, _)

/-- The body takes the context's blocks at the first four points. -/
theorem isCtx_eq : ∀ t : Fin cfg0.N, isCtx (grid0.coords t) = if t.val < 4 then 1#1 else 0#1 :=
  (by decide +kernel : ∀ t : Fin grid0.N, _)

variable (m : (ℓ : Loc nD τ sig) → Buf (Elt Ideal) ℓ)

/-- The result array of the run. -/
abbrev res (c : Dev nD) : Buf (Elt Ideal) ((c : Thread nD τ).loc main_v6) := fun i : S18432x1024.Idx =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (i 0) (i 1)

set_option maxHeartbeats 4000000 in
/-- The output blocks tile the result array and each is the token function of its rows. -/
theorem final (c : Dev nD) : (dats m 0 c).arrAt 12 cfg0.N = res m c := by
  refine (dats m 0 c).arrAt_eq_of_covers 12 _ (by decide +kernel) fun t hf y => ?_
  obtain ⟨e0, e1, e2, e3, e4, e5, e6, e7, e8, e9, e10, e11, e12⟩ := idx t
  have hN : t.val < 36 := lt_of_lt_of_eq t.isLt N_0
  blk_simp
  rw [after0_12]
  obtain ⟨r, j, rfl⟩ : ∃ (r : Fin 512) (j : Fin 1024), y = ix2 r j := ⟨y 0, y 1, by funext a; fin_cases a <;> rfl⟩
  refine (out_apply _ _ _ _ _ _ _ _ _ _ _ _ _ r j).trans ?_
  have hn : t.val * 512 + r.val < 18432 := by have := r.isLt; omega
  have hE : (win0_12.blk t).view.emb (ix2 r j) = ix2 (⟨t.val * 512 + r.val, hn⟩ : Fin 18432) j := by
    blk_ext [e12]
  show _ = res m c ((win0_12.blk t).view.emb (ix2 r j))
  rw [hE]
  show _ = G _ _ _ _ _ _ _ _ _ _ _ _ (⟨t.val * 512 + r.val, hn⟩ : Fin 18432) j
  have r0 : ∀ k : Fin 512, iblk m c 0 t (ix2 r k) = m ((c : Thread nD τ).loc main_arg0) (ix2 ⟨min t.val 3 * 512 + r.val, by have := r.isLt; omega⟩ k) := fun k => by
    blk_ext [iblk, V, e0]
  have r1 : ∀ k : Fin 512, iblk m c 1 t (ix2 r k) = m ((c : Thread nD τ).loc main_arg1) (ix2 ⟨(t.val - 4) * 512 + r.val, by have := r.isLt; omega⟩ k) := fun k => by
    blk_ext [iblk, V, e1]
  have r2 : ∀ k : Fin 512, iblk m c 2 t (ix2 r k) = m ((c : Thread nD τ).loc main_arg2) (ix2 ⟨min t.val 3 * 512 + r.val, by have := r.isLt; omega⟩ k) := fun k => by
    blk_ext [iblk, V, e2]
  have r3 : ∀ k : Fin 512, iblk m c 3 t (ix2 r k) = m ((c : Thread nD τ).loc main_arg3) (ix2 ⟨(t.val - 4) * 512 + r.val, by have := r.isLt; omega⟩ k) := fun k => by
    blk_ext [iblk, V, e3]
  have r4 : ∀ k : Fin 1024, iblk m c 4 t (ix2 r k) = m ((c : Thread nD τ).loc main_arg4) (ix2 ⟨t.val * 512 + r.val, hn⟩ k) := fun k => by
    blk_ext [iblk, V, e4]
  have r5 : ∀ (p : Fin 6) (k : Fin 1024), iblk m c 5 t (ix4 0 0 p k)
      = m ((c : Thread nD τ).loc main_arg5) (ix4 1 (smp ⟨t.val * 512 + r.val, hn⟩) p k) := fun p k => by
    blk_ext [iblk, V, e5, smp]
    split_ifs <;> omega
  have r6 : ∀ k : Fin 1024, iblk m c 6 t (ix3 0 0 k) = m ((c : Thread nD τ).loc main_arg6) (ix2 1 k) := fun k => by
    unfold iblk; entry_read; blk_simp; pointwise; blk_ext [e6]
  have r7 : ∀ k : Fin 1024, iblk m c 7 t (ix3 0 0 k) = m ((c : Thread nD τ).loc main_arg7) (ix2 1 k) := fun k => by
    unfold iblk; entry_read; blk_simp; pointwise; blk_ext [e7]
  have r8 : ∀ k : Fin 1024, iblk m c 8 t (ix3 0 0 k) = m ((c : Thread nD τ).loc main_arg8) (ix2 1 k) := fun k => by
    unfold iblk; entry_read; blk_simp; pointwise; blk_ext [e8]
  have r9 : ∀ (k : Fin 1024) (d : Fin 1024), iblk m c 9 t (ix3 0 k d) = m ((c : Thread nD τ).loc main_arg9) (ix3 1 k d) := fun k d => by
    unfold iblk; entry_read; blk_simp; pointwise; blk_ext [e9]
  have r10 : ∀ (k : Fin 1024) (d : Fin 4096), iblk m c 10 t (ix3 0 k d) = m ((c : Thread nD τ).loc main_arg10) (ix3 1 k d) := fun k d => by
    unfold iblk; entry_read; blk_simp; pointwise; blk_ext [e10]
  have r11 : ∀ (k : Fin 4096) (d : Fin 1024), iblk m c 11 t (ix3 0 k d) = m ((c : Thread nD τ).loc main_arg11) (ix3 1 k d) := fun k d => by
    unfold iblk; entry_read; blk_simp; pointwise; blk_ext [e11]
  simp only [r0, r1, r2, r3, r4, r5, r6, r7, r8, r9, r10, r11, G]
  have hab : ∀ (x : FVec Ideal S2048x512 .bf16) (y : FVec Ideal S16384x512 .bf16),
      (fun k : Fin 512 => Scalar.select (isCtx (grid0.coords t)) (x (ix2 ⟨min t.val 3 * 512 + r.val, by have := r.isLt; omega⟩ k))
        (y (ix2 ⟨(t.val - 4) * 512 + r.val, by have := r.isLt; omega⟩ k))) = half x y ⟨t.val * 512 + r.val, hn⟩ := by
    intro x y
    funext k
    have hr := r.isLt
    rw [isCtx_eq t]
    unfold half
    by_cases h : t.val < 4
    · rw [if_pos h, dif_pos (show t.val * 512 + r.val < 2048 by omega)]
      show x _ = x _
      congr 2; apply Fin.ext; show min t.val 3 * 512 + r.val = t.val * 512 + r.val; omega
    · rw [if_neg h, dif_neg (show ¬ t.val * 512 + r.val < 2048 by omega)]
      show y _ = y _
      congr 2; apply Fin.ext; show (t.val - 4) * 512 + r.val = t.val * 512 + r.val - 2048; omega
  exact congrFun (congrArg₂ (fun a b => fin a b _ _ _ _ _ _ _ _ _ _ _) (hab _ _) (hab _ _)) j

end Cert.MlpProof

end
-- ==== Proof.Mlp.Reference.lean ====
module

public import proofs.«01_k».proof.Proof.Mlp.Kernel
public import proofs.«01_k».proof.Proof.Gen.MlpRefIdeal.Run
public import proofs.«01_k».proof.Proof.Gen.MlpRefIdeal.Read

@[expose] public section

noncomputable section

open Idealize.ShloMosaic Idealize.ShloMosaic.TcCoe

/-! The reference's result at a token and a lane: the same token function of the argument arrays. -/

namespace Cert.MlpProof
open Cert.MlpRefIdeal Cert.MlpRefIdeal.Gen Cert.MlpRefIdeal.Read

/-- The modulation rows laid out over the tokens: token `n` takes row `smp n`. -/
theorem rows_apply (y : FVec Ideal S16x1024 .f32) (n : Fin 18432) (j : Fin 1024) :
    concatenate S18432x1024 0
      [⟨S2048x1024, broadcastInDim S2048x1024 ![0, 1] bcast_S1x1024_S2048x1024_0_1
          (extractStridedSlice S1x1024 ![8, 0] y slices_S16x1024_S1x1024_8_0)⟩,
        ⟨S16384x1024, shapeCast S16384x1024 (broadcastInDim S8x2048x1024 ![0, 1, 2] bcast_S8x1x1024_S8x2048x1024_0_1_2
          (shapeCast S8x1x1024 (extractStridedSlice S8x1024 ![0, 0] y slices_S16x1024_S8x1024_0_0) shapeCasts_S8x1024_S8x1x1024))
          shapeCasts_S8x2048x1024_S16384x1024⟩] concatenates_S2048x1024_S16384x1024_S18432x1024_d0 (ix2 n j)
      = y (ix2 (smp n) j) := by
  pointwise
  by_cases h : n.val < 2048
  · rw [dif_pos h]
    congr 2; apply Fin.ext; simp only [smp, if_pos h]; rfl
  · rw [dif_neg h]
    congr 2; apply Fin.ext; simp only [smp, if_neg h]

/-- The mixed halves side by side: the first 512 lanes. -/
theorem v2_left (x0 x2 : FVec Ideal S2048x512 .bf16) (x1 x3 : FVec Ideal S16384x512 .bf16) (n : Fin 18432) (k : Fin 512) :
    val_main_v2 (F := Ideal) x0 x1 x2 x3 (ix2 n ⟨k, by omega⟩) = half x0 x1 n k := by
  pointwise [val_main_v2, val_main_v0, val_main_v1]
  rfl

/-- The mixed halves side by side: the last 512 lanes. -/
theorem v2_right (x0 x2 : FVec Ideal S2048x512 .bf16) (x1 x3 : FVec Ideal S16384x512 .bf16) (n : Fin 18432) (k : Fin 512) :
    val_main_v2 (F := Ideal) x0 x1 x2 x3 (ix2 n ⟨512 + k, by omega⟩) = half x2 x3 n k := by
  pointwise [val_main_v2, val_main_v0, val_main_v1]
  rfl

variable (x0 x2 : FVec Ideal S2048x512 .bf16) (x1 x3 : FVec Ideal S16384x512 .bf16) (x4 : FVec Ideal S18432x1024 .f32)
  (x5 : FVec Ideal S4x16x6x1024 .f32) (x6 x7 x8 : FVec Ideal S4x1024 .f32) (x9 : FVec Ideal S4x1024x1024 .f32)
  (x10 : FVec Ideal S4x1024x4096 .f32) (x11 : FVec Ideal S4x4096x1024 .f32) (n : Fin 18432)

/-- The out-projection. -/
theorem v6 (j : Fin 1024) : val_main_v6 (F := Ideal) x0 x1 x2 x3 x9 (ix2 n j) = outp (half x0 x1 n) (half x2 x3 n) (fun k j => x9 (ix3 1 k j)) j := by
  rw [outp_eq _ _ _ _ (fun k => val_main_v2 (F := Ideal) x0 x1 x2 x3 (ix2 n k)) (v2_left x0 x2 x1 x3 n) (v2_right x0 x2 x1 x3 n)]
  pointwise [val_main_v6, val_main_v5, val_main_v4, val_main_v3]

/-- The rows after the first residual update. -/
theorem v34 (j : Fin 1024) : val_main_v34 (F := Ideal) x0 x1 x2 x3 x4 x5 x6 x9 (ix2 n j)
    = mid (half x0 x1 n) (half x2 x3 n) (fun j => x4 (ix2 n j)) (fun j => x5 (ix4 1 (smp n) 2 j)) (fun j => x6 (ix2 1 j)) (fun k j => x9 (ix3 1 k j)) j := by
  have hm : val_main_v17 (F := Ideal) x5 (ix2 n j) = x5 (ix4 1 (smp n) 2 j) :=
    (rows_apply _ n j).trans (by pointwise [val_main_v10, val_main_v9, val_main_v8, val_main_v7])
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_cst, val_main_cst_0, val_main_cst_1]
  simp only [v6, hm]
  rfl

/-- The rows the MLP reads. -/
theorem v75 (j : Fin 1024) : val_main_v75 (F := Ideal) x0 x1 x2 x3 x4 x5 x6 x7 x9 (ix2 n j)
    = modu (fun j => val_main_v34 (F := Ideal) x0 x1 x2 x3 x4 x5 x6 x9 (ix2 n j)) (fun j => x7 (ix2 1 j))
        (fun j => x5 (ix4 1 (smp n) 3 j)) (fun j => x5 (ix4 1 (smp n) 4 j)) j := by
  have hs : val_main_v47 (F := Ideal) x5 (ix2 n j) = x5 (ix4 1 (smp n) 3 j) :=
    (rows_apply _ n j).trans (by pointwise [val_main_v40, val_main_v39, val_main_v38, val_main_v37])
  have hc : val_main_v58 (F := Ideal) x5 (ix2 n j) = x5 (ix4 1 (smp n) 4 j) :=
    (rows_apply _ n j).trans (by pointwise [val_main_v51, val_main_v50, val_main_v49, val_main_v48])
  pointwise [val_main_v75, val_main_v74, val_main_v73, val_main_v72, val_main_v71, val_main_v70, val_main_v69, val_main_v68,
    val_main_v67, val_main_v66, val_main_v65, val_main_v64, val_main_v63, val_main_v62, val_main_v61, val_main_v60, val_main_v59,
    val_main_v36, val_main_v35, val_main_cst_2, val_main_cst_3, val_main_cst_4, val_main_cst_5]
  simp only [hs, hc]
  rfl

/-- The MLP of the modulated rows. -/
theorem v84 (j : Fin 1024) : val_main_v84 (F := Ideal) x0 x1 x2 x3 x4 x5 x6 x7 x9 x10 x11 (ix2 n j)
    = mlp (fun j => val_main_v75 (F := Ideal) x0 x1 x2 x3 x4 x5 x6 x7 x9 (ix2 n j)) (fun k d => x10 (ix3 1 k d)) (fun d j => x11 (ix3 1 d j)) j := by
  rw [mlp_eq]
  pointwise [val_main_v84, val_main_v83, val_main_v82, val_main_v81, val_main_v80, val_main_v79, val_main_v78, val_main_v77,
    val_main_v76, val_main_cst_6]
  rfl

/-- The reference's result at a token and a lane is the token function `G` of the argument arrays. -/
theorem ref_apply (j : Fin 1024) : val_main_v112 (F := Ideal) x0 x1 x2 x3 x4 x5 x6 x7 x8 x9 x10 x11 (ix2 n j)
    = G x0 x1 x2 x3 x4 x5 x6 x7 x8 x9 x10 x11 n j := by
  have hm : val_main_v95 (F := Ideal) x5 (ix2 n j) = x5 (ix4 1 (smp n) 5 j) :=
    (rows_apply _ n j).trans (by pointwise [val_main_v88, val_main_v87, val_main_v86, val_main_v85])
  pointwise [val_main_v112, val_main_v111, val_main_v110, val_main_v109, val_main_v108, val_main_v107, val_main_v106, val_main_v105,
    val_main_v104, val_main_v103, val_main_v102, val_main_v101, val_main_v100, val_main_v99, val_main_v98,
    val_main_v97, val_main_v96, val_main_cst_7, val_main_cst_8, val_main_cst_9]
  simp only [v84, v75, v34, hm]
  rfl

end Cert.MlpProof

end
-- ==== Proof.Mlp.Claims.lean ====
module

public import proofs.«01_k».proof.Defs
public import proofs.«01_k».proof.Proof.Gen.Mlp.Frame
public import proofs.«01_k».proof.Proof.Gen.MlpIdeal.Frame
public import proofs.«01_k».proof.Proof.Mlp.Reference
public import Idealize.ShloMosaic.Lib.Quiescent

@[expose] public section

noncomputable section

open Idealize.ShloMosaic Idealize.ShloMosaic.TcCoe Idealize.SL.Sem

/-! The five claims about the mixing layer with its MLP. -/

namespace Cert.MlpProof

/-- The kernel ends quiescent, its arguments unchanged. -/
theorem frame_k : Cert.quiescent_Mlp := fun m ρ _ => Cert.Mlp.Gen.frame m ρ

/-- So does the kernel over the extended reals. -/
theorem frame_ki : Cert.quiescent_MlpIdeal := fun m ρ _ => Cert.MlpIdeal.Gen.frame m ρ

/-- So does the reference; it declares no semaphore. -/
theorem frame_ri : Cert.quiescent_MlpRefIdeal := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)

/-- The ideal pass rewrote nothing. -/
theorem preserved : Cert.preserves_Mlp_MlpIdeal := trivial

/-- The reference's whole result is the kernel's, when their arguments agree. -/
theorem ref_res (m : (ℓ : Loc Cert.MlpIdeal.nD Cert.MlpIdeal.τ Cert.MlpIdeal.sig) → Buf (Elt Ideal) ℓ) (c : Dev Cert.MlpIdeal.nD)
    (y : FVec Ideal ⟨2, ![18432, 1024]⟩ .f32) (h : ∀ n j, y (ix2 n j) = res m c (ix2 n j)) : y = res m c := by
  funext i
  have e : i = ix2 (i 0) (i 1) := by funext a; fin_cases a <;> rfl
  rw [e]; exact h _ _

/-- Kernel and reference leave the same result: both leave the token function `G` of the arguments. -/
theorem value : Cert.algebraic_MlpIdeal_MlpRefIdeal := by
  intro m ρ m' ρ' _ hagree
  refine ⟨fun c => res m c, ?_, ?_⟩
  · exact (θ_run Cert.MlpIdeal.defs _ _).mono (fun _ h c => ⟨(h c).1.trans (final m c), (h c).2⟩)
      (Cert.MlpIdeal.Value.run_blocks (F := Ideal) m ρ)
  · refine (θ_run Cert.MlpRefIdeal.defs _ _).mono
      (fun _ h c => ⟨((h c).1.trans (Cert.MlpRefIdeal.Read.val_main_v112_eq _)).trans ?_, (h c).2⟩)
      (Cert.MlpRefIdeal.Value.run (F := Ideal) m' ρ')
    obtain ⟨a0, a1, a2, a3, a4, a5, a6, a7, a8, a9, a10, a11⟩ := hagree c
    refine ref_res m c _ fun n j => (ref_apply _ _ _ _ _ _ _ _ _ _ _ _ n j).trans ?_
    show G (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1))
      (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3))
      (m' ((c.tc : Thread Cert.MlpRefIdeal.nD Cert.MlpRefIdeal.τ).loc Cert.MlpRefIdeal.main_arg4)) (m' ((c.tc : Thread Cert.MlpRefIdeal.nD Cert.MlpRefIdeal.τ).loc Cert.MlpRefIdeal.main_arg5))
      (m' ((c.tc : Thread Cert.MlpRefIdeal.nD Cert.MlpRefIdeal.τ).loc Cert.MlpRefIdeal.main_arg6)) (m' ((c.tc : Thread Cert.MlpRefIdeal.nD Cert.MlpRefIdeal.τ).loc Cert.MlpRefIdeal.main_arg7))
      (m' ((c.tc : Thread Cert.MlpRefIdeal.nD Cert.MlpRefIdeal.τ).loc Cert.MlpRefIdeal.main_arg8)) (m' ((c.tc : Thread Cert.MlpRefIdeal.nD Cert.MlpRefIdeal.τ).loc Cert.MlpRefIdeal.main_arg9))
      (m' ((c.tc : Thread Cert.MlpRefIdeal.nD Cert.MlpRefIdeal.τ).loc Cert.MlpRefIdeal.main_arg10)) (m' ((c.tc : Thread Cert.MlpRefIdeal.nD Cert.MlpRefIdeal.τ).loc Cert.MlpRefIdeal.main_arg11)) n j = _
    rw [a0, a1, a2, a3, a4, a5, a6, a7, a8, a9, a10, a11]
    rfl

end Cert.MlpProof

end
-- ==== Proof.Last.Kernel.lean ====
module

public import proofs.«01_k».proof.Proof.Mlp.Kernel
public import proofs.«01_k».proof.Proof.Gen.LastIdeal.Value

@[expose] public section

set_option maxRecDepth 16384

noncomputable section

open Idealize.ShloMosaic Idealize.ShloMosaic.TcCoe Idealize.SL.Sem
open Idealize.ShloMosaic.Pipeline (Dat)

/-! The last layer's call works on the latents only. A point stores what the middle layers' body stores four points later. -/

namespace Cert.LastProof
open Cert.LastIdeal Cert.LastIdeal.Gen
open Cert.MlpProof (fin isCtx)

/-- The middle layers' point with the same latents. -/
def later (t : Fin cfg0.N) : Fin Cert.MlpIdeal.cfg0.N :=
  ⟨t.val + 4, lt_of_lt_of_eq (by have := lt_of_lt_of_eq t.isLt N_0; omega : t.val + 4 < 36) Cert.MlpIdeal.Gen.N_0.symm⟩

theorem coord : ∀ t : Fin cfg0.N, Scalar.addi (BitVec.ofNat 32 (grid0.coords t 0).val) 4#32
    = Scalar.addi (BitVec.ofNat 32 (Cert.MlpIdeal.grid0.coords (later t) 0).val) 0#32 :=
  (by decide +kernel : ∀ t : Fin grid0.N, _)

theorem later_lat (t : Fin cfg0.N) : isCtx (Cert.MlpIdeal.grid0.coords (later t)) = 0#1 := by
  rw [Cert.MlpProof.isCtx_eq, if_neg]
  show ¬ t.val + 4 < 4
  omega

theorem pay1_eq (t : Fin cfg0.N) : k0_pay1 (F := Ideal) (grid0.coords t) = Cert.MlpIdeal.Gen.k0_pay1 (Cert.MlpIdeal.grid0.coords (later t)) := by
  funext v2 v3 v7 v8 v11 v14
  unfold k0_pay1 Cert.MlpIdeal.Gen.k0_pay1
  dsimp only
  rw [coord]
  rfl

theorem pay4_eq (t : Fin cfg0.N) : k0_pay4 (F := Ideal) (grid0.coords t) = Cert.MlpIdeal.Gen.k0_pay4 (Cert.MlpIdeal.grid0.coords (later t)) := by
  funext v2 v3 v7 v8 v11 v14
  unfold k0_pay4 Cert.MlpIdeal.Gen.k0_pay4
  rw [pay1_eq]

theorem out_eq (t : Fin cfg0.N) (x0 x1 x2 x3 : Vec Ideal S512x512 .bf16) (x4 : Vec Ideal S512x1024 .f32)
    (x5 : Vec Ideal S1x1x6x1024 .f32) (x6 x7 x8 : Vec Ideal S1x1x1024 .f32) (x9 : Vec Ideal S1x1024x1024 .bf16)
    (x10 : Vec Ideal S1x1024x4096 .bf16) (x11 : Vec Ideal S1x4096x1024 .bf16) :
    out0_12 (F := Ideal) (grid0.coords t) x0 x1 x2 x3 x4 x5 x6 x7 x8 x9 x10 x11
      = Cert.MlpIdeal.Gen.out0_12 (Cert.MlpIdeal.grid0.coords (later t)) x0 x1 x2 x3 x4 x5 x6 x7 x8 x9 x10 x11 := by
  unfold out0_12 Cert.MlpIdeal.Gen.out0_12 k0_pay9 k0_pay12
  rw [pay1_eq, pay4_eq]
  rfl

/-- The result as one function of the argument arrays: the token function of layer 3 at every latent token. -/
def G (x1 x3 : FVec Ideal S16384x512 .bf16) (x4 : FVec Ideal S18432x1024 .f32) (x5 : FVec Ideal S4x16x6x1024 .f32)
    (x6 x7 x8 : FVec Ideal S4x1024 .f32) (x9 : FVec Ideal S4x1024x1024 .f32) (x10 : FVec Ideal S4x1024x4096 .f32)
    (x11 : FVec Ideal S4x4096x1024 .f32) (n : Fin 16384) (j : Fin 1024) : EReal :=
  let mod (p : Fin 6) (j : Fin 1024) : EReal := x5 (ix4 3 ⟨n.val / 2048, by omega⟩ p j)
  fin (fun k => x1 (ix2 n k)) (fun k => x3 (ix2 n k)) (fun j => x4 (ix2 ⟨2048 + n.val, by omega⟩ j)) (mod 2) (mod 3) (mod 4) (mod 5)
    (fun j => x6 (ix2 3 j)) (fun j => x7 (ix2 3 j)) (fun j => x8 (ix2 3 j))
    (fun k j => x9 (ix3 3 k j)) (fun k d => x10 (ix3 3 k d)) (fun d j => x11 (ix3 3 d j)) j

/-- Which block each window that matters reads or writes at a point. -/
theorem idx : ∀ t : Fin cfg0.N, win0_1.index t = ![t.val, 0] ∧ win0_3.index t = ![t.val, 0] ∧ win0_4.index t = ![t.val + 4, 0]
    ∧ win0_5.index t = ![3, t.val / 4, 0, 0] ∧ win0_6.index t = ![3, 0, 0] ∧ win0_7.index t = ![3, 0, 0]
    ∧ win0_8.index t = ![3, 0, 0] ∧ win0_9.index t = ![3, 0, 0] ∧ win0_10.index t = ![3, 0, 0] ∧ win0_11.index t = ![3, 0, 0]
    ∧ win0_12.index t = ![t.val, 0] :=
  (by decide +kernel : ∀ t : Fin grid0.N, _)

variable (m : (ℓ : Loc nD τ sig) → Buf (Elt Ideal) ℓ)

/-- The result array of the run. -/
abbrev res (c : Dev nD) : Buf (Elt Ideal) ((c : Thread nD τ).loc main_v6) := fun i : S16384x1024.Idx =>
  G (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (i 0) (i 1)

set_option maxHeartbeats 4000000 in
/-- The output blocks tile the result array and each is the token function of its rows. -/
theorem final (c : Dev nD) : (dats m 0 c).arrAt 12 cfg0.N = res m c := by
  refine (dats m 0 c).arrAt_eq_of_covers 12 _ (by decide +kernel) fun t hf y => ?_
  obtain ⟨e1, e3, e4, e5, e6, e7, e8, e9, e10, e11, e12⟩ := idx t
  have hN : t.val < 32 := lt_of_lt_of_eq t.isLt N_0
  blk_simp
  rw [after0_12, out_eq]
  obtain ⟨r, j, rfl⟩ : ∃ (r : Fin 512) (j : Fin 1024), y = ix2 r j := ⟨y 0, y 1, by funext a; fin_cases a <;> rfl⟩
  refine (Cert.MlpProof.out_apply _ _ _ _ _ _ _ _ _ _ _ _ _ r j).trans ?_
  have hr := r.isLt
  have hn : t.val * 512 + r.val < 16384 := by omega
  have hE : (win0_12.blk t).view.emb (ix2 r j) = ix2 (⟨t.val * 512 + r.val, hn⟩ : Fin 16384) j := by
    blk_ext [e12]
  show _ = res m c ((win0_12.blk t).view.emb (ix2 r j))
  rw [hE]
  show _ = G _ _ _ _ _ _ _ _ _ _ (⟨t.val * 512 + r.val, hn⟩ : Fin 16384) j
  have r1 : ∀ k : Fin 512, iblk m c 1 t (ix2 r k) = m ((c : Thread nD τ).loc main_arg1) (ix2 ⟨t.val * 512 + r.val, hn⟩ k) := fun k => by
    blk_ext [iblk, V, e1]
  have r3 : ∀ k : Fin 512, iblk m c 3 t (ix2 r k) = m ((c : Thread nD τ).loc main_arg3) (ix2 ⟨t.val * 512 + r.val, hn⟩ k) := fun k => by
    blk_ext [iblk, V, e3]
  have r4 : ∀ k : Fin 1024, iblk m c 4 t (ix2 r k) = m ((c : Thread nD τ).loc main_arg4) (ix2 ⟨2048 + (t.val * 512 + r.val), by omega⟩ k) := fun k => by
    blk_ext [iblk, V, e4]
  have r5 : ∀ (p : Fin 6) (k : Fin 1024), iblk m c 5 t (ix4 0 0 p k)
      = m ((c : Thread nD τ).loc main_arg5) (ix4 3 ⟨(t.val * 512 + r.val) / 2048, by omega⟩ p k) := fun p k => by
    blk_ext [iblk, V, e5]
  have r6 : ∀ k : Fin 1024, iblk m c 6 t (ix3 0 0 k) = m ((c : Thread nD τ).loc main_arg6) (ix2 3 k) := fun k => by
    unfold iblk; entry_read; blk_simp; pointwise; blk_ext [e6]
  have r7 : ∀ k : Fin 1024, iblk m c 7 t (ix3 0 0 k) = m ((c : Thread nD τ).loc main_arg7) (ix2 3 k) := fun k => by
    unfold iblk; entry_read; blk_simp; pointwise; blk_ext [e7]
  have r8 : ∀ k : Fin 1024, iblk m c 8 t (ix3 0 0 k) = m ((c : Thread nD τ).loc main_arg8) (ix2 3 k) := fun k => by
    unfold iblk; entry_read; blk_simp; pointwise; blk_ext [e8]
  have r9 : ∀ (k : Fin 1024) (d : Fin 1024), iblk m c 9 t (ix3 0 k d) = m ((c : Thread nD τ).loc main_arg9) (ix3 3 k d) := fun k d => by
    unfold iblk; entry_read; blk_simp; pointwise; blk_ext [e9]
  have r10 : ∀ (k : Fin 1024) (d : Fin 4096), iblk m c 10 t (ix3 0 k d) = m ((c : Thread nD τ).loc main_arg10) (ix3 3 k d) := fun k d => by
    unfold iblk; entry_read; blk_simp; pointwise; blk_ext [e10]
  have r11 : ∀ (k : Fin 4096) (d : Fin 1024), iblk m c 11 t (ix3 0 k d) = m ((c : Thread nD τ).loc main_arg11) (ix3 3 k d) := fun k d => by
    unfold iblk; entry_read; blk_simp; pointwise; blk_ext [e11]
  rw [later_lat]
  simp only [r1, r3, r4, r5, r6, r7, r8, r9, r10, r11, G]
  rfl

end Cert.LastProof

end
-- ==== Proof.Last.Reference.lean ====
module

public import proofs.«01_k».proof.Proof.Last.Kernel
public import proofs.«01_k».proof.Proof.Gen.LastRefIdeal.Run
public import proofs.«01_k».proof.Proof.Gen.LastRefIdeal.Read

@[expose] public section

noncomputable section

open Idealize.ShloMosaic Idealize.ShloMosaic.TcCoe

/-! The last layer's reference at a latent token and a lane: the same token function of the argument arrays. -/

namespace Cert.LastProof
open Cert.LastRefIdeal Cert.LastRefIdeal.Gen Cert.LastRefIdeal.Read
open Cert.MlpProof (mid outp outp_eq modu mlp mlp_eq)

/-- The modulation rows laid out over the latents: token `n` takes its sample's row. -/
theorem rows_apply (y : FVec Ideal S16x1024 .f32) (n : Fin 16384) (j : Fin 1024) :
    shapeCast S16384x1024 (broadcastInDim S8x2048x1024 ![0, 1, 2] bcast_S8x1x1024_S8x2048x1024_0_1_2
          (shapeCast S8x1x1024 (extractStridedSlice S8x1024 ![0, 0] y slices_S16x1024_S8x1024_0_0) shapeCasts_S8x1024_S8x1x1024))
          shapeCasts_S8x2048x1024_S16384x1024 (ix2 n j)
      = y (ix2 ⟨n.val / 2048, by omega⟩ j) := by
  pointwise

variable (x1 x3 : FVec Ideal S16384x512 .bf16) (x4 : FVec Ideal S18432x1024 .f32)
  (x5 : FVec Ideal S4x16x6x1024 .f32) (x6 x7 x8 : FVec Ideal S4x1024 .f32) (x9 : FVec Ideal S4x1024x1024 .f32)
  (x10 : FVec Ideal S4x1024x4096 .f32) (x11 : FVec Ideal S4x4096x1024 .f32) (n : Fin 16384)

/-- Part `p` of the modulation of token `n`. -/
def mod (p : Fin 6) (j : Fin 1024) : EReal := x5 (ix4 3 ⟨n.val / 2048, by omega⟩ p j)

/-- The mixed halves side by side: the first 512 lanes. -/
theorem v1_left (k : Fin 512) : val_main_v1 (F := Ideal) x1 x3 (ix2 n ⟨k, by omega⟩) = x1 (ix2 n k) := by
  pointwise [val_main_v1]

/-- The mixed halves side by side: the last 512 lanes. -/
theorem v1_right (k : Fin 512) : val_main_v1 (F := Ideal) x1 x3 (ix2 n ⟨512 + k, by omega⟩) = x3 (ix2 n k) := by
  pointwise [val_main_v1]

/-- The out-projection. -/
theorem v5 (j : Fin 1024) : val_main_v5 (F := Ideal) x1 x3 x9 (ix2 n j)
    = outp (fun k => x1 (ix2 n k)) (fun k => x3 (ix2 n k)) (fun k j => x9 (ix3 3 k j)) j := by
  rw [outp_eq _ _ _ _ (fun k => val_main_v1 (F := Ideal) x1 x3 (ix2 n k)) (v1_left x1 x3 n) (v1_right x1 x3 n)]
  pointwise [val_main_v5, val_main_v4, val_main_v3, val_main_v2]

/-- The rows after the first residual update. -/
theorem v30 (j : Fin 1024) : val_main_v30 (F := Ideal) x1 x3 x4 x5 x6 x9 (ix2 n j)
    = mid (fun k => x1 (ix2 n k)) (fun k => x3 (ix2 n k)) (fun j => x4 (ix2 ⟨2048 + n.val, by omega⟩ j)) (mod x5 n 2)
        (fun j => x6 (ix2 3 j)) (fun k j => x9 (ix3 3 k j)) j := by
  have hm : val_main_v13 (F := Ideal) x5 (ix2 n j) = mod x5 n 2 j :=
    (rows_apply _ n j).trans (by pointwise [val_main_v9, val_main_v8, val_main_v7, val_main_v6]; rfl)
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v0, val_main_cst, val_main_cst_0, val_main_cst_1]
  simp only [v5, hm]
  rfl

/-- The rows the MLP reads. -/
theorem v65 (j : Fin 1024) : val_main_v65 (F := Ideal) x1 x3 x4 x5 x6 x7 x9 (ix2 n j)
    = modu (fun j => val_main_v30 (F := Ideal) x1 x3 x4 x5 x6 x9 (ix2 n j)) (fun j => x7 (ix2 3 j)) (mod x5 n 3) (mod x5 n 4) j := by
  have hs : val_main_v40 (F := Ideal) x5 (ix2 n j) = mod x5 n 3 j :=
    (rows_apply _ n j).trans (by pointwise [val_main_v36, val_main_v35, val_main_v34, val_main_v33]; rfl)
  have hc : val_main_v48 (F := Ideal) x5 (ix2 n j) = mod x5 n 4 j :=
    (rows_apply _ n j).trans (by pointwise [val_main_v44, val_main_v43, val_main_v42, val_main_v41]; rfl)
  pointwise [val_main_v65, val_main_v64, val_main_v63, val_main_v62, val_main_v61, val_main_v60, val_main_v59, val_main_v58,
    val_main_v57, val_main_v56, val_main_v55, val_main_v54, val_main_v53, val_main_v52, val_main_v51, val_main_v50, val_main_v49,
    val_main_v32, val_main_v31, val_main_cst_2, val_main_cst_3, val_main_cst_4, val_main_cst_5]
  simp only [hs, hc]
  rfl

/-- The MLP of the modulated rows. -/
theorem v74 (j : Fin 1024) : val_main_v74 (F := Ideal) x1 x3 x4 x5 x6 x7 x9 x10 x11 (ix2 n j)
    = mlp (fun j => val_main_v65 (F := Ideal) x1 x3 x4 x5 x6 x7 x9 (ix2 n j)) (fun k d => x10 (ix3 3 k d)) (fun d j => x11 (ix3 3 d j)) j := by
  rw [mlp_eq]
  pointwise [val_main_v74, val_main_v73, val_main_v72, val_main_v71, val_main_v70, val_main_v69, val_main_v68, val_main_v67,
    val_main_v66, val_main_cst_6]
  rfl

/-- The reference's result at a token and a lane is the token function `G` of the argument arrays. -/
theorem ref_apply (j : Fin 1024) : val_main_v99 (F := Ideal) x1 x3 x4 x5 x6 x7 x8 x9 x10 x11 (ix2 n j)
    = G x1 x3 x4 x5 x6 x7 x8 x9 x10 x11 n j := by
  have hm : val_main_v82 (F := Ideal) x5 (ix2 n j) = mod x5 n 5 j :=
    (rows_apply _ n j).trans (by pointwise [val_main_v78, val_main_v77, val_main_v76, val_main_v75]; rfl)
  pointwise [val_main_v99, val_main_v98, val_main_v97, val_main_v96, val_main_v95, val_main_v94, val_main_v93, val_main_v92,
    val_main_v91, val_main_v90, val_main_v89, val_main_v88, val_main_v87, val_main_v86, val_main_v85, val_main_v84, val_main_v83,
    val_main_cst_7, val_main_cst_8, val_main_cst_9]
  simp only [v74, v65, v30, hm]
  rfl

end Cert.LastProof

end
-- ==== Proof.Last.Claims.lean ====
module

public import proofs.«01_k».proof.Defs
public import proofs.«01_k».proof.Proof.Gen.Last.Frame
public import proofs.«01_k».proof.Proof.Gen.LastIdeal.Frame
public import proofs.«01_k».proof.Proof.Last.Reference
public import Idealize.ShloMosaic.Lib.Quiescent

@[expose] public section

noncomputable section

open Idealize.ShloMosaic Idealize.ShloMosaic.TcCoe Idealize.SL.Sem

/-! The five claims about the last layer's output projection with its MLP. -/

namespace Cert.LastProof

/-- The kernel ends quiescent, its arguments unchanged. -/
theorem frame_k : Cert.quiescent_Last := fun m ρ _ => Cert.Last.Gen.frame m ρ

/-- So does the kernel over the extended reals. -/
theorem frame_ki : Cert.quiescent_LastIdeal := fun m ρ _ => Cert.LastIdeal.Gen.frame m ρ

/-- So does the reference; it declares no semaphore. -/
theorem frame_ri : Cert.quiescent_LastRefIdeal := fun m ρ _ =>
  (θ_run Cert.LastRefIdeal.defs _ _).mono (fun r h => ⟨fun c => (h c).2,
      Idealize.ShloMosaic.sem_eq_zero_of_no_sems (by decide) r.2⟩)
    (Cert.LastRefIdeal.Value.run (F := Ideal) m ρ)

/-- The ideal pass rewrote nothing. -/
theorem preserved : Cert.preserves_Last_LastIdeal := trivial

/-- Kernel and reference leave the same result: both leave the token function `G` of the arguments. -/
theorem value : Cert.algebraic_LastIdeal_LastRefIdeal := by
  intro m ρ m' ρ' _ hagree
  refine ⟨fun c => res m c, ?_, ?_⟩
  · exact (θ_run Cert.LastIdeal.defs _ _).mono (fun _ h c => ⟨(h c).1.trans (final m c), (h c).2⟩)
      (Cert.LastIdeal.Value.run_blocks (F := Ideal) m ρ)
  · refine (θ_run Cert.LastRefIdeal.defs _ _).mono
      (fun _ h c => ⟨((h c).1.trans (Cert.LastRefIdeal.Read.val_main_v99_eq _ c)).trans ?_, (h c).2⟩)
      (Cert.LastRefIdeal.Value.run (F := Ideal) m' ρ')
    obtain ⟨a0, a1, a2, a3, a4, a5, a6, a7, a8, a9, a10, a11⟩ := hagree c
    funext i
    have e : i = ix2 (i 0) (i 1) := by funext a; fin_cases a <;> rfl
    rw [e]
    refine (ref_apply _ _ _ _ _ _ _ _ _ _ (i 0) (i 1)).trans ?_
    exact congr (congr (congr (congr (congr (congr (congr (congr (congr (congrArg (fun x => G x) a1) a3) a4) a5) a6) a7) a8) a9) a10) a11
      |> fun h => congrFun (congrFun h (i 0)) (i 1)

end Cert.LastProof

end
-- ==== Proof.Odd.Kernel.lean ====
module

public import proofs.«01_k».proof.Proof.Mlp.Kernel
public import proofs.«01_k».proof.Proof.Gen.OddIdeal.Value

@[expose] public section

set_option maxRecDepth 16384

noncomputable section

open Idealize.ShloMosaic Idealize.ShloMosaic.TcCoe Idealize.SL.Sem
open Idealize.ShloMosaic.Pipeline (Dat)

/-! The input projection of an odd layer: the two result arrays after the run. -/

namespace Cert.OddProof
open Cert.OddIdeal Cert.OddIdeal.Gen
open Cert.MlpProof (smp modu)

/-- The modulated row that is projected, at an index. -/
theorem pay2 (v0 : Vec Ideal S512x1024 .f32) (v1 : Vec Ideal S1x1x1024 .f32) (v15 v21 : Vec Ideal S1x1x1x1024 .f32) (r : Fin 512) (j : Fin 1024) :
    k0_pay2 (F := Ideal) v0 v1 v15 v21 (ix2 r j)
      = modu (fun j => v0 (ix2 r j)) (fun j => v1 (ix3 0 0 j)) (fun j => v21 (ix4 0 0 0 j)) (fun j => v15 (ix4 0 0 0 j)) j := by
  pointwise [k0_pay2]
  rfl

/-- The projection's first columns, at an index. -/
theorem pay3 (v0 : Vec Ideal S512x1024 .f32) (v1 : Vec Ideal S1x1x1024 .f32) (v15 v21 : Vec Ideal S1x1x1x1024 .f32)
    (v26 : Vec Ideal S1x1024x1536 .bf16) (r : Fin 512) (j : Fin 1536) :
    k0_pay3 (F := Ideal) v0 v1 v15 v21 v26 (ix2 r j) = ∑ k, k0_pay2 (F := Ideal) v0 v1 v15 v21 (ix2 r k) * v26 (ix3 0 k j) := by
  pointwise [k0_pay3]

/-- The projection's last columns, at an index. -/
theorem pay1 (u : FVec Ideal S512x1024 .bf16) (v30 : Vec Ideal S1x1024x768 .bf16) (r : Fin 512) (j : Fin 768) :
    k0_pay1 (F := Ideal) u (k0_pay4 v30) (ix2 r j) = ∑ k, u (ix2 r k) * v30 (ix3 0 k j) := by
  pointwise [k0_pay1, k0_pay4]

section out
variable (x0 : Vec Ideal S512x1024 .f32) (x1 : Vec Ideal S1x1x6x1024 .f32) (x2 : Vec Ideal S1x1x1024 .f32) (x3 : Vec Ideal S1x1024x2304 .bf16) (r : Fin 512)

/-- The row of the block that is projected. -/
def row : Fin 1024 → EReal :=
  modu (fun j => x0 (ix2 r j)) (fun j => x2 (ix3 0 0 j)) (fun j => x1 (ix4 0 0 0 j)) (fun j => x1 (ix4 0 0 1 j))

theorem row_eq (k : Fin 1024) :
    k0_pay2 (F := Ideal) (View.ld x0 r0_0) (View.ld x2 r0_1) (View.ld x1 r0_2) (View.ld x1 r0_3) (ix2 r k) = row x0 x1 x2 r k := by
  rw [pay2]
  unfold row
  congr 1 <;> funext j <;> pointwise

theorem out4_apply (j : Fin 1536) :
    out0_4 (F := Ideal) x0 x1 x2 x3 (ix2 r j) = ∑ k, row x0 x1 x2 r k * x3 (ix3 0 k ⟨j.val, by omega⟩) := by
  unfold out0_4
  rw [View.canon_unit_zero (by decide), pay3]
  refine Finset.sum_congr rfl fun k _ => congrArg₂ _ (row_eq x0 x1 x2 r k) ?_
  pointwise

theorem out5_apply (j : Fin 768) :
    out0_5 (F := Ideal) x0 x1 x2 x3 (ix2 r j) = ∑ k, row x0 x1 x2 r k * x3 (ix3 0 k ⟨1536 + j.val, by omega⟩) := by
  unfold out0_5
  rw [View.canon_unit_zero (by decide), pay1]
  refine Finset.sum_congr rfl fun k _ => congrArg₂ _ (row_eq x0 x1 x2 r k) ?_
  pointwise

end out

/-- The projection of token `n`, all columns, as one function of the argument arrays. -/
def P (x0 : FVec Ideal S18432x1024 .f32) (x1 : FVec Ideal S4x16x6x1024 .f32) (x2 : FVec Ideal S4x1024 .f32) (x3 : FVec Ideal S2x1024x2304 .f32)
    (n : Fin 18432) (j : Fin 2304) : EReal :=
  ∑ k, modu (fun j => x0 (ix2 n j)) (fun j => x2 (ix2 1 j)) (fun j => x1 (ix4 1 (smp n) 0 j)) (fun j => x1 (ix4 1 (smp n) 1 j)) k * x3 (ix3 0 k j)

/-- Which block each window reads or writes at a point. -/
theorem idx : ∀ t : Fin cfg0.N, win0_0.index t = ![t.val, 0] ∧ win0_1.index t = ![1, if t.val < 4 then 8 else (t.val - 4) / 4, 0, 0]
    ∧ win0_2.index t = ![1, 0, 0] ∧ win0_3.index t = ![0, 0, 0] ∧ win0_4.index t = ![t.val, 0] ∧ win0_5.index t = ![t.val, 0] :=
  (by decide +kernel : ∀ t : Fin grid0.N, _)

variable (m : (ℓ : Loc nD τ sig) → Buf (Elt Ideal) ℓ) (c : Dev nD)

/-- The projection of the run's arguments. -/
abbrev proj (n : Fin 18432) (j : Fin 2304) : EReal :=
  P (m ((c : Thread nD τ).loc main_arg0)) (m ((c : Thread nD τ).loc main_arg1)) (m ((c : Thread nD τ).loc main_arg2)) (m ((c : Thread nD τ).loc main_arg3)) n j

/-- The first result array of the run: the columns of mixer C. -/
abbrev resC : Buf (Elt Ideal) ((c : Thread nD τ).loc main_v2_0) := fun i : S18432x1536.Idx => proj m c (i 0) ⟨(i 1).val, lt_trans (i 1).isLt (by decide)⟩

/-- The second result array of the run: the columns of mixer D. -/
abbrev resD : Buf (Elt Ideal) ((c : Thread nD τ).loc main_v2_1) := fun i : S18432x768.Idx => proj m c (i 0) ⟨1536 + (i 1).val, Nat.add_lt_add_left (i 1).isLt 1536⟩

/-- The token of row `r` of point `t`'s blocks. -/
def tok (t : Fin cfg0.N) (r : Fin 512) : Fin 18432 := ⟨t.val * 512 + r.val, by have := lt_of_lt_of_eq t.isLt N_0; omega⟩

/-- Its modulation row, from the point alone. -/
theorem smp_tok (t : Fin cfg0.N) (r : Fin 512) : (smp (tok t r)).val = if t.val < 4 then 8 else (t.val - 4) / 4 := by
  show (if t.val * 512 + r.val < 2048 then 8 else (t.val * 512 + r.val - 2048) / 2048) = _
  split_ifs <;> omega

/-- The row projected at a point is the token's modulated row. -/
theorem row_blk (t : Fin cfg0.N) (r : Fin 512) : row (iblk m c 0 t) (iblk m c 1 t) (iblk m c 2 t) r
    = modu (fun j => m ((c : Thread nD τ).loc main_arg0) (ix2 (tok t r) j)) (fun j => m ((c : Thread nD τ).loc main_arg2) (ix2 1 j))
        (fun j => m ((c : Thread nD τ).loc main_arg1) (ix4 1 (smp (tok t r)) 0 j)) (fun j => m ((c : Thread nD τ).loc main_arg1) (ix4 1 (smp (tok t r)) 1 j)) := by
  obtain ⟨e0, e1, e2, -⟩ := idx t
  have hN : t.val < 36 := lt_of_lt_of_eq t.isLt N_0
  have r0 : ∀ k : Fin 1024, iblk m c 0 t (ix2 r k) = m ((c : Thread nD τ).loc main_arg0) (ix2 (tok t r) k) := fun k => by
    blk_ext [iblk, V, e0, tok]
  have r1 : ∀ (p : Fin 6) (k : Fin 1024), iblk m c 1 t (ix4 0 0 p k) = m ((c : Thread nD τ).loc main_arg1) (ix4 1 (smp (tok t r)) p k) := fun p k => by
    blk_ext [iblk, V, e1, smp_tok]
  have r2 : ∀ k : Fin 1024, iblk m c 2 t (ix3 0 0 k) = m ((c : Thread nD τ).loc main_arg2) (ix2 1 k) := fun k => by
    unfold iblk; entry_read; blk_simp; pointwise; blk_ext [e2]
  unfold row
  simp only [r0, r1, r2]

theorem w_blk (t : Fin cfg0.N) (k : Fin 1024) (j : Fin 2304) : iblk m c 3 t (ix3 0 k j) = m ((c : Thread nD τ).loc main_arg3) (ix3 0 k j) := by
  obtain ⟨-, -, -, e3, -⟩ := idx t
  unfold iblk; entry_read; blk_simp; pointwise; blk_ext [e3]

/-- The first result's blocks tile it and each is the projection of its rows. -/
theorem finalC : (dats m 0 c).arrAt 4 cfg0.N = resC m c := by
  refine (dats m 0 c).arrAt_eq_of_covers 4 _ (by decide +kernel) fun t hf y => ?_
  obtain ⟨-, -, -, -, e, -⟩ := idx t
  blk_simp
  rw [after0_4]
  obtain ⟨r, j, rfl⟩ : ∃ (r : Fin 512) (j : Fin 1536), y = ix2 r j := ⟨y 0, y 1, by funext a; fin_cases a <;> rfl⟩
  refine (out4_apply _ _ _ _ r j).trans ?_
  have hE : (win0_4.blk t).view.emb (ix2 r j) = ix2 (tok t r) j := by
    blk_ext [e, tok]
  show _ = resC m c ((win0_4.blk t).view.emb (ix2 r j))
  rw [hE, row_blk]
  simp only [w_blk]
  rfl

/-- The second result's blocks tile it and each is the projection of its rows. -/
theorem finalD : (dats m 0 c).arrAt 5 cfg0.N = resD m c := by
  refine (dats m 0 c).arrAt_eq_of_covers 5 _ (by decide +kernel) fun t hf y => ?_
  obtain ⟨-, -, -, -, -, e⟩ := idx t
  blk_simp
  rw [after0_5]
  obtain ⟨r, j, rfl⟩ : ∃ (r : Fin 512) (j : Fin 768), y = ix2 r j := ⟨y 0, y 1, by funext a; fin_cases a <;> rfl⟩
  refine (out5_apply _ _ _ _ r j).trans ?_
  have hE : (win0_5.blk t).view.emb (ix2 r j) = ix2 (tok t r) j := by
    blk_ext [e, tok]
  show _ = resD m c ((win0_5.blk t).view.emb (ix2 r j))
  rw [hE, row_blk]
  simp only [w_blk]
  rfl

end Cert.OddProof

end
-- ==== Proof.Odd.Reference.lean ====
module

public import proofs.«01_k».proof.Proof.Odd.Kernel
public import proofs.«01_k».proof.Proof.Mlp.Reference
public import proofs.«01_k».proof.Proof.Gen.OddRefIdeal.Run
public import proofs.«01_k».proof.Proof.Gen.OddRefIdeal.Read

@[expose] public section

noncomputable section

open Idealize.ShloMosaic Idealize.ShloMosaic.TcCoe

/-! The reference's projection at a token and a column: the same function of the argument arrays. -/

namespace Cert.OddProof
open Cert.OddRefIdeal Cert.OddRefIdeal.Gen Cert.OddRefIdeal.Read
open Cert.MlpProof (smp modu rows_apply)

variable (x0 : FVec Ideal S18432x1024 .f32) (x1 : FVec Ideal S4x16x6x1024 .f32) (x2 : FVec Ideal S4x1024 .f32) (x3 : FVec Ideal S2x1024x2304 .f32)
  (n : Fin 18432)

/-- The modulated rows. -/
theorem v40 (j : Fin 1024) : val_main_v40 (F := Ideal) x0 x1 x2 (ix2 n j)
    = modu (fun j => x0 (ix2 n j)) (fun j => x2 (ix2 1 j)) (fun j => x1 (ix4 1 (smp n) 0 j)) (fun j => x1 (ix4 1 (smp n) 1 j)) j := by
  have hs : val_main_v12 (F := Ideal) x1 (ix2 n j) = x1 (ix4 1 (smp n) 0 j) :=
    (rows_apply _ n j).trans (by pointwise [val_main_v5, val_main_v4, val_main_v3, val_main_v2])
  have hc : val_main_v23 (F := Ideal) x1 (ix2 n j) = x1 (ix4 1 (smp n) 1 j) :=
    (rows_apply _ n j).trans (by pointwise [val_main_v16, val_main_v15, val_main_v14, val_main_v13])
  pointwise [val_main_v40, val_main_v39, val_main_v38, val_main_v37, val_main_v36, val_main_v35, val_main_v34, val_main_v33,
    val_main_v32, val_main_v31, val_main_v30, val_main_v29, val_main_v28, val_main_v27, val_main_v26, val_main_v25, val_main_v24,
    val_main_v1, val_main_v0, val_main_cst, val_main_cst_0, val_main_cst_1, val_main_cst_2]
  simp only [hs, hc]
  rfl

/-- The projected rows. -/
theorem v43 (j : Fin 2304) : val_main_v43 (F := Ideal) x0 x1 x2 x3 (ix2 n j) = P x0 x1 x2 x3 n j := by
  pointwise [val_main_v43, val_main_v42, val_main_v41]
  simp only [v40]
  rfl

theorem ref_C (j : Fin 1536) : val_main_v44 (F := Ideal) x0 x1 x2 x3 (ix2 n j) = P x0 x1 x2 x3 n ⟨j.val, by omega⟩ := by
  rw [← v43]
  pointwise [val_main_v44]

theorem ref_D (j : Fin 768) : val_main_v45 (F := Ideal) x0 x1 x2 x3 (ix2 n j) = P x0 x1 x2 x3 n ⟨1536 + j.val, by omega⟩ := by
  rw [← v43]
  pointwise [val_main_v45]

end Cert.OddProof

end
-- ==== Proof.Odd.Claims.lean ====
module

public import proofs.«01_k».proof.Defs
public import proofs.«01_k».proof.Proof.Gen.Odd.Frame
public import proofs.«01_k».proof.Proof.Gen.OddIdeal.Frame
public import proofs.«01_k».proof.Proof.Odd.Reference
public import Idealize.ShloMosaic.Lib.Quiescent

@[expose] public section

noncomputable section

open Idealize.ShloMosaic Idealize.ShloMosaic.TcCoe Idealize.SL.Sem

/-! The five claims about the input projection of an odd layer. -/

namespace Cert.OddProof

/-- The kernel ends quiescent, its arguments unchanged. -/
theorem frame_k : Cert.quiescent_Odd := fun m ρ _ => Cert.Odd.Gen.frame m ρ

/-- So does the kernel over the extended reals. -/
theorem frame_ki : Cert.quiescent_OddIdeal := fun m ρ _ => Cert.OddIdeal.Gen.frame m ρ

/-- So does the reference; it declares no semaphore. -/
theorem frame_ri : Cert.quiescent_OddRefIdeal := fun m ρ _ =>
  (θ_run Cert.OddRefIdeal.defs _ _).mono (fun r h => ⟨fun c => (h c).2.2,
      Idealize.ShloMosaic.sem_eq_zero_of_no_sems (by decide) r.2⟩)
    (Cert.OddRefIdeal.Value.run (F := Ideal) m ρ)

/-- The ideal pass rewrote nothing. -/
theorem preserved : Cert.preserves_Odd_OddIdeal := trivial

/-- Kernel and reference leave the same results: both leave the columns of the projection `P` of the arguments. -/
theorem value : Cert.algebraic_OddIdeal_OddRefIdeal := by
  intro m ρ m' ρ' _ hagree
  refine ⟨fun c => resC m c, fun c => resD m c, ?_, ?_⟩
  · exact (θ_run Cert.OddIdeal.defs _ _).mono
      (fun _ h c => ⟨(h c).1.trans (finalC m c), (h c).2.1.trans (finalD m c), (h c).2.2⟩)
      (Cert.OddIdeal.Value.run_blocks (F := Ideal) m ρ)
  · refine (θ_run Cert.OddRefIdeal.defs _ _).mono
      (fun _ h c => ⟨((h c).1.trans (Cert.OddRefIdeal.Read.val_main_v44_eq _ _ _ _)).trans ?_,
        ((h c).2.1.trans (Cert.OddRefIdeal.Read.val_main_v45_eq _ _ _ _)).trans ?_, (h c).2.2⟩)
      (Cert.OddRefIdeal.Value.run (F := Ideal) m' ρ')
    all_goals
      obtain ⟨a0, a1, a2, a3⟩ := hagree c
      have hP := congr (congr (congr (congrArg (fun x => P x) a0) a1) a2) a3
      funext i
      have e : i = ix2 (i 0) (i 1) := by funext a; fin_cases a <;> rfl
      rw [e]
    · exact (ref_C _ _ _ _ (i 0) (i 1)).trans (congrFun (congrFun hP (i 0)) _)
    · exact (ref_D _ _ _ _ (i 0) (i 1)).trans (congrFun (congrFun hP (i 0)) _)

end Cert.OddProof

end
-- ==== Proof.Even.Kernel.lean ====
module

public import proofs.«01_k».proof.Proof.Mlp.Kernel
public import proofs.«01_k».proof.Proof.Gen.EvenIdeal.Value

@[expose] public section

set_option maxRecDepth 16384

noncomputable section

open Idealize.ShloMosaic Idealize.ShloMosaic.TcCoe Idealize.SL.Sem
open Idealize.ShloMosaic.Pipeline (Dat)

/-! The input projection of an even layer: the three result arrays after the run. -/

namespace Cert.EvenProof
open Cert.EvenIdeal Cert.EvenIdeal.Gen
open Cert.MlpProof (smp modu)

/-- The modulated row that is projected, at an index. -/
theorem pay7 (v0 : Vec Ideal S512x1024 .f32) (v1 : Vec Ideal S1x1x1024 .f32) (v15 v21 : Vec Ideal S1x1x1x1024 .f32) (r : Fin 512) (j : Fin 1024) :
    k0_pay7 (F := Ideal) v0 v1 v15 v21 (ix2 r j)
      = modu (fun j => v0 (ix2 r j)) (fun j => v1 (ix3 0 0 j)) (fun j => v21 (ix4 0 0 0 j)) (fun j => v15 (ix4 0 0 0 j)) j := by
  pointwise [k0_pay7]
  rfl

/-- The projection's first columns, at an index. -/
theorem pay8 (v0 : Vec Ideal S512x1024 .f32) (v1 : Vec Ideal S1x1x1024 .f32) (v15 v21 : Vec Ideal S1x1x1x1024 .f32)
    (v26 : Vec Ideal S1x1024x1536 .bf16) (r : Fin 512) (j : Fin 1536) :
    k0_pay8 (F := Ideal) v0 v1 v15 v21 v26 (ix2 r j) = ∑ k, k0_pay7 (F := Ideal) v0 v1 v15 v21 (ix2 r k) * v26 (ix3 0 k j) := by
  pointwise [k0_pay8]

/-- The middle columns. -/
theorem pay5 (u : FVec Ideal S512x1024 .bf16) (v : Vec Ideal S1x1024x384 .bf16) (r : Fin 512) (j : Fin 384) :
    k0_pay5 (F := Ideal) u v (ix2 r j) = ∑ k, u (ix2 r k) * v (ix3 0 k j) := by
  pointwise [k0_pay5]

/-- The last columns. -/
theorem pay6 (u : FVec Ideal S512x1024 .bf16) (v : Vec Ideal S1x1024x768 .bf16) (r : Fin 512) (j : Fin 768) :
    k0_pay6 (F := Ideal) u v (ix2 r j) = ∑ k, u (ix2 r k) * v (ix3 0 k j) := by
  pointwise [k0_pay6]

/-- The projection's column that column `q` of head `h` holds: the heads of the three parts stand side by side. -/
def lane (h : Fin 4) (q : Fin 384) : Fin 1536 := ⟨q.val / 128 * 512 + h.val * 128 + q.val % 128, by omega⟩

section out
variable (x0 : Vec Ideal S512x1024 .f32) (x1 : Vec Ideal S1x1x6x1024 .f32) (x2 : Vec Ideal S1x1x1024 .f32) (x3 : Vec Ideal S1x1024x2688 .bf16) (r : Fin 512)

/-- The row of the block that is projected. -/
def row : Fin 1024 → EReal :=
  modu (fun j => x0 (ix2 r j)) (fun j => x2 (ix3 0 0 j)) (fun j => x1 (ix4 0 0 0 j)) (fun j => x1 (ix4 0 0 1 j))

theorem row_eq (k : Fin 1024) : k0_pay19 (F := Ideal) x0 x1 x2 x3 (ix2 r k) = row x0 x1 x2 r k := by
  unfold k0_pay19
  rw [pay7]
  unfold row
  congr 1 <;> funext j <;> pointwise

/-- The first columns of the block's projection. -/
theorem p20 (j : Fin 1536) :
    k0_pay20 (F := Ideal) x0 x1 x2 x3 (ix2 r j) = ∑ k, row x0 x1 x2 r k * x3 (ix3 0 k ⟨j.val, by omega⟩) := by
  unfold k0_pay20
  rw [pay8]
  refine Finset.sum_congr rfl fun k _ => congrArg₂ _ (row_eq x0 x1 x2 x3 r k) ?_
  pointwise

/-- The twelve stored pieces are the heads of the three parts. -/
theorem out4_pieces (y : S4x512x384.Idx) :
    out0_4 (F := Ideal) x0 x1 x2 x3 y = k0_pay20 (F := Ideal) x0 x1 x2 x3 (ix2 (y 1) (lane (y 0) (y 2))) := by
  unfold out0_4
  refine View.canon_apply_of_pieces (Val := Elt Ideal) (fun y : S4x512x384.Idx => k0_pay20 (F := Ideal) x0 x1 x2 x3 (ix2 (y 1) (lane (y 0) (y 2)))) _ ?_ y
    (cover0_4 _ _ _ _ _ _ _ _ _ _ _ _ y)
  have hu : k0_pay8 (F := Ideal) (View.ld x0 r0_0) (View.ld x2 r0_1) (View.ld x1 r0_2) (View.ld x1 r0_3) (View.ld x3 r0_4)
    = k0_pay20 (F := Ideal) x0 x1 x2 x3 := rfl
  unfold k0_pay9 k0_pay10
  rw [hu]
  generalize k0_pay20 (F := Ideal) x0 x1 x2 x3 = u
  simp only [List.forall_mem_cons, List.not_mem_nil, false_imp_iff, implies_true, and_true]
  refine ⟨?_, ?_, ?_, ?_, ?_, ?_, ?_, ?_, ?_, ?_, ?_, ?_⟩ <;> intro x
  all_goals
    obtain ⟨r, j, rfl⟩ : ∃ (r : Fin 512) (j : Fin 128), x = ix3 0 r j :=
      ⟨x 1, x 2, by funext a; fin_cases a <;> first | rfl | exact Subsingleton.elim (α := Fin 1) _ _⟩
    pointwise [k0_pay1, k0_pay2, k0_pay3, k0_pay4, k0_pay11, k0_pay12, k0_pay13, k0_pay14, k0_pay15, k0_pay16, k0_pay17, k0_pay18]
    blk_ext [lane]

theorem out4_apply (h : Fin 4) (q : Fin 384) :
    out0_4 (F := Ideal) x0 x1 x2 x3 (ix3 h r q) = ∑ k, row x0 x1 x2 r k * x3 (ix3 0 k ⟨(lane h q).val, by omega⟩) :=
  (out4_pieces x0 x1 x2 x3 _).trans (p20 x0 x1 x2 x3 r _)

theorem out5_apply (j : Fin 384) :
    out0_5 (F := Ideal) x0 x1 x2 x3 (ix2 r j) = ∑ k, row x0 x1 x2 r k * x3 (ix3 0 k ⟨1536 + j.val, by omega⟩) := by
  unfold out0_5
  rw [View.canon_unit_zero (by decide), pay5]
  refine Finset.sum_congr rfl fun k _ => congrArg₂ _ (row_eq x0 x1 x2 x3 r k) ?_
  pointwise

theorem out6_apply (j : Fin 768) :
    out0_6 (F := Ideal) x0 x1 x2 x3 (ix2 r j) = ∑ k, row x0 x1 x2 r k * x3 (ix3 0 k ⟨1920 + j.val, by omega⟩) := by
  unfold out0_6
  rw [View.canon_unit_zero (by decide), pay6]
  refine Finset.sum_congr rfl fun k _ => congrArg₂ _ (row_eq x0 x1 x2 x3 r k) ?_
  pointwise

end out

/-- The projection of token `n`, all columns, as one function of the argument arrays. -/
def P (x0 : FVec Ideal S18432x1024 .f32) (x1 : FVec Ideal S4x16x6x1024 .f32) (x2 : FVec Ideal S4x1024 .f32) (x3 : FVec Ideal S2x1024x2688 .f32)
    (n : Fin 18432) (j : Fin 2688) : EReal :=
  ∑ k, modu (fun j => x0 (ix2 n j)) (fun j => x2 (ix2 2 j)) (fun j => x1 (ix4 2 (smp n) 0 j)) (fun j => x1 (ix4 2 (smp n) 1 j)) k * x3 (ix3 1 k j)

/-- Which block each window reads or writes at a point. -/
theorem idx : ∀ t : Fin cfg0.N, win0_0.index t = ![t.val, 0] ∧ win0_1.index t = ![2, if t.val < 4 then 8 else (t.val - 4) / 4, 0, 0]
    ∧ win0_2.index t = ![2, 0, 0] ∧ win0_3.index t = ![1, 0, 0]
    ∧ win0_4.index t = ![0, t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The projection of the run's arguments. -/
abbrev proj (n : Fin 18432) (j : Fin 2688) : EReal :=
  P (m ((c : Thread nD τ).loc main_arg0)) (m ((c : Thread nD τ).loc main_arg1)) (m ((c : Thread nD τ).loc main_arg2)) (m ((c : Thread nD τ).loc main_arg3)) n j

/-- The first result array of the run: the recurrence's columns, head by head. -/
abbrev resR : Buf (Elt Ideal) ((c : Thread nD τ).loc main_v2_0) := fun i : S4x18432x384.Idx =>
  proj m c (i 1) ⟨(lane (i 0) (i 2)).val, lt_trans (lane (i 0) (i 2)).isLt (by decide)⟩

/-- The second result array of the run: the recurrence's gate columns. -/
abbrev resG : Buf (Elt Ideal) ((c : Thread nD τ).loc main_v2_1) := fun i : S18432x384.Idx => proj m c (i 0) ⟨1536 + (i 1).val, lt_trans (Nat.add_lt_add_left (i 1).isLt 1536) (by decide)⟩

/-- The third result array of the run: the other mixer's columns. -/
abbrev resB : Buf (Elt Ideal) ((c : Thread nD τ).loc main_v2_2) := fun i : S18432x768.Idx => proj m c (i 0) ⟨1920 + (i 1).val, Nat.add_lt_add_left (i 1).isLt 1920⟩

/-- The token of row `r` of point `t`'s blocks. -/
def tok (t : Fin cfg0.N) (r : Fin 512) : Fin 18432 := ⟨t.val * 512 + r.val, by have := lt_of_lt_of_eq t.isLt N_0; omega⟩

/-- Its modulation row, from the point alone. -/
theorem smp_tok (t : Fin cfg0.N) (r : Fin 512) : (smp (tok t r)).val = if t.val < 4 then 8 else (t.val - 4) / 4 := by
  show (if t.val * 512 + r.val < 2048 then 8 else (t.val * 512 + r.val - 2048) / 2048) = _
  split_ifs <;> omega

/-- The row projected at a point is the token's modulated row. -/
theorem row_blk (t : Fin cfg0.N) (r : Fin 512) : row (iblk m c 0 t) (iblk m c 1 t) (iblk m c 2 t) r
    = modu (fun j => m ((c : Thread nD τ).loc main_arg0) (ix2 (tok t r) j)) (fun j => m ((c : Thread nD τ).loc main_arg2) (ix2 2 j))
        (fun j => m ((c : Thread nD τ).loc main_arg1) (ix4 2 (smp (tok t r)) 0 j)) (fun j => m ((c : Thread nD τ).loc main_arg1) (ix4 2 (smp (tok t r)) 1 j)) := by
  obtain ⟨e0, e1, e2, -⟩ := idx t
  have hN : t.val < 36 := lt_of_lt_of_eq t.isLt N_0
  have r0 : ∀ k : Fin 1024, iblk m c 0 t (ix2 r k) = m ((c : Thread nD τ).loc main_arg0) (ix2 (tok t r) k) := fun k => by
    blk_ext [iblk, V, e0, tok]
  have r1 : ∀ (p : Fin 6) (k : Fin 1024), iblk m c 1 t (ix4 0 0 p k) = m ((c : Thread nD τ).loc main_arg1) (ix4 2 (smp (tok t r)) p k) := fun p k => by
    blk_ext [iblk, V, e1, smp_tok]
  have r2 : ∀ k : Fin 1024, iblk m c 2 t (ix3 0 0 k) = m ((c : Thread nD τ).loc main_arg2) (ix2 2 k) := fun k => by
    unfold iblk; entry_read; blk_simp; pointwise; blk_ext [e2]
  unfold row
  simp only [r0, r1, r2]

theorem w_blk (t : Fin cfg0.N) (k : Fin 1024) (j : Fin 2688) : iblk m c 3 t (ix3 0 k j) = m ((c : Thread nD τ).loc main_arg3) (ix3 1 k j) := by
  obtain ⟨-, -, -, e3, -⟩ := idx t
  unfold iblk; entry_read; blk_simp; pointwise; blk_ext [e3]

/-- The first result's blocks tile it and each holds the projection of its rows. -/
theorem finalR : (dats m 0 c).arrAt 4 cfg0.N = resR m c := by
  refine (dats m 0 c).arrAt_eq_of_covers 4 _ (by decide +kernel) fun t hf y => ?_
  obtain ⟨-, -, -, -, e, -, -⟩ := idx t
  blk_simp
  rw [after0_4]
  obtain ⟨h, r, j, rfl⟩ : ∃ (h : Fin 4) (r : Fin 512) (j : Fin 384), y = ix3 h r j := ⟨y 0, y 1, y 2, by funext a; fin_cases a <;> rfl⟩
  refine (out4_apply _ _ _ _ r h j).trans ?_
  have hE : (win0_4.blk t).view.emb (ix3 h r j) = ix3 h (tok t r) j := by
    blk_ext [e, tok]
  show _ = resR m c ((win0_4.blk t).view.emb (ix3 h r j))
  rw [hE, row_blk]
  simp only [w_blk]
  rfl

/-- The second result's blocks tile it and each holds the projection of its rows. -/
theorem finalG : (dats m 0 c).arrAt 5 cfg0.N = resG m c := by
  refine (dats m 0 c).arrAt_eq_of_covers 5 _ (by decide +kernel) fun t hf y => ?_
  obtain ⟨-, -, -, -, -, e, -⟩ := idx t
  blk_simp
  rw [after0_5]
  obtain ⟨r, j, rfl⟩ : ∃ (r : Fin 512) (j : Fin 384), y = ix2 r j := ⟨y 0, y 1, by funext a; fin_cases a <;> rfl⟩
  refine (out5_apply _ _ _ _ r j).trans ?_
  have hE : (win0_5.blk t).view.emb (ix2 r j) = ix2 (tok t r) j := by
    blk_ext [e, tok]
  show _ = resG m c ((win0_5.blk t).view.emb (ix2 r j))
  rw [hE, row_blk]
  simp only [w_blk]
  rfl

/-- The third result's blocks tile it and each holds the projection of its rows. -/
theorem finalB : (dats m 0 c).arrAt 6 cfg0.N = resB m c := by
  refine (dats m 0 c).arrAt_eq_of_covers 6 _ (by decide +kernel) fun t hf y => ?_
  obtain ⟨-, -, -, -, -, -, e⟩ := idx t
  blk_simp
  rw [after0_6]
  obtain ⟨r, j, rfl⟩ : ∃ (r : Fin 512) (j : Fin 768), y = ix2 r j := ⟨y 0, y 1, by funext a; fin_cases a <;> rfl⟩
  refine (out6_apply _ _ _ _ r j).trans ?_
  have hE : (win0_6.blk t).view.emb (ix2 r j) = ix2 (tok t r) j := by
    blk_ext [e, tok]
  show _ = resB m c ((win0_6.blk t).view.emb (ix2 r j))
  rw [hE, row_blk]
  simp only [w_blk]
  rfl

end Cert.EvenProof

end
-- ==== Proof.Even.Reference.lean ====
module

public import proofs.«01_k».proof.Proof.Even.Kernel
public import proofs.«01_k».proof.Proof.Mlp.Reference
public import proofs.«01_k».proof.Proof.Gen.EvenRefIdeal.Run
public import proofs.«01_k».proof.Proof.Gen.EvenRefIdeal.Read

@[expose] public section

noncomputable section

open Idealize.ShloMosaic Idealize.ShloMosaic.TcCoe

/-! The reference's projection at a token and a column: the same function of the argument arrays. -/

namespace Cert.EvenProof
open Cert.EvenRefIdeal Cert.EvenRefIdeal.Gen Cert.EvenRefIdeal.Read
open Cert.MlpProof (smp modu rows_apply)

variable (x0 : FVec Ideal S18432x1024 .f32) (x1 : FVec Ideal S4x16x6x1024 .f32) (x2 : FVec Ideal S4x1024 .f32) (x3 : FVec Ideal S2x1024x2688 .f32)
  (n : Fin 18432)

/-- The modulated rows. -/
theorem v40 (j : Fin 1024) : val_main_v40 (F := Ideal) x0 x1 x2 (ix2 n j)
    = modu (fun j => x0 (ix2 n j)) (fun j => x2 (ix2 2 j)) (fun j => x1 (ix4 2 (smp n) 0 j)) (fun j => x1 (ix4 2 (smp n) 1 j)) j := by
  have hs : val_main_v12 (F := Ideal) x1 (ix2 n j) = x1 (ix4 2 (smp n) 0 j) :=
    (rows_apply _ n j).trans (by pointwise [val_main_v5, val_main_v4, val_main_v3, val_main_v2])
  have hc : val_main_v23 (F := Ideal) x1 (ix2 n j) = x1 (ix4 2 (smp n) 1 j) :=
    (rows_apply _ n j).trans (by pointwise [val_main_v16, val_main_v15, val_main_v14, val_main_v13])
  pointwise [val_main_v40, val_main_v39, val_main_v38, val_main_v37, val_main_v36, val_main_v35, val_main_v34, val_main_v33,
    val_main_v32, val_main_v31, val_main_v30, val_main_v29, val_main_v28, val_main_v27, val_main_v26, val_main_v25, val_main_v24,
    val_main_v1, val_main_v0, val_main_cst, val_main_cst_0, val_main_cst_1, val_main_cst_2]
  simp only [hs, hc]
  rfl

/-- The projected rows. -/
theorem v43 (j : Fin 2688) : val_main_v43 (F := Ideal) x0 x1 x2 x3 (ix2 n j) = P x0 x1 x2 x3 n j := by
  pointwise [val_main_v43, val_main_v42, val_main_v41]
  simp only [v40]
  rfl

/-- The head by head columns. -/
theorem ref_R (h : Fin 4) (q : Fin 384) : val_main_v47 (F := Ideal) x0 x1 x2 x3 (ix3 h n q) = P x0 x1 x2 x3 n ⟨(lane h q).val, by omega⟩ := by
  rw [← v43]
  pointwise [val_main_v47, val_main_v46, val_main_v45, val_main_v44]
  blk_ext [lane]

theorem ref_G (j : Fin 384) : val_main_v48 (F := Ideal) x0 x1 x2 x3 (ix2 n j) = P x0 x1 x2 x3 n ⟨1536 + j.val, by omega⟩ := by
  rw [← v43]
  pointwise [val_main_v48]

theorem ref_B (j : Fin 768) : val_main_v49 (F := Ideal) x0 x1 x2 x3 (ix2 n j) = P x0 x1 x2 x3 n ⟨1920 + j.val, by omega⟩ := by
  rw [← v43]
  pointwise [val_main_v49]

end Cert.EvenProof

end
-- ==== Proof.Even.Claims.lean ====
module

public import proofs.«01_k».proof.Defs
public import proofs.«01_k».proof.Proof.Gen.Even.Frame
public import proofs.«01_k».proof.Proof.Gen.EvenIdeal.Frame
public import proofs.«01_k».proof.Proof.Even.Reference
public import Idealize.ShloMosaic.Lib.Quiescent

@[expose] public section

noncomputable section

open Idealize.ShloMosaic Idealize.ShloMosaic.TcCoe Idealize.SL.Sem

/-! The five claims about the input projection of an even layer. -/

namespace Cert.EvenProof

/-- The kernel ends quiescent, its arguments unchanged. -/
theorem frame_k : Cert.quiescent_Even := fun m ρ _ => Cert.Even.Gen.frame m ρ

/-- So does the kernel over the extended reals. -/
theorem frame_ki : Cert.quiescent_EvenIdeal := fun m ρ _ => Cert.EvenIdeal.Gen.frame m ρ

/-- So does the reference; it declares no semaphore. -/
theorem frame_ri : Cert.quiescent_EvenRefIdeal := fun m ρ _ =>
  (θ_run Cert.EvenRefIdeal.defs _ _).mono (fun r h => ⟨fun c => (h c).2.2.2,
      Idealize.ShloMosaic.sem_eq_zero_of_no_sems (by decide) r.2⟩)
    (Cert.EvenRefIdeal.Value.run (F := Ideal) m ρ)

/-- The ideal pass rewrote nothing. -/
theorem preserved : Cert.preserves_Even_EvenIdeal := trivial

/-- Kernel and reference leave the same results: both leave the columns of the projection `P` of the arguments. -/
theorem value : Cert.algebraic_EvenIdeal_EvenRefIdeal := by
  intro m ρ m' ρ' _ hagree
  refine ⟨fun c => resR m c, fun c => resG m c, fun c => resB m c, ?_, ?_⟩
  · exact (θ_run Cert.EvenIdeal.defs _ _).mono
      (fun _ h c => ⟨(h c).1.trans (finalR m c), (h c).2.1.trans (finalG m c), (h c).2.2.1.trans (finalB m c), (h c).2.2.2⟩)
      (Cert.EvenIdeal.Value.run_blocks (F := Ideal) m ρ)
  · refine (θ_run Cert.EvenRefIdeal.defs _ _).mono
      (fun _ h c => ⟨((h c).1.trans (Cert.EvenRefIdeal.Read.val_main_v47_eq _ _ _ _)).trans ?_,
        ((h c).2.1.trans (Cert.EvenRefIdeal.Read.val_main_v48_eq _ _ _ _)).trans ?_,
        ((h c).2.2.1.trans (Cert.EvenRefIdeal.Read.val_main_v49_eq _ _ _ _)).trans ?_, (h c).2.2.2⟩)
      (Cert.EvenRefIdeal.Value.run (F := Ideal) m' ρ')
    all_goals
      obtain ⟨a0, a1, a2, a3⟩ := hagree c
      have hP := congr (congr (congr (congrArg (fun x => P x) a0) a1) a2) a3
      funext i
    · have e : i = ix3 (i 0) (i 1) (i 2) := by funext a; fin_cases a <;> rfl
      rw [e]
      exact (ref_R _ _ _ _ (i 1) (i 0) (i 2)).trans (congrFun (congrFun hP (i 1)) _)
    · have e : i = ix2 (i 0) (i 1) := by funext a; fin_cases a <;> rfl
      rw [e]
      exact (ref_G _ _ _ _ (i 0) (i 1)).trans (congrFun (congrFun hP (i 0)) _)
    · have e : i = ix2 (i 0) (i 1) := by funext a; fin_cases a <;> rfl
      rw [e]
      exact (ref_B _ _ _ _ (i 0) (i 1)).trans (congrFun (congrFun hP (i 0)) _)

end Cert.EvenProof

end
-- ==== Proof.Ada.Kernel.lean ====
module

public import proofs.«01_k».proof.Proof.Gen.AdaIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The modulation: the result array after the run. -/

namespace Cert.AdaProof
open Cert.AdaIdeal Cert.AdaIdeal.Gen

/-- `x` times its logistic value. -/
def silu (x : EReal) : EReal := x * Ideal.div 1 (1 + Ideal.exp (-x))

/-- One block of the result, at an index. -/
theorem pay (v0 : Vec Ideal S16x1024 .f32) (v9 : Vec Ideal S1x1024x1024 .f32) (v12 : Vec Ideal S1x1x1x1024 .f32) (s : Fin 16) (j : Fin 1024) :
    k0_pay1 (F := Ideal) v0 v9 v12 (ix4 0 0 s j) = ∑ k, silu (v0 (ix2 s k)) * v9 (ix3 0 k j) + v12 (ix4 0 0 0 j) := by
  pointwise [k0_pay1]
  simp only [zero_sub]
  rfl

theorem out_apply (x0 : Vec Ideal S16x1024 .f32) (x1 : Vec Ideal S1x1024x1024 .f32) (x2 : Vec Ideal S1x1x1x1024 .f32) (s : Fin 16) (j : Fin 1024) :
    out0_3 (F := Ideal) x0 x1 x2 (ix4 0 0 s j) = ∑ k, silu (x0 (ix2 s k)) * x1 (ix3 0 k j) + x2 (ix4 0 0 0 j) := by
  unfold out0_3
  rw [View.canon_unit_zero (by decide), pay]
  pointwise

/-- Column `j` of part `n` in a layer's row of six parts. -/
def lane (n : Fin 6) (j : Fin 1024) : Fin 6144 := ⟨n.val * 1024 + j.val, by omega⟩

/-- The modulation of layer `l`, part `n`, condition `s`, as one function of the argument arrays. -/
def A (x0 : FVec Ideal S16x1024 .f32) (x1 : FVec Ideal S4x1024x6144 .f32) (x2 : FVec Ideal S4x6144 .f32)
    (l : Fin 4) (n : Fin 6) (s : Fin 16) (j : Fin 1024) : EReal :=
  ∑ k, silu (x0 (ix2 s k)) * x1 (ix3 l k (lane n j)) + x2 (ix2 l (lane n j))

/-- Which block each window reads or writes at a point. -/
theorem idx : ∀ t : Fin cfg0.N, win0_0.index t = ![0, 0] ∧ win0_1.index t = ![t.val / 6, 0, t.val % 6]
    ∧ win0_2.index t = ![t.val / 6, t.val % 6, 0, 0] ∧ win0_3.index t = ![t.val / 6, t.val % 6, 0, 0] :=
  (by decide +kernel : ∀ t : Fin grid0.N, _)

variable (m : (ℓ : Loc nD τ sig) → Buf (Elt Ideal) ℓ) (c : Dev nD)

/-- The result array of the run. -/
abbrev res : Buf (Elt Ideal) ((c : Thread nD τ).loc main_v1) := fun i : S4x6x16x1024.Idx =>
  A (m ((c : Thread nD τ).loc main_arg0)) (m ((c : Thread nD τ).loc main_arg1)) (m ((c : Thread nD τ).loc main_arg2)) (i 0) (i 1) (i 2) (i 3)

/-- The layer of a point. -/
def lay (t : Fin cfg0.N) : Fin 4 := ⟨t.val / 6, by have := lt_of_lt_of_eq t.isLt N_0; omega⟩

/-- The part of a point. -/
def part (t : Fin cfg0.N) : Fin 6 := ⟨t.val % 6, by omega⟩

theorem c_blk (t : Fin cfg0.N) (s : Fin 16) (k : Fin 1024) : iblk m c 0 t (ix2 s k) = m ((c : Thread nD τ).loc main_arg0) (ix2 s k) := by
  obtain ⟨e, -⟩ := idx t
  blk_ext [iblk, V, e]

theorem w_blk (t : Fin cfg0.N) (k j : Fin 1024) :
    iblk m c 1 t (ix3 0 k j) = m ((c : Thread nD τ).loc main_arg1) (ix3 (lay t) k (lane (part t) j)) := by
  obtain ⟨-, e, -⟩ := idx t
  blk_ext [iblk, V, e, lay, lane, part]

theorem b_blk (t : Fin cfg0.N) (j : Fin 1024) :
    iblk m c 2 t (ix4 0 0 0 j) = m ((c : Thread nD τ).loc main_arg2) (ix2 (lay t) (lane (part t) j)) := by
  obtain ⟨-, -, e, -⟩ := idx t
  have hN : t.val < 24 := lt_of_lt_of_eq t.isLt N_0
  unfold iblk; entry_read; blk_simp; pointwise; blk_ext [e, lay, lane, part]

/-- The result's blocks tile it and each is the modulation of its layer and part. -/
theorem final : (dats m 0 c).arrAt 3 cfg0.N = res m c := by
  refine (dats m 0 c).arrAt_eq_of_covers 3 _ (by decide +kernel) fun t hf y => ?_
  obtain ⟨-, -, -, e⟩ := idx t
  blk_simp
  rw [after0_3]
  obtain ⟨s, j, rfl⟩ : ∃ (s : Fin 16) (j : Fin 1024), y = ix4 0 0 s j :=
    ⟨y 2, y 3, by funext a; fin_cases a <;> first | rfl | exact Subsingleton.elim (α := Fin 1) _ _⟩
  refine (out_apply _ _ _ s j).trans ?_
  have hE : (win0_3.blk t).view.emb (ix4 0 0 s j) = ix4 (lay t) (part t) s j := by
    blk_ext [e, lay, part]
  show _ = res m c ((win0_3.blk t).view.emb (ix4 0 0 s j))
  rw [hE, b_blk]
  simp only [c_blk, w_blk]
  rfl

end Cert.AdaProof

end
-- ==== Proof.Ada.Reference.lean ====
module

public import proofs.«01_k».proof.Proof.Ada.Kernel
public import proofs.«01_k».proof.Proof.Gen.AdaRefIdeal.Run
public import proofs.«01_k».proof.Proof.Gen.AdaRefIdeal.Read

@[expose] public section

noncomputable section

open Idealize.ShloMosaic Idealize.ShloMosaic.TcCoe

/-! The reference's modulation at an index: the same function of the argument arrays. -/

namespace Cert.AdaProof
open Cert.AdaRefIdeal Cert.AdaRefIdeal.Gen Cert.AdaRefIdeal.Read

theorem ref_silu (x0 : FVec Ideal S16x1024 .f32) (s : Fin 16) (k : Fin 1024) :
    val_main_v0 (F := Ideal) x0 (ix2 s k) = silu (x0 (ix2 s k)) := by
  pointwise [val_main_v0, val_main_call0_v5, val_main_call0_v4, val_main_call0_v3, val_main_call0_v2, val_main_call0_v1,
    val_main_call0_v0, val_main_call0_cst, val_main_call0_cst_0]
  rfl

theorem ref_apply (x0 : FVec Ideal S16x1024 .f32) (x1 : FVec Ideal S4x1024x6144 .f32) (x2 : FVec Ideal S4x6144 .f32)
    (l : Fin 4) (n : Fin 6) (s : Fin 16) (j : Fin 1024) :
    val_main_v7 (F := Ideal) x0 x1 x2 (ix4 l n s j) = A x0 x1 x2 l n s j := by
  have h : ∀ q : Fin 6144, val_main_v5 (F := Ideal) x0 x1 x2 (ix3 l s q)
      = ∑ k, silu (x0 (ix2 s k)) * x1 (ix3 l k q) + x2 (ix2 l q) := fun q => by
    pointwise [val_main_v5, val_main_v4, val_main_v3, val_main_v2, val_main_v1]
    simp only [ref_silu, mul_comm]
  refine Eq.trans ?_ (h (lane n j))
  pointwise [val_main_v7, val_main_v6]
  blk_ext [lane]

end Cert.AdaProof

end
-- ==== Proof.Ada.Claims.lean ====
module

public import proofs.«01_k».proof.Defs
public import proofs.«01_k».proof.Proof.Gen.Ada.Frame
public import proofs.«01_k».proof.Proof.Gen.AdaIdeal.Frame
public import proofs.«01_k».proof.Proof.Ada.Reference
public import Idealize.ShloMosaic.Lib.Quiescent

@[expose] public section

noncomputable section

open Idealize.ShloMosaic Idealize.ShloMosaic.TcCoe Idealize.SL.Sem

/-! The five claims about the modulation. -/

namespace Cert.AdaProof

/-- The kernel ends quiescent, its arguments unchanged. -/
theorem frame_k : Cert.quiescent_Ada := fun m ρ _ => Cert.Ada.Gen.frame m ρ

/-- So does the kernel over the extended reals. -/
theorem frame_ki : Cert.quiescent_AdaIdeal := fun m ρ _ => Cert.AdaIdeal.Gen.frame m ρ

/-- So does the reference; it declares no semaphore. -/
theorem frame_ri : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

/-- The ideal pass rewrote nothing. -/
theorem preserved : Cert.preserves_Ada_AdaIdeal := trivial

/-- Kernel and reference leave the same result: both leave the modulation `A` of the arguments. -/
theorem value : Cert.algebraic_AdaIdeal_AdaRefIdeal := by
  intro m ρ m' ρ' _ hagree
  refine ⟨fun c => res m c, ?_, ?_⟩
  · exact (θ_run Cert.AdaIdeal.defs _ _).mono (fun _ h c => ⟨(h c).1.trans (final m c), (h c).2⟩)
      (Cert.AdaIdeal.Value.run_blocks (F := Ideal) m ρ)
  · refine (θ_run Cert.AdaRefIdeal.defs _ _).mono
      (fun _ h c => ⟨((h c).1.trans (Cert.AdaRefIdeal.Read.val_main_v7_eq _ _ _)).trans ?_, (h c).2⟩)
      (Cert.AdaRefIdeal.Value.run (F := Ideal) m' ρ')
    obtain ⟨a0, a1, a2⟩ := hagree c
    funext i
    have e : i = ix4 (i 0) (i 1) (i 2) (i 3) := by funext a; fin_cases a <;> rfl
    rw [e]
    refine (ref_apply _ _ _ (i 0) (i 1) (i 2) (i 3)).trans ?_
    rw [congr (congr (congrArg (fun x => A x) a0) a1) a2]
    rfl

end Cert.AdaProof

end
-- ==== Proof.Ctx.Body.lean ====
module

public import proofs.«01_k».proof.Proof.Gen.CtxIdeal.Value
public import proofs.«01_k».proof.Proof.Attn.Read
public import Idealize.ShloMosaic.Lib.Pointwise
public import Idealize.ShloMosaic.Lib.Pipeline.ValueKit

@[expose] public section

set_option maxRecDepth 16384

noncomputable section

open Idealize.ShloMosaic Idealize.ShloMosaic.TcCoe

/-! The attention of one sample's context: the body's vector arithmetic, named part by part, and read at an index. -/

namespace Cert.CtxProof
open Cert.CtxIdeal Cert.CtxIdeal.Gen
open Cert.AttnProof (fold_max expSum_pos lane sum_half coe_sum div_real ofBits_bot exp2_real qs)

/-- The lane number modulo 128, as the body computes it. -/
def laneNo : IVec S256x128 32 :=
  select (andi (xori (cmpi .slt (remsi (iota .tc S256x128 32 [1] iota_S256x128_d1_w32) (broadcast S256x128 (Scalar.select (Scalar.cmpi .eq 128#32 0#32) 1#32 128#32))) (broadcast S256x128 0#32))
      (broadcastTo S256x128 (broadcast S256x128 (Scalar.cmpi .slt (Scalar.select (Scalar.cmpi .eq 128#32 0#32) 1#32 128#32) 0#32)) broadcasts_S256x128_S256x128))
      (cmpi .ne (remsi (iota .tc S256x128 32 [1] iota_S256x128_d1_w32) (broadcast S256x128 (Scalar.select (Scalar.cmpi .eq 128#32 0#32) 1#32 128#32))) (broadcast S256x128 0#32)))
    (addi (remsi (iota .tc S256x128 32 [1] iota_S256x128_d1_w32) (broadcast S256x128 (Scalar.select (Scalar.cmpi .eq 128#32 0#32) 1#32 128#32)))
      (broadcast S256x128 (Scalar.select (Scalar.cmpi .eq 128#32 0#32) 1#32 128#32)))
    (remsi (iota .tc S256x128 32 [1] iota_S256x128_d1_w32) (broadcast S256x128 (Scalar.select (Scalar.cmpi .eq 128#32 0#32) 1#32 128#32)))

/-- The first 64 lanes. -/
def low : IVec S256x128 1 := cmpi .slt laneNo (broadcast S256x128 64#32)

/-- The scaled queries of a pair of heads. -/
def query (x : FVec Ideal S256x128 .f32) : FVec Ideal S256x128 .f32 :=
  mulf x (broadcast S256x128 (Named.named κ "q_scale" 0x3E38AA3B#32))

/-- The two heads of a pair, one under the other, each at its own lanes with zeros beside it. -/
def stack (q : FVec Ideal S256x128 .f32) : FVec Ideal S512x128 .f32 :=
  concatenate S512x128 0 [⟨S256x128, select low q (broadcast S256x128 (Scalar.ofBits .f32 0x00000000#32))⟩,
    ⟨S256x128, select low (broadcast S256x128 (Scalar.ofBits .f32 0x00000000#32)) q⟩] concatenates_S256x128_S256x128_S512x128_d0

/-- The scores of stacked queries against all keys. -/
def scores (s : FVec Ideal S512x128 .f32) (k : FVec Ideal S256x128 .f32) : FVec Ideal S512x256 .f32 :=
  matmul dot_S512x128_S256x128_S512x256_1_1_0_0_n_n none (truncf .bf16 s bitsLt_bf16_f32) (truncf .bf16 k bitsLt_bf16_f32) (constant S512x256 .f32 0x00000000#32)

/-- The weights before they are divided by their sum. -/
def weights (z : FVec Ideal S512x256 .f32) : FVec Ideal S512x256 .f32 :=
  exp2 (subf z (broadcastTo S512x256 (shapeCast S512x1 (multiReduction .maximumf [1] S512 z 0xFF800000#32 reduces_S512x256_S512 (.inl rfl) rfl)
    shapeCasts_S512_S512x1) broadcasts_S512x1_S512x256))

/-- The weighted mean of the values. -/
def mean (p : FVec Ideal S512x256 .f32) (v : FVec Ideal S256x128 .bf16) : FVec Ideal S512x128 .f32 :=
  divf (matmul dot_S512x256_S256x128_S512x128_1_0_0_1_n_n none (truncf .bf16 p bitsLt_bf16_f32) v (constant S512x128 .f32 0x00000000#32))
    (broadcastTo S512x128 (shapeCast S512x1 (multiReduction .add [1] S512 p 0x00000000#32 reduces_S512x256_S512 (.inl rfl) rfl)
      shapeCasts_S512_S512x1) broadcasts_S512x1_S512x128)

/-- Each head's own lanes of the stacked rows. -/
def unstack (o : FVec Ideal S512x128 .f32) : FVec Ideal S256x128 .bf16 :=
  truncf .bf16 (select low (extractStridedSlice S256x128 ![0, 0] o slices_S512x128_o0_0_S256x128)
    (extractStridedSlice S256x128 ![256, 0] o slices_S512x128_o256_0_S256x128)) bitsLt_bf16_f32

/-- What is stored for the pair of heads at lanes `p`, `p + 1`, …. -/
def tile (x k v : FVec Ideal S256x512 .f32) (p : ℕ) (h : S256x512.Slices ![0, p] S256x128) : FVec Ideal S256x128 .bf16 :=
  unstack (mean (weights (scores (stack (query (extractStridedSlice S256x128 ![0, p] x h))) (extractStridedSlice S256x128 ![0, p] k h)))
    (extractStridedSlice S256x128 ![0, p] (truncf .bf16 v bitsLt_bf16_f32) h))

/-! ## The parts at an index -/

theorem low_apply (r : Fin 256) (c : Fin 128) : low (ix2 r c) = if c.val < 64 then 1#1 else 0#1 := by
  pointwise [low, laneNo]
  revert c; decide +kernel

theorem low_lane (r : Fin 256) (b : Fin 2) (d : Fin 64) : low (ix2 r (lane b d)) = if b = 0 then 1#1 else 0#1 := by
  rw [low_apply]
  obtain rfl | rfl : b = 0 ∨ b = 1 := by omega
  · rw [if_pos (by simp only [lane, Fin.val_zero]; omega), if_pos rfl]
  · rw [if_neg (by simp only [lane, Fin.val_one]; omega), if_neg (by decide)]

/-- Row `r` of head `a` among the stacked rows. -/
def row2 (a : Fin 2) (r : Fin 256) : Fin 512 := ⟨256 * a.val + r.val, by omega⟩

theorem stack_apply (a : Fin 2) (q : FVec Ideal S256x128 .f32) (r : Fin 256) (e : Fin 2) (d : Fin 64) :
    stack q (ix2 (row2 a r) (lane e d)) = if e = a then q (ix2 r (lane a d)) else 0 := by
  have row0 : ∀ h : (row2 0 r).val < 256, (⟨(row2 0 r).val, h⟩ : Fin 256) = r := fun h => Fin.ext (by simp [row2])
  have row1 : ∀ h : (row2 1 r).val - 256 < 256, (⟨(row2 1 r).val - 256, h⟩ : Fin 256) = r := fun h => Fin.ext (by simp [row2])
  obtain rfl | rfl : a = 0 ∨ a = 1 := by omega
  · pointwise [stack]
    rw [dif_pos (by simp only [row2, Fin.val_zero]; omega), row0, low_lane]
    split
    · next h => subst h; rfl
    · rfl
  · pointwise [stack]
    rw [dif_neg (by simp only [row2, Fin.val_one]; omega), row1, low_lane]
    obtain rfl | rfl : e = 0 ∨ e = 1 := by omega
    · rfl
    · rfl

/-- A stacked row's scores are the head's own. -/
theorem scores_apply (a : Fin 2) (q k : FVec Ideal S256x128 .f32) (r : Fin 256) (Q : Fin 64 → ℝ)
    (K : Fin 256 → Fin 64 → ℝ) (hq : ∀ d, q (ix2 r (lane a d)) = (Q d : EReal)) (hk : ∀ s d, k (ix2 s (lane a d)) = (K s d : EReal))
    (s : Fin 256) : scores (stack q) k (ix2 (row2 a r) s) = ((∑ d, Q d * K s d : ℝ) : EReal) := by
  pointwise [scores]
  rw [sum_half _ a fun e he d => by rw [stack_apply, if_neg he, zero_mul], coe_sum]
  refine Finset.sum_congr rfl fun d _ => ?_
  rw [stack_apply, if_pos rfl, hq, hk, EReal.coe_mul]

/-- The mean of the values, finite or not, under the weights `exp`. -/
def attE {n : ℕ} (z : Fin n → ℝ) (v : Fin n → EReal) : EReal := ∑ s, ((Real.exp (z s) / ∑ t, Real.exp (z t) : ℝ) : EReal) * v s

theorem weight_shift {n : ℕ} (z : Fin n → ℝ) (M : ℝ) (s : Fin n) :
    Real.exp (z s - M) / ∑ t, Real.exp (z t - M) = Real.exp (z s) / ∑ t, Real.exp (z t) := by
  simp only [sub_eq_add_neg, Real.exp_add]
  rw [← Finset.sum_mul]
  exact mul_div_mul_right _ _ (Real.exp_pos _).ne'

/-- A sum of multiples of extended reals, divided by a positive real. -/
theorem div_sum {n : ℕ} (e : Fin n → ℝ) (v : Fin n → EReal) {D : ℝ} (hD : 0 < D) :
    Ideal.div (∑ s, (e s : EReal) * v s) (D : EReal) = ∑ s, ((e s / D : ℝ) : EReal) * v s := by
  rw [Ideal.div_coe hD.ne']
  have h0 : (0 : EReal) ≤ ((D⁻¹ : ℝ) : EReal) := EReal.coe_nonneg.mpr (inv_pos.mpr hD).le
  have key : ∀ f : Finset (Fin n), (∑ s ∈ f, (e s : EReal) * v s) * ((D⁻¹ : ℝ) : EReal) = ∑ s ∈ f, ((e s / D : ℝ) : EReal) * v s := by
    intro f
    induction f using Finset.induction_on with
    | empty => simp
    | insert a f h ih =>
      rw [Finset.sum_insert h, Finset.sum_insert h, EReal.right_distrib_of_nonneg_of_ne_top h0 (EReal.coe_ne_top _), ih, mul_right_comm,
        ← EReal.coe_mul, div_eq_mul_inv]
  rw [one_div]
  exact key Finset.univ

/-- The attention of one row: the values' mean under the weights `exp`. -/
theorem attend_apply (s : FVec Ideal S512x256 .f32) (v : FVec Ideal S256x128 .bf16) (r : Fin 512) (c : Fin 128) (z : Fin 256 → ℝ) (w : Fin 256 → EReal)
    (hz : ∀ i, s (ix2 r i) = (z i : EReal)) (hv : ∀ i, v (ix2 i c) = w i) :
    mean (weights s) v (ix2 r c) = attE (fun i => z i * Real.log 2) w := by
  obtain ⟨M, hM⟩ := fold_max z
  have hw : ∀ i, weights s (ix2 r i) = ((Real.exp (z i * Real.log 2 - M * Real.log 2) : ℝ) : EReal) := fun i => by
    pointwise [weights]
    simp only [hz, ofBits_bot]
    rw [hM, ← EReal.coe_sub, exp2_real, sub_mul]
  pointwise [mean]
  simp only [hw, hv, ← coe_sum]
  rw [div_sum _ _ (expSum_pos _)]
  exact Finset.sum_congr rfl fun s _ => by rw [weight_shift (fun i => z i * Real.log 2)]

theorem unstack_apply (o : FVec Ideal S512x128 .f32) (a : Fin 2) (r : Fin 256) (d : Fin 64) :
    unstack o (ix2 r (lane a d)) = o (ix2 (row2 a r) (lane a d)) := by
  have row0 : ∀ h : r.val < 512, (⟨r.val, h⟩ : Fin 512) = row2 0 r := fun h => Fin.ext (by simp [row2])
  have row1 : ∀ h : 256 + r.val < 512, (⟨256 + r.val, h⟩ : Fin 512) = row2 1 r := fun h => Fin.ext (by simp [row2])
  pointwise [unstack]
  rw [low_lane]
  obtain rfl | rfl : a = 0 ∨ a = 1 := by omega
  · rw [row0]; rfl
  · rw [row1]; rfl

/-- A head's output row, from its row of queries and its keys and values. -/
def headR (X : Fin 64 → ℝ) (K : Fin 256 → Fin 64 → ℝ) (V : Fin 256 → Fin 64 → EReal) (d : Fin 64) : EReal :=
  attE (fun s => (∑ e, X e * K s e) / 8) fun s => V s d

/-- One sample's block, all eight heads side by side. -/
def blockR (X K : Fin 256 → Fin 512 → ℝ) (V : Fin 256 → Fin 512 → EReal) (i : Fin 256) (j : Fin 512) : EReal :=
  headR (fun e => X i ⟨64 * (j.val / 64) + e.val, by omega⟩) (fun s e => K s ⟨64 * (j.val / 64) + e.val, by omega⟩)
    (fun s e => V s ⟨64 * (j.val / 64) + e.val, by omega⟩) ⟨j.val % 64, Nat.mod_lt _ (by decide)⟩

theorem tile_apply (x k v : FVec Ideal S256x512 .f32) (X K : Fin 256 → Fin 512 → ℝ) (V : Fin 256 → Fin 512 → EReal) (hx : ∀ i j, x (ix2 i j) = (X i j : EReal))
    (hk : ∀ i j, k (ix2 i j) = (K i j : EReal)) (hv : ∀ i j, v (ix2 i j) = V i j) (p : ℕ) (h : S256x512.Slices ![0, p] S256x128)
    (hp : p % 128 = 0) (i : Fin 256) (l : Fin 128) (j : Fin 512) (ej : j.val = p + l.val) :
    tile x k v p h (ix2 i l) = blockR X K V i j := by
  obtain ⟨a, d, rfl⟩ : ∃ a d, l = lane a d :=
    ⟨⟨l.val / 64, by omega⟩, ⟨l.val % 64, Nat.mod_lt _ (by decide)⟩, Fin.ext (by simp only [lane]; omega)⟩
  have ea : (lane a d).val = 64 * a.val + d.val := rfl
  have sl : ∀ (y : FVec Ideal S256x512 .f32) (Y : Fin 256 → Fin 512 → EReal), (∀ i j, y (ix2 i j) = Y i j) → ∀ s e,
      extractStridedSlice S256x128 ![0, p] y h (ix2 s (lane a e)) = Y s ⟨64 * (j.val / 64) + e.val, by omega⟩ := by
    intro y Y hy s e
    refine (congrArg y (funext fun w => ?_)).trans (hy s _)
    fin_cases w
    · exact Fin.ext (show 0 + s.val = s.val by omega)
    · exact Fin.ext (show p + (64 * a.val + e.val) = 64 * (j.val / 64) + e.val by omega)
  have hq : ∀ e, query (extractStridedSlice S256x128 ![0, p] x h) (ix2 i (lane a e))
      = ((X i ⟨64 * (j.val / 64) + e.val, by omega⟩ * qs : ℝ) : EReal) := by
    intro e
    exact (congrArg (fun u : EReal => u * (qs : EReal)) (sl x (fun i j => (X i j : EReal)) hx i e)).trans (EReal.coe_mul _ _).symm
  have hw : ∀ s, extractStridedSlice S256x128 ![0, p] (truncf .bf16 v bitsLt_bf16_f32) h (ix2 s (lane a d))
      = V s ⟨64 * (j.val / 64) + d.val, by omega⟩ := fun s => sl v V hv s d
  rw [tile, unstack_apply, attend_apply _ _ _ _ _ _ (scores_apply a _ _ i _ _ hq (sl k (fun i j => (K i j : EReal)) hk)) hw, blockR, headR]
  have e2 : (⟨j.val % 64, Nat.mod_lt _ (by decide)⟩ : Fin 64) = d := Fin.ext (by show j.val % 64 = d.val; omega)
  rw [e2]
  congr 2
  funext s
  rw [Finset.sum_mul, Finset.sum_div]
  refine Finset.sum_congr rfl fun e _ => ?_
  have := Real.log_pos (by norm_num : (1 : ℝ) < 2)
  unfold qs
  field_simp

/-! ## The stored block -/

/-- A stored piece, at the block's own row and lane. -/
theorem stored (x k v : FVec Ideal S256x512 .f32) (X K : Fin 256 → Fin 512 → ℝ) (V : Fin 256 → Fin 512 → EReal) (hx : ∀ i j, x (ix2 i j) = (X i j : EReal))
    (hk : ∀ i j, k (ix2 i j) = (K i j : EReal)) (hv : ∀ i j, v (ix2 i j) = V i j) (p : ℕ) (h : S256x512.Slices ![0, p] S256x128)
    (hp : p % 128 = 0) (i : Fin 256) (l : Fin 128) (y : S256x512.Idx) (e0 : (y 0).val = 0 + 1 * i.val) (e1 : (y 1).val = p + 1 * l.val) :
    tile x k v p h (ix2 i l) = blockR X K V (y 0) (y 1) := by
  have e : (y 0 : Fin 256) = i := Fin.ext (by omega)
  rw [e]
  exact tile_apply x k v X K V hx hk hv p h hp i l (y 1) (by omega)

section out
variable (x0 x1 x2 : Vec Ideal S256x512 .f32) (x3 : Vec Ideal S8x128 .f32) (x4 x5 : Vec Ideal S1x128 .f32)

/-- The four stored pieces are the pairs of heads. -/
theorem out_apply (X K : Fin 256 → Fin 512 → ℝ) (V : Fin 256 → Fin 512 → EReal) (hx : ∀ i j, x0 (ix2 i j) = (X i j : EReal))
    (hk : ∀ i j, x1 (ix2 i j) = (K i j : EReal)) (hv : ∀ i j, x2 (ix2 i j) = V i j) (y : S256x512.Idx) :
    out0_6 (F := Ideal) x0 x1 x2 x3 x4 x5 y = blockR X K V (y 0) (y 1) := by
  unfold_out out0_6
  refine View.canon_apply_of_pieces (Val := Elt Ideal) (fun y : S256x512.Idx => blockR X K V (y 0) (y 1)) _ ?_ y (cover0_6 _ _ _ _ y)
  rw [View.ld_unit_lit' (S := S256x512) _ x0 (by decide), View.ld_unit_lit' (S := S256x512) _ x1 (by decide), View.ld_unit_lit' (S := S256x512) _ x2 (by decide)]
  simp only [List.forall_mem_cons, List.not_mem_nil, false_imp_iff, implies_true, and_true]
  refine ⟨?_, ?_, ?_, ?_⟩ <;> intro z <;> obtain ⟨i, l, rfl⟩ : ∃ (i : Fin 256) (l : Fin 128), z = ix2 i l :=
    ⟨z 0, z 1, by funext a; fin_cases a <;> rfl⟩
  · exact Eq.trans (b := tile x0 x1 x2 384 slices_S256x512_o0_384_S256x128 (ix2 i l)) rfl (stored x0 x1 x2 X K V hx hk hv 384 _ (by decide) i l _ rfl rfl)
  · exact Eq.trans (b := tile x0 x1 x2 256 slices_S256x512_o0_256_S256x128 (ix2 i l)) rfl (stored x0 x1 x2 X K V hx hk hv 256 _ (by decide) i l _ rfl rfl)
  · exact Eq.trans (b := tile x0 x1 x2 128 slices_S256x512_o0_128_S256x128 (ix2 i l)) rfl (stored x0 x1 x2 X K V hx hk hv 128 _ (by decide) i l _ rfl rfl)
  · exact Eq.trans (b := tile x0 x1 x2 0 slices_S256x512_o0_0_S256x128 (ix2 i l)) rfl (stored x0 x1 x2 X K V hx hk hv 0 _ (by decide) i l _ rfl rfl)

end out

end Cert.CtxProof

end
-- ==== Proof.Ctx.Formula.lean ====
module

public import proofs.«01_k».proof.Proof.Ctx.Body

@[expose] public section

noncomputable section

open Idealize.ShloMosaic Idealize.ShloMosaic.TcCoe

/-! The attention of the contexts as one formula over the array: its queries and keys as reals, its values as they are. -/

namespace Cert.CtxProof

/-- Lanes `o`, `o + 1`, … of the context's rows of sample `b`. -/
def partR {α : Type} (Q : Fin 18432 → Fin 1536 → α) (b : Fin 8) (o : ℕ) (ho : o ≤ 1024) (i : Fin 256) (j : Fin 512) : α :=
  Q ⟨256 * b.val + i.val, by omega⟩ ⟨o + j.val, by omega⟩

/-- One lane of one head's output for row `n` of sample `b`'s context. -/
def outR (Q : Fin 18432 → Fin 1536 → ℝ) (A : Fin 18432 → Fin 1536 → EReal) (b : Fin 8) (n : Fin 256) (j : Fin 512) : EReal :=
  blockR (partR Q b 0 (by decide)) (partR Q b 512 (by decide)) (partR A b 1024 (by decide)) n j

end Cert.CtxProof

end
-- ==== Proof.Ctx.Kernel.lean ====
module

public import proofs.«01_k».proof.Proof.Ctx.Formula

@[expose] public section

set_option maxRecDepth 16384

noncomputable section

open Idealize.ShloMosaic Idealize.ShloMosaic.TcCoe Idealize.SL.Sem
open Idealize.ShloMosaic.Pipeline (Dat)

/-! The kernel's result array after the run. -/

namespace Cert.CtxProof
open Cert.CtxIdeal Cert.CtxIdeal.Gen

/-- Which block each window reads or writes at a point. -/
theorem idx : ∀ t : Fin cfg0.N, win0_0.index t = ![t.val, 0] ∧ win0_1.index t = ![t.val, 1] ∧ win0_2.index t = ![t.val, 2]
    ∧ win0_6.index t = ![t.val, 0] :=
  (by decide +kernel : ∀ t : Fin grid0.N, _)

variable (m : (ℓ : Loc nD τ sig) → Buf (Elt Ideal) ℓ) (Q : Fin 18432 → Fin 1536 → ℝ) (A : Fin 18432 → Fin 1536 → EReal) (c : Dev nD)

/-- The argument's entries are these, and the contexts' queries and keys these real numbers. -/
def Args : Prop := (∀ (i : Fin 18432) (j : Fin 1536), i.val < 2048 → j.val < 1024 → m ((c : Thread nD τ).loc main_arg0) (ix2 i j) = (Q i j : EReal))
  ∧ ∀ i j, m ((c : Thread nD τ).loc main_arg0) (ix2 i j) = A i j

/-- The sample point `t` works on. -/
def smp (t : Fin cfg0.N) : Fin 8 := ⟨t.val, lt_of_lt_of_eq t.isLt N_0⟩

variable {m Q A c}

theorem read_q (H : Args m Q A c) (t : Fin cfg0.N) (i : Fin 256) (j : Fin 512) :
    iblk m c 0 t (ix2 i j) = ((partR Q (smp t) 0 (by decide) i j : ℝ) : EReal) := by
  obtain ⟨e, -⟩ := idx t
  have hs := (smp t).isLt
  refine Eq.trans ?_ (H.1 ⟨256 * (smp t).val + i.val, by omega⟩ ⟨0 + j.val, by omega⟩ (by show 256 * (smp t).val + i.val < 2048; omega)
    (by show 0 + j.val < 1024; omega))
  blk_ext [iblk, V, e, smp]

theorem read_k (H : Args m Q A c) (t : Fin cfg0.N) (i : Fin 256) (j : Fin 512) :
    iblk m c 1 t (ix2 i j) = ((partR Q (smp t) 512 (by decide) i j : ℝ) : EReal) := by
  obtain ⟨-, e, -⟩ := idx t
  have hs := (smp t).isLt
  refine Eq.trans ?_ (H.1 ⟨256 * (smp t).val + i.val, by omega⟩ ⟨512 + j.val, by omega⟩ (by show 256 * (smp t).val + i.val < 2048; omega)
    (by show 512 + j.val < 1024; omega))
  blk_ext [iblk, V, e, smp]

theorem read_v (H : Args m Q A c) (t : Fin cfg0.N) (i : Fin 256) (j : Fin 512) :
    iblk m c 2 t (ix2 i j) = partR A (smp t) 1024 (by decide) i j := by
  obtain ⟨-, -, e, -⟩ := idx t
  refine Eq.trans ?_ (H.2 _ _)
  blk_ext [iblk, V, e, smp]

/-- The result array of the run. -/
def res (Q : Fin 18432 → Fin 1536 → ℝ) (A : Fin 18432 → Fin 1536 → EReal) (c : Dev nD) : Buf (Elt Ideal) ((c : Thread nD τ).loc main_v2) := fun i : S2048x512.Idx =>
  outR Q A ⟨(i 0).val / 256, by have : (i 0).val < 2048 := (i 0).isLt; omega⟩ ⟨(i 0).val % 256, Nat.mod_lt _ (by decide)⟩ (i 1)

theorem final (H : Args m Q A c) : (dats m 0 c).arrAt 6 cfg0.N = res Q A c := by
  refine (dats m 0 c).arrAt_eq_of_covers 6 _ (by decide +kernel) fun t hf y => ?_
  obtain ⟨-, -, -, e⟩ := idx t
  have hN : t.val < 8 := lt_of_lt_of_eq t.isLt N_0
  blk_simp
  rw [after0_6]
  obtain ⟨r, j, rfl⟩ : ∃ (r : Fin 256) (j : Fin 512), y = ix2 r j := ⟨y 0, y 1, by funext a; fin_cases a <;> rfl⟩
  refine (out_apply _ _ _ _ _ _ _ _ _ (read_q H t) (read_k H t) (read_v H t) _).trans ?_
  have hr := r.isLt
  have hn : t.val * 256 + r.val < 2048 := by omega
  have hE : (win0_6.blk t).view.emb (ix2 r j) = ix2 (⟨t.val * 256 + r.val, hn⟩ : Fin 2048) j := by
    blk_ext [e]
  show _ = res Q A c ((win0_6.blk t).view.emb (ix2 r j))
  rw [hE]
  show outR Q A (smp t) r j = outR Q A ⟨(t.val * 256 + r.val) / 256, _⟩ ⟨(t.val * 256 + r.val) % 256, _⟩ j
  congr 1
  · exact Fin.ext (by show t.val = (t.val * 256 + r.val) / 256; omega)
  · exact Fin.ext (by show r.val = (t.val * 256 + r.val) % 256; omega)

end Cert.CtxProof

end
-- ==== Proof.Ctx.Reference.lean ====
module

public import proofs.«01_k».proof.Proof.Gen.CtxRefIdeal.Read
public import proofs.«01_k».proof.Proof.Ctx.Formula
public import Idealize.ShloMosaic.Lib.Pipeline.ValueKit
public import Idealize.ShloMosaic.Lib.Pointwise

@[expose] public section

set_option maxRecDepth 16384

noncomputable section

open Idealize.ShloMosaic Idealize.ShloMosaic.TcCoe

/-! The reference's attention of the context, read at an index. -/

namespace Cert.CtxProof
open Cert.CtxRefIdeal Cert.CtxRefIdeal.Gen Cert.CtxRefIdeal.Read
open Cert.AttnProof (fold_max expSum_pos coe_sum div_real ofBits_bot ofBits_8th)

variable {x0 : FVec Ideal S18432x1536 .f32} {Q : Fin 18432 → Fin 1536 → ℝ} {A : Fin 18432 → Fin 1536 → EReal}

theorem ref_q (h : ∀ (i : Fin 18432) (j : Fin 1536), i.val < 2048 → j.val < 1024 → x0 (ix2 i j) = (Q i j : EReal)) (b : Fin 8) (i : Fin 256) (a : Fin 8) (d : Fin 64) :
    val_main_v3 (F := Ideal) x0 (ix4 b i a d) = ((partR Q b 0 (by decide) i ⟨64 * a.val + d.val, by omega⟩ : ℝ) : EReal) := by
  pointwise [val_main_v3, val_main_v2, val_main_v1, val_main_v0]
  rw [h _ _ (by dsimp only; omega) (by dsimp only; omega), partR]
  congr 3 <;> ring

theorem ref_k (h : ∀ (i : Fin 18432) (j : Fin 1536), i.val < 2048 → j.val < 1024 → x0 (ix2 i j) = (Q i j : EReal)) (b : Fin 8) (i : Fin 256) (a : Fin 8) (d : Fin 64) :
    val_main_v5 (F := Ideal) x0 (ix4 b i a d) = ((partR Q b 512 (by decide) i ⟨64 * a.val + d.val, by omega⟩ : ℝ) : EReal) := by
  pointwise [val_main_v5, val_main_v4, val_main_v1, val_main_v0]
  rw [h _ _ (by dsimp only; omega) (by dsimp only; omega), partR]
  congr 3 <;> ring

theorem ref_v (g : ∀ i j, x0 (ix2 i j) = A i j) (b : Fin 8) (i : Fin 256) (a : Fin 8) (d : Fin 64) :
    val_main_v7 (F := Ideal) x0 (ix4 b i a d) = partR A b 1024 (by decide) i ⟨64 * a.val + d.val, by omega⟩ := by
  pointwise [val_main_v7, val_main_v6, val_main_v1, val_main_v0]
  rw [g, partR]
  congr 2 <;> ring

/-- The score of a query row against a key row. -/
def scoreR (Q : Fin 18432 → Fin 1536 → ℝ) (b a : Fin 8) (n s : Fin 256) : ℝ :=
  (∑ e : Fin 64, partR Q b 0 (by decide) n ⟨64 * a.val + e.val, by omega⟩ * partR Q b 512 (by decide) s ⟨64 * a.val + e.val, by omega⟩) / 8

theorem ref_score (h : ∀ (i : Fin 18432) (j : Fin 1536), i.val < 2048 → j.val < 1024 → x0 (ix2 i j) = (Q i j : EReal)) (b a : Fin 8) (n s : Fin 256) :
    val_main_v10 (F := Ideal) x0 (ix4 b a n s) = (scoreR Q b a n s : EReal) := by
  pointwise [val_main_v10, val_main_v9, val_main_v8, val_main_cst]
  simp only [ref_k h, ref_q h, ← EReal.coe_mul]
  rw [← coe_sum, ofBits_8th, ← EReal.coe_mul, scoreR]
  congr 1
  rw [mul_one_div]

theorem smax (b a : Fin 8) (n : Fin 256) :
    val_main_v11 (F := Ideal) x0 (ix3 b a n)
      = Finset.fold max (Ideal.ofBits .f32 0xFF800000#32) (fun x => val_main_v10 (F := Ideal) x0 (ix4 b a n x)) Finset.univ := by
  pointwise [val_main_v11, val_main_cst_0]

theorem sexp (b a : Fin 8) (n s : Fin 256) :
    val_main_v17 (F := Ideal) x0 (ix4 b a n s)
      = Ideal.exp (val_main_v10 (F := Ideal) x0 (ix4 b a n s) - max (Ideal.ofBits .f32 0xFF800000#32) (val_main_v11 (F := Ideal) x0 (ix3 b a n))) := by
  rw [val_main_v17_apply, val_main_v16_apply, val_main_v15_apply, val_main_v14_apply, val_main_v13_apply, val_main_v12_apply, val_main_cst_1_apply]
  have e : idx_main_v14 (idx_main_v15 (ix4 b a n s)) = ix3 b a n := by funext i; fin_cases i <;> rfl
  rw [e]
  generalize val_main_v11 (F := Ideal) x0 (ix3 b a n) = M
  generalize val_main_v10 (F := Ideal) x0 (ix4 b a n s) = Z
  rfl

theorem swt (b a : Fin 8) (n s : Fin 256) :
    val_main_v21 (F := Ideal) x0 (ix4 b a n s)
      = Ideal.div (val_main_v17 (F := Ideal) x0 (ix4 b a n s)) (∑ s, val_main_v17 (F := Ideal) x0 (ix4 b a n s)) := by
  pointwise [val_main_v21, val_main_v20, val_main_v19, val_main_v18, val_main_cst_2]

theorem sout (b a : Fin 8) (n : Fin 256) (d : Fin 64) :
    val_main_v22 (F := Ideal) x0 (ix4 b a d n)
      = ∑ s, val_main_v7 (F := Ideal) x0 (ix4 b s a d) * val_main_v21 (F := Ideal) x0 (ix4 b a n s) := by
  pointwise [val_main_v22]

/-- The reference's attention of one row, from its scores and values. -/
theorem sattn (b a : Fin 8) (n : Fin 256) (d : Fin 64) (z : Fin 256 → ℝ) (v : Fin 256 → EReal)
    (hz : ∀ s, val_main_v10 (F := Ideal) x0 (ix4 b a n s) = (z s : EReal))
    (hv : ∀ s, val_main_v7 (F := Ideal) x0 (ix4 b s a d) = v s) :
    val_main_v22 (F := Ideal) x0 (ix4 b a d n) = attE z v := by
  obtain ⟨M, hM⟩ := fold_max (n := 255) z
  have hm : val_main_v11 (F := Ideal) x0 (ix3 b a n) = (M : EReal) := by
    rw [smax, ofBits_bot, ← hM]
    exact congrArg (fun f => Finset.fold max ⊥ f Finset.univ) (funext hz)
  have he : ∀ s, val_main_v17 (F := Ideal) x0 (ix4 b a n s) = ((Real.exp (z s - M) : ℝ) : EReal) := fun s => by
    rw [sexp, hz, hm, ofBits_bot, max_eq_right bot_le, ← EReal.coe_sub, Ideal.exp_coe]
  rw [sout]
  refine Finset.sum_congr rfl fun s _ => ?_
  rw [hv, swt, he, Finset.sum_congr rfl fun t _ => he t, ← coe_sum, div_real _ (expSum_pos (n := 255) _).ne', weight_shift, mul_comm]

/-- The reference's result at row `r`, lane `j`. -/
theorem ref_out (h : ∀ (i : Fin 18432) (j : Fin 1536), i.val < 2048 → j.val < 1024 → x0 (ix2 i j) = (Q i j : EReal))
    (g : ∀ i j, x0 (ix2 i j) = A i j) (r : Fin 2048) (j : Fin 512) :
    val_main_v25 (F := Ideal) x0 (ix2 r j)
      = outR Q A ⟨r.val / 256, by omega⟩ ⟨r.val % 256, Nat.mod_lt _ (by decide)⟩ j := by
  pointwise [val_main_v25, val_main_v24, val_main_v23]
  refine (sattn _ _ _ _ _ _ (fun s => ref_score h _ _ _ s) (fun s => ref_v g _ _ _ _)).trans ?_
  rfl

end Cert.CtxProof

end
-- ==== Proof.Ctx.Claims.lean ====
module

public import proofs.«01_k».proof.Defs
public import proofs.«01_k».proof.Proof.Gen.Ctx.Frame
public import proofs.«01_k».proof.Proof.Gen.CtxIdeal.Frame
public import proofs.«01_k».proof.Proof.Gen.Pre_finite_rows
public import proofs.«01_k».proof.Proof.Attn.Claims
public import proofs.«01_k».proof.Proof.Ctx.Kernel
public import proofs.«01_k».proof.Proof.Ctx.Reference
public import Idealize.ShloMosaic.Lib.Quiescent
public import Idealize.ShloMosaic.Lib.ReduceAll

@[expose] public section

noncomputable section

open Idealize.ShloMosaic Idealize.ShloMosaic.TcCoe Idealize.SL.Sem

/-! The five claims about the attention of the contexts. -/

namespace Cert.CtxProof

/-- The kernel ends quiescent, its argument unchanged. -/
theorem frame_k : Cert.quiescent_Ctx := fun m ρ _ => Cert.Ctx.Gen.frame m ρ

/-- So does the kernel over the extended reals. -/
theorem frame_ki : Cert.quiescent_CtxIdeal := fun m ρ _ => Cert.CtxIdeal.Gen.frame m ρ

theorem frame_ki_finite : Cert.quiescent_CtxIdeal_pre_finite_rows := fun m ρ _ => Cert.CtxIdeal.Gen.frame m ρ

/-- So does the reference; it declares no semaphore. -/
theorem frame_ri : Cert.quiescent_CtxRefIdeal := fun m ρ _ =>
  (θ_run Cert.CtxRefIdeal.defs _ _).mono (fun r h => ⟨fun c => (h c).2,
      Idealize.ShloMosaic.sem_eq_zero_of_no_sems (by decide) r.2⟩)
    (Cert.CtxRefIdeal.Value.run (F := Ideal) m ρ)

theorem frame_ri_finite : Cert.quiescent_CtxRefIdeal_pre_finite_rows := fun m ρ _ => frame_ri m ρ trivial

/-- The rounded scale of the queries stands for its exact value. -/
theorem preserved : Cert.preserves_Ctx_CtxIdeal := IdealRules.named_const.statement _ _ _ _ _ rfl

/-- Under the precondition the contexts' queries and keys are real. -/
theorem real_of_finite {x : FVec Ideal Cert.Pre_finite_rows.S18432x1536 .f32}
    (h : Cert.Pre_finite_rows.fn (F := Ideal) x = fun _ => 1#1) (i : Fin 18432) (j : Fin 1536) (hi : i.val < 2048) (hj : j.val < 1024) :
    x (ix2 i j) = ((EReal.toReal (x (ix2 i j)) : ℝ) : EReal) := by
  haveI : Subsingleton Cert.Pre_finite_rows.S_.Idx := ⟨fun a b => funext fun k => k.elim0⟩
  have H := Host.reduce_andi_all _ _ _ _ _ (congrFun h ix0) (ix2 (⟨i.val, hi⟩ : Fin 2048) (⟨j.val, hj⟩ : Fin 1024))
  have e : extractStridedSlice Cert.Pre_finite_rows.S2048x1024 ![0, 0] x Cert.Pre_finite_rows.Gen.slices_S18432x1536_S2048x1024_0_0
      (ix2 (⟨i.val, hi⟩ : Fin 2048) (⟨j.val, hj⟩ : Fin 1024)) = x (ix2 i j) :=
    congrArg x (funext fun w => by fin_cases w <;> exact Fin.ext (Nat.zero_add _))
  rw [← e]
  exact Cert.AttnProof.real_of_lt H

variable (m : (ℓ : Loc Cert.CtxIdeal.nD Cert.CtxIdeal.τ Cert.CtxIdeal.sig) → Buf (Elt Ideal) ℓ) (c : Dev Cert.CtxIdeal.nD)

/-- The entries of the projected queries, keys and values. -/
def ent (i : Fin 18432) (j : Fin 1536) : EReal := m ((c.tc : Thread Cert.CtxIdeal.nD Cert.CtxIdeal.τ).loc Cert.CtxIdeal.main_arg0) (ix2 i j)

/-- The same as reals. -/
def entQ (i : Fin 18432) (j : Fin 1536) : ℝ := EReal.toReal (ent m c i j)

theorem args (h : Cert.Pre_CtxIdeal_finite_rows m) : Args m (entQ m c) (ent m c) c :=
  ⟨fun i j hi hj => real_of_finite (h c) i j hi hj, fun _ _ => rfl⟩

/-- Kernel and reference leave the same result: both leave the attention of the argument's entries. -/
theorem value : Cert.algebraic_CtxIdeal_CtxRefIdeal_pre_finite_rows := by
  intro m ρ m' ρ' hpre hagree
  refine ⟨fun c => res (entQ m c) (ent m c) c, ?_, ?_⟩
  · exact (θ_run Cert.CtxIdeal.defs _ _).mono (fun _ h c => ⟨(h c).1.trans (final (args m c hpre)), (h c).2⟩)
      (Cert.CtxIdeal.Value.run_blocks (F := Ideal) m ρ)
  · refine (θ_run Cert.CtxRefIdeal.defs _ _).mono
      (fun _ h c => ⟨((h c).1.trans (Cert.CtxRefIdeal.Read.val_main_v25_eq _ _)).trans ?_, (h c).2⟩)
      (Cert.CtxRefIdeal.Value.run (F := Ideal) m' ρ')
    have a0 := hagree c
    funext i
    have e : i = ix2 (i 0) (i 1) := by funext a; fin_cases a <;> rfl
    rw [e]
    exact ref_out (fun i j hi hj => (congrFun a0 _).trans ((args m c hpre).1 i j hi hj)) (fun _ _ => congrFun a0 _) (i 0) (i 1)

end Cert.CtxProof

end
-- ==== Proof.Group.Body.lean ====
module

public import proofs.«01_k».proof.Proof.Gen.GroupIdeal.Value
public import proofs.«01_k».proof.Proof.Ctx.Body
public import Idealize.ShloMosaic.Lib.Pointwise
public import Idealize.ShloMosaic.Lib.Pipeline.ValueKit

@[expose] public section

set_option maxRecDepth 16384

noncomputable section

open Idealize.ShloMosaic Idealize.ShloMosaic.TcCoe

/-! The grouped attention of one sample's context: the body's vector arithmetic, named part by part, and read at an index. -/

namespace Cert.GroupProof
open Cert.GroupIdeal Cert.GroupIdeal.Gen
open Cert.AttnProof (normCtx normCtx_apply normR fold_max expSum_pos lane sum_half coe_sum ofBits_bot exp2_real qs)
open Cert.CtxProof (low low_lane attE weight_shift div_sum headR)

/-- The last 64 lanes. -/
def high : IVec S256x128 1 := xori low (constantI S256x128 1 1#1)

/-- The other half's lanes. -/
def swap (x : FVec Ideal S256x128 .f32) : FVec Ideal S256x128 .f32 := dynamicRotate 1 64#32 none x rotates_S256x128_d1

/-- The queries of a pair of heads: normed and scaled. -/
def query (x : FVec Ideal S256x128 .f32) (g : FVec Ideal S1x128 .f32) : FVec Ideal S256x128 .f32 :=
  mulf (normCtx x g) (broadcast S256x128 (Named.named κ "q_scale" 0x3E38AA3B#32))

/-- Only the lanes of `w`. -/
def only (w : IVec S256x128 1) (x : FVec Ideal S256x128 .f32) : FVec Ideal S256x128 .f32 :=
  select w x (broadcast S256x128 (Scalar.ofBits .f32 0x00000000#32))

/-- Four blocks one under the other. -/
def under (a b c d : FVec Ideal S256x128 .f32) : FVec Ideal S1024x128 .f32 :=
  concatenate S1024x128 0 [⟨S256x128, a⟩, ⟨S256x128, b⟩, ⟨S256x128, c⟩, ⟨S256x128, d⟩] concatenates_S256x128_S256x128_S256x128_S256x128_S1024x128_d0

/-- The four heads of two pairs, each over the first 64 lanes. -/
def stackLow (q q' : FVec Ideal S256x128 .f32) : FVec Ideal S1024x128 .f32 :=
  under (only low q) (only low (swap q)) (only low q') (only low (swap q'))

/-- The four heads of two pairs, each over the last 64 lanes. -/
def stackHigh (q q' : FVec Ideal S256x128 .f32) : FVec Ideal S1024x128 .f32 :=
  under (only high (swap q)) (only high q) (only high (swap q')) (only high q')

/-- The scores of stacked queries against all keys. -/
def scores (s : FVec Ideal S1024x128 .f32) (k : FVec Ideal S256x128 .bf16) : FVec Ideal S1024x256 .f32 :=
  matmul dot_S1024x128_S256x128_S1024x256_1_1_0_0_n_n none (truncf .bf16 s bitsLt_bf16_f32) k (constant S1024x256 .f32 0x00000000#32)

/-- The weights before they are divided by their sum. -/
def weights (z : FVec Ideal S1024x256 .f32) : FVec Ideal S1024x256 .f32 :=
  exp2 (subf z (broadcastTo S1024x256 (shapeCast S1024x1 (multiReduction .maximumf [1] S1024 z 0xFF800000#32 reduces_S1024x256_S1024 (.inl rfl) rfl)
    shapeCasts_S1024_S1024x1) broadcasts_S1024x1_S1024x256))

/-- The weighted mean of the values. -/
def mean (p : FVec Ideal S1024x256 .f32) (v : FVec Ideal S256x128 .bf16) : FVec Ideal S1024x128 .f32 :=
  divf (matmul dot_S1024x256_S256x128_S1024x128_1_0_0_1_n_n none (truncf .bf16 p bitsLt_bf16_f32) v (constant S1024x128 .f32 0x00000000#32))
    (broadcastTo S1024x128 (shapeCast S1024x1 (multiReduction .add [1] S1024 p 0x00000000#32 reduces_S1024x256_S1024 (.inl rfl) rfl)
      shapeCasts_S1024_S1024x1) broadcasts_S1024x1_S1024x128)

/-- The attention of stacked queries. -/
def attend (s : FVec Ideal S1024x128 .f32) (k v : FVec Ideal S256x128 .bf16) : FVec Ideal S1024x128 .f32 :=
  mean (weights (scores s k)) v

/-- What is stored of two heads' rows that stand over the first 64 lanes. -/
def mergeLow (o o' : FVec Ideal S256x128 .f32) : FVec Ideal S256x128 .bf16 := truncf .bf16 (select low o (swap o')) bitsLt_bf16_f32

/-- What is stored of two heads' rows that stand over the last 64 lanes. -/
def mergeHigh (o o' : FVec Ideal S256x128 .f32) : FVec Ideal S256x128 .bf16 := truncf .bf16 (select low (swap o) o') bitsLt_bf16_f32

/-! ## The parts at an index -/

theorem high_lane (r : Fin 256) (b : Fin 2) (d : Fin 64) : high (ix2 r (lane b d)) = if b = 0 then 0#1 else 1#1 := by
  pointwise [high]
  rw [low_lane]
  split <;> rfl

theorem swap_apply (x : FVec Ideal S256x128 .f32) (r : Fin 256) (a : Fin 2) (d : Fin 64) :
    swap x (ix2 r (lane a d)) = x (ix2 r (lane (1 - a) d)) := by
  pointwise [swap]
  refine congrArg (fun c => x (ix2 r c)) (Fin.ext ?_)
  obtain rfl | rfl : a = 0 ∨ a = 1 := by omega
  · show (64 * 0 + d.val + 128 - 64) % 128 = 64 * 1 + d.val
    omega
  · show (64 * 1 + d.val + 128 - 64) % 128 = 64 * 0 + d.val
    omega

/-- Row `r` of head `a` of pair `u` among the stacked rows. -/
def row4 (u a : Fin 2) (r : Fin 256) : Fin 1024 := ⟨512 * u.val + 256 * a.val + r.val, by omega⟩

theorem under_apply (f : Fin 2 → Fin 2 → FVec Ideal S256x128 .f32) (u a : Fin 2) (r : Fin 256) (c : Fin 128) :
    under (f 0 0) (f 0 1) (f 1 0) (f 1 1) (ix2 (row4 u a r) c) = f u a (ix2 r c) := by
  have hr := r.isLt
  have row : ∀ (n : ℕ) (h : n < 256), n = r.val → (⟨n, h⟩ : Fin 256) = r := fun n h e => Fin.ext e
  obtain rfl | rfl : u = 0 ∨ u = 1 := by omega
  · obtain rfl | rfl : a = 0 ∨ a = 1 := by omega
    · pointwise [under]
      rw [dif_pos (by simp only [row4, Fin.val_zero]; omega), row _ _ (by simp only [row4, Fin.val_zero]; omega)]
    · pointwise [under]
      rw [dif_neg (by simp only [row4, Fin.val_zero, Fin.val_one]; omega), dif_pos (by simp only [row4, Fin.val_zero, Fin.val_one]; omega),
        row _ _ (by simp only [row4, Fin.val_zero, Fin.val_one]; omega)]
  · obtain rfl | rfl : a = 0 ∨ a = 1 := by omega
    · pointwise [under]
      rw [dif_neg (by simp only [row4, Fin.val_zero, Fin.val_one]; omega), dif_neg (by simp only [row4, Fin.val_zero, Fin.val_one]; omega),
        dif_pos (by simp only [row4, Fin.val_zero, Fin.val_one]; omega), row _ _ (by simp only [row4, Fin.val_zero, Fin.val_one]; omega)]
    · pointwise [under]
      rw [dif_neg (by simp only [row4, Fin.val_one]; omega), dif_neg (by simp only [row4, Fin.val_one]; omega),
        dif_neg (by simp only [row4, Fin.val_one]; omega), row _ _ (by simp only [row4, Fin.val_one]; omega)]

theorem only_low (x : FVec Ideal S256x128 .f32) (r : Fin 256) (e : Fin 2) (d : Fin 64) :
    only low x (ix2 r (lane e d)) = if e = 0 then x (ix2 r (lane e d)) else 0 := by
  pointwise [only]
  rw [low_lane]
  split
  · rfl
  · rfl

theorem only_high (x : FVec Ideal S256x128 .f32) (r : Fin 256) (e : Fin 2) (d : Fin 64) :
    only high x (ix2 r (lane e d)) = if e = 1 then x (ix2 r (lane e d)) else 0 := by
  pointwise [only]
  rw [high_lane]
  obtain rfl | rfl : e = 0 ∨ e = 1 := by omega
  · rfl
  · rfl

/-- The stacked queries over half `b`. -/
def stack (b : Fin 2) (q : Fin 2 → FVec Ideal S256x128 .f32) : FVec Ideal S1024x128 .f32 :=
  if b = 0 then stackLow (q 0) (q 1) else stackHigh (q 0) (q 1)

theorem stack_apply (b u a : Fin 2) (q : Fin 2 → FVec Ideal S256x128 .f32) (r : Fin 256) (e : Fin 2) (d : Fin 64) :
    stack b q (ix2 (row4 u a r) (lane e d)) = if e = b then q u (ix2 r (lane a d)) else 0 := by
  obtain rfl | rfl : b = 0 ∨ b = 1 := by omega
  · refine (under_apply (fun u a => only low (if a = 0 then q u else swap (q u))) u a r _).trans ?_
    rw [only_low]
    obtain rfl | rfl : e = 0 ∨ e = 1 := by omega
    · obtain rfl | rfl : a = 0 ∨ a = 1 := by omega
      · rfl
      · exact swap_apply (q u) r 0 d
    · rfl
  · refine (under_apply (fun u a => only high (if a = 0 then swap (q u) else q u)) u a r _).trans ?_
    rw [only_high]
    obtain rfl | rfl : e = 0 ∨ e = 1 := by omega
    · rfl
    · obtain rfl | rfl : a = 0 ∨ a = 1 := by omega
      · exact swap_apply (q u) r 1 d
      · rfl

/-- A stacked row's scores are the head's own. -/
theorem scores_apply (b u a : Fin 2) (q : Fin 2 → FVec Ideal S256x128 .f32) (k : FVec Ideal S256x128 .bf16) (r : Fin 256) (Q : Fin 64 → ℝ)
    (K : Fin 256 → Fin 64 → ℝ) (hq : ∀ d, q u (ix2 r (lane a d)) = (Q d : EReal)) (hk : ∀ s d, k (ix2 s (lane b d)) = (K s d : EReal))
    (s : Fin 256) : scores (stack b q) k (ix2 (row4 u a r) s) = ((∑ d, Q d * K s d : ℝ) : EReal) := by
  pointwise [scores]
  rw [sum_half _ b fun e he d => by rw [stack_apply, if_neg he, zero_mul], coe_sum]
  refine Finset.sum_congr rfl fun d _ => ?_
  rw [stack_apply, if_pos rfl, hq, hk, EReal.coe_mul]

/-- The attention of one row: the values' mean under the weights `exp`. -/
theorem attend_apply (s : FVec Ideal S1024x128 .f32) (k v : FVec Ideal S256x128 .bf16) (r : Fin 1024) (c : Fin 128) (z : Fin 256 → ℝ)
    (w : Fin 256 → EReal) (hz : ∀ i, scores s k (ix2 r i) = (z i : EReal)) (hv : ∀ i, v (ix2 i c) = w i) :
    attend s k v (ix2 r c) = attE (fun i => z i * Real.log 2) w := by
  obtain ⟨M, hM⟩ := fold_max z
  have hw : ∀ i, weights (scores s k) (ix2 r i) = ((Real.exp (z i * Real.log 2 - M * Real.log 2) : ℝ) : EReal) := fun i => by
    pointwise [weights]
    simp only [hz, ofBits_bot]
    rw [hM, ← EReal.coe_sub, exp2_real, sub_mul]
  pointwise [attend, mean]
  simp only [hw, hv, ← coe_sum]
  rw [div_sum _ _ (expSum_pos _)]
  exact Finset.sum_congr rfl fun s _ => by rw [weight_shift (fun i => z i * Real.log 2)]

theorem mergeLow_apply (o o' : FVec Ideal S256x128 .f32) (r : Fin 256) (a : Fin 2) (d : Fin 64) :
    mergeLow o o' (ix2 r (lane a d)) = (if a = 0 then o else o') (ix2 r (lane 0 d)) := by
  pointwise [mergeLow]
  rw [low_lane]
  obtain rfl | rfl : a = 0 ∨ a = 1 := by omega
  · rfl
  · exact swap_apply o' r 1 d

theorem mergeHigh_apply (o o' : FVec Ideal S256x128 .f32) (r : Fin 256) (a : Fin 2) (d : Fin 64) :
    mergeHigh o o' (ix2 r (lane a d)) = (if a = 0 then o else o') (ix2 r (lane 1 d)) := by
  pointwise [mergeHigh]
  rw [low_lane]
  obtain rfl | rfl : a = 0 ∨ a = 1 := by omega
  · exact swap_apply o r 0 d
  · rfl

/-- The two heads of pair `u`, cut out of the stacked rows and laid side by side. -/
def piece (b u : Fin 2) (o : FVec Ideal S1024x128 .f32) (h0 : S1024x128.Slices ![512 * u.val, 0] S256x128)
    (h1 : S1024x128.Slices ![512 * u.val + 256, 0] S256x128) : FVec Ideal S256x128 .bf16 :=
  if b = 0 then mergeLow (extractStridedSlice S256x128 ![512 * u.val, 0] o h0) (extractStridedSlice S256x128 ![512 * u.val + 256, 0] o h1)
  else mergeHigh (extractStridedSlice S256x128 ![512 * u.val, 0] o h0) (extractStridedSlice S256x128 ![512 * u.val + 256, 0] o h1)

theorem piece_apply (b u a : Fin 2) (o : FVec Ideal S1024x128 .f32) (h0 : S1024x128.Slices ![512 * u.val, 0] S256x128)
    (h1 : S1024x128.Slices ![512 * u.val + 256, 0] S256x128) (r : Fin 256) (d : Fin 64) :
    piece b u o h0 h1 (ix2 r (lane a d)) = o (ix2 (row4 u a r) (lane b d)) := by
  have s0 : ∀ c, extractStridedSlice S256x128 ![512 * u.val, 0] o h0 (ix2 r c) = o (ix2 (row4 u 0 r) c) := fun c =>
    congrArg o (funext fun w => by
      fin_cases w
      · exact Fin.ext (show 512 * u.val + r.val = 512 * u.val + 256 * 0 + r.val by omega)
      · exact Fin.ext (show 0 + c.val = c.val by omega))
  have s1 : ∀ c, extractStridedSlice S256x128 ![512 * u.val + 256, 0] o h1 (ix2 r c) = o (ix2 (row4 u 1 r) c) := fun c =>
    congrArg o (funext fun w => by
      fin_cases w
      · exact Fin.ext (show 512 * u.val + 256 + r.val = 512 * u.val + 256 * 1 + r.val by omega)
      · exact Fin.ext (show 0 + c.val = c.val by omega))
  obtain rfl | rfl : b = 0 ∨ b = 1 := by omega
  · refine (mergeLow_apply _ _ r a d).trans ?_
    obtain rfl | rfl : a = 0 ∨ a = 1 := by omega
    · exact s0 _
    · exact s1 _
  · refine (mergeHigh_apply _ _ r a d).trans ?_
    obtain rfl | rfl : a = 0 ∨ a = 1 := by omega
    · exact s0 _
    · exact s1 _

/-- The query of a head, at a lane. -/
theorem query_apply (x : FVec Ideal S256x128 .f32) (g : FVec Ideal S1x128 .f32) (r : Fin 256) (a : Fin 2) (X G : Fin 64 → ℝ)
    (hx : ∀ d, x (ix2 r (lane a d)) = (X d : EReal)) (hg : ∀ d, g (ix2 0 (lane a d)) = (G d : EReal)) (d : Fin 64) :
    query x g (ix2 r (lane a d)) = ((normR X G d * qs : ℝ) : EReal) := by
  refine (congrArg (fun u : EReal => u * (qs : EReal)) (normCtx_apply x g r a X G hx hg d)).trans (EReal.coe_mul _ _).symm

/-- The head of keys and values that output lane `j` reads. -/
def kvHead (j : Fin 512) : Fin 2 := ⟨j.val / 256, by omega⟩

/-- One sample's block, all eight heads side by side. -/
def blockR (X : Fin 256 → Fin 512 → ℝ) (G H : Fin 64 → ℝ) (K : Fin 2 → Fin 256 → Fin 64 → ℝ) (V : Fin 2 → Fin 256 → Fin 64 → EReal)
    (i : Fin 256) (j : Fin 512) : EReal :=
  headR (normR (fun e => X i ⟨64 * (j.val / 64) + e.val, by omega⟩) G) (fun s => normR (K (kvHead j) s) H) (V (kvHead j))
    ⟨j.val % 64, Nat.mod_lt _ (by decide)⟩

/-- What is stored for pair `u` of the heads that read head `b` of keys and values. -/
def tile (b u : Fin 2) (x : FVec Ideal S256x512 .f32) (g h : FVec Ideal S1x128 .f32) (k v : FVec Ideal S256x128 .f32)
    (p : S256x512.Slices ![0, 256 * b.val] S256x128 ∧ S256x512.Slices ![0, 256 * b.val + 128] S256x128)
    (h0 : S1024x128.Slices ![512 * u.val, 0] S256x128) (h1 : S1024x128.Slices ![512 * u.val + 256, 0] S256x128) : FVec Ideal S256x128 .bf16 :=
  piece b u (attend (stack b fun w => query (if w = 0 then extractStridedSlice S256x128 ![0, 256 * b.val] x p.1
      else extractStridedSlice S256x128 ![0, 256 * b.val + 128] x p.2) g)
    (truncf .bf16 (normCtx k h) bitsLt_bf16_f32) (truncf .bf16 v bitsLt_bf16_f32)) h0 h1

theorem tile_apply (b u : Fin 2) (x : FVec Ideal S256x512 .f32) (g h : FVec Ideal S1x128 .f32) (k v : FVec Ideal S256x128 .f32)
    (X : Fin 256 → Fin 512 → ℝ) (G H : Fin 64 → ℝ) (K : Fin 2 → Fin 256 → Fin 64 → ℝ) (V : Fin 2 → Fin 256 → Fin 64 → EReal)
    (hx : ∀ i j, x (ix2 i j) = (X i j : EReal)) (hg : ∀ a d, g (ix2 0 (lane a d)) = (G d : EReal)) (hh : ∀ a d, h (ix2 0 (lane a d)) = (H d : EReal))
    (hk : ∀ s a d, k (ix2 s (lane a d)) = (K a s d : EReal)) (hv : ∀ s a d, v (ix2 s (lane a d)) = V a s d)
    (p : S256x512.Slices ![0, 256 * b.val] S256x128 ∧ S256x512.Slices ![0, 256 * b.val + 128] S256x128)
    (h0 : S1024x128.Slices ![512 * u.val, 0] S256x128) (h1 : S1024x128.Slices ![512 * u.val + 256, 0] S256x128)
    (i : Fin 256) (l : Fin 128) (j : Fin 512) (ej : j.val = 256 * b.val + 128 * u.val + l.val) :
    tile b u x g h k v p h0 h1 (ix2 i l) = blockR X G H K V i j := by
  obtain ⟨a, d, rfl⟩ : ∃ a d, l = lane a d :=
    ⟨⟨l.val / 64, by omega⟩, ⟨l.val % 64, Nat.mod_lt _ (by decide)⟩, Fin.ext (by simp only [lane]; omega)⟩
  have ea : (lane a d).val = 64 * a.val + d.val := rfl
  have hq : ∀ e, query (if u = 0 then extractStridedSlice S256x128 ![0, 256 * b.val] x p.1
      else extractStridedSlice S256x128 ![0, 256 * b.val + 128] x p.2) g (ix2 i (lane a e))
      = ((normR (fun e => X i ⟨64 * (j.val / 64) + e.val, by omega⟩) G e * qs : ℝ) : EReal) := by
    refine query_apply _ g i a _ G (fun e => ?_) (hg a)
    obtain rfl | rfl : u = 0 ∨ u = 1 := by omega
    · rw [if_pos rfl]
      refine (congrArg x (funext fun w => ?_)).trans (hx i _)
      have ej : j.val = 256 * b.val + 128 * 0 + (64 * a.val + d.val) := ej
      fin_cases w
      · exact Fin.ext (show 0 + i.val = i.val by omega)
      · exact Fin.ext (show 256 * b.val + (64 * a.val + e.val) = 64 * (j.val / 64) + e.val by omega)
    · rw [if_neg (by decide)]
      refine (congrArg x (funext fun w => ?_)).trans (hx i _)
      have ej : j.val = 256 * b.val + 128 * 1 + (64 * a.val + d.val) := ej
      fin_cases w
      · exact Fin.ext (show 0 + i.val = i.val by omega)
      · exact Fin.ext (show 256 * b.val + 128 + (64 * a.val + e.val) = 64 * (j.val / 64) + e.val by omega)
  have hk' : ∀ s d, truncf (F := Ideal) .bf16 (normCtx k h) bitsLt_bf16_f32 (ix2 s (lane b d)) = (normR (K b s) H d : EReal) := fun s d =>
    normCtx_apply k h s b (K b s) H (hk s b) (hh b) d
  have hv' : ∀ s, truncf (F := Ideal) .bf16 v bitsLt_bf16_f32 (ix2 s (lane b d)) = V b s d := fun s => hv s b d
  have e1 : kvHead j = b := Fin.ext (by show j.val / 256 = b.val; omega)
  have e2 : (⟨j.val % 64, Nat.mod_lt _ (by decide)⟩ : Fin 64) = d := Fin.ext (by show j.val % 64 = d.val; omega)
  rw [tile, piece_apply, attend_apply _ _ _ _ _ _ _ (scores_apply b u a _ _ i _ _ hq hk') hv', blockR, e1, e2, headR]
  congr 1
  funext s
  rw [Finset.sum_mul, Finset.sum_div]
  refine Finset.sum_congr rfl fun e _ => ?_
  have := Real.log_pos (by norm_num : (1 : ℝ) < 2)
  unfold qs
  field_simp

end Cert.GroupProof

end
-- ==== Proof.Group.Formula.lean ====
module

public import proofs.«01_k».proof.Proof.Group.Body

@[expose] public section

noncomputable section

open Idealize.ShloMosaic Idealize.ShloMosaic.TcCoe

/-! The grouped attention of the contexts as one formula over the array: its queries and keys as reals, its values as they are. -/

namespace Cert.GroupProof

/-- Lane `j` of the context's row `i` of sample `b`. -/
def rowR {α : Type} (Q : Fin 18432 → Fin 768 → α) (b : Fin 8) (i : Fin 256) (j : Fin 768) : α := Q ⟨256 * b.val + i.val, by omega⟩ j

/-- Lanes `o`, `o + 1`, … of the context's rows of sample `b`, two heads of 64. -/
def headsR {α : Type} (Q : Fin 18432 → Fin 768 → α) (b : Fin 8) (o : ℕ) (ho : o ≤ 640) (a : Fin 2) (i : Fin 256) (d : Fin 64) : α :=
  rowR Q b i ⟨o + (64 * a.val + d.val), by omega⟩

/-- One lane of one head's output for row `n` of sample `b`'s context. -/
def outR (Q : Fin 18432 → Fin 768 → ℝ) (A : Fin 18432 → Fin 768 → EReal) (GQ GK : Fin 64 → ℝ) (b : Fin 8) (n : Fin 256) (j : Fin 512) : EReal :=
  blockR (fun i j => rowR Q b i ⟨j.val, by omega⟩) GQ GK (headsR Q b 512 (by decide)) (headsR A b 640 (by decide)) n j

end Cert.GroupProof

end
-- ==== Proof.Group.Block.lean ====
module

public import proofs.«01_k».proof.Proof.Group.Body
public import Idealize.ShloMosaic.Lib.Pipeline.ReadBack

@[expose] public section

set_option maxRecDepth 16384

noncomputable section

open Idealize.ShloMosaic Idealize.ShloMosaic.TcCoe

/-! What the body stores at a point: the blocks of `tile`. -/

namespace Cert.GroupProof
open Cert.GroupIdeal Cert.GroupIdeal.Gen
open Cert.AttnProof (lane)

variable (m : (ℓ : Loc nD τ sig) → Buf (Elt Ideal) ℓ)

/-- The block of `tile` that the lanes from `p` on are. -/
theorem tileAt_apply (x : FVec Ideal S256x512 .f32) (g h : FVec Ideal S1x128 .f32) (k v : FVec Ideal S256x128 .f32)
    (X : Fin 256 → Fin 512 → ℝ) (G H : Fin 64 → ℝ) (K : Fin 2 → Fin 256 → Fin 64 → ℝ) (V : Fin 2 → Fin 256 → Fin 64 → EReal)
    (hx : ∀ i j, x (ix2 i j) = (X i j : EReal)) (hg : ∀ a d, g (ix2 0 (lane a d)) = (G d : EReal)) (hh : ∀ a d, h (ix2 0 (lane a d)) = (H d : EReal))
    (hk : ∀ s a d, k (ix2 s (lane a d)) = (K a s d : EReal)) (hv : ∀ s a d, v (ix2 s (lane a d)) = V a s d)
    (p : ℕ) (hb : p / 256 < 2) (hu : p / 128 % 2 < 2) (hp : p % 128 = 0)
    (h1 : S256x512.Slices ![0, 256 * (⟨p / 256, hb⟩ : Fin 2).val] S256x128 ∧ S256x512.Slices ![0, 256 * (⟨p / 256, hb⟩ : Fin 2).val + 128] S256x128)
    (h2 : S1024x128.Slices ![512 * (⟨p / 128 % 2, hu⟩ : Fin 2).val, 0] S256x128) (h3 : S1024x128.Slices ![512 * (⟨p / 128 % 2, hu⟩ : Fin 2).val + 256, 0] S256x128)
    (y : S256x128.Idx) (i : Fin 256) (j : Fin 512) (ei : i.val = (y 0).val) (ej : j.val = p + (y 1).val) :
    tile ⟨p / 256, hb⟩ ⟨p / 128 % 2, hu⟩ x g h k v h1 h2 h3 y = blockR X G H K V i j := by
  obtain ⟨r, l, rfl⟩ : ∃ (r : Fin 256) (l : Fin 128), y = ix2 r l := ⟨y 0, y 1, by funext a; fin_cases a <;> rfl⟩
  obtain rfl : i = r := Fin.ext ei
  refine tile_apply _ _ x g h k v X G H K V hx hg hh hk hv h1 h2 h3 i l j ?_
  have ej : j.val = p + l.val := ej
  show j.val = 256 * (p / 256) + 128 * (p / 128 % 2) + l.val
  omega

set_option maxHeartbeats 4000000 in
/-- The block stored at a point. -/
theorem out_apply (c : Dev nD) (t : Fin cfg0.N) (X : Fin 256 → Fin 512 → ℝ) (G H : Fin 64 → ℝ)
    (K : Fin 2 → Fin 256 → Fin 64 → ℝ) (V : Fin 2 → Fin 256 → Fin 64 → EReal) (hx : ∀ i j, X0_0 m c t (ix2 i j) = (X i j : EReal))
    (hg : ∀ a d, iblk m c 4 t (ix2 0 (lane a d)) = (G d : EReal)) (hh : ∀ a d, iblk m c 5 t (ix2 0 (lane a d)) = (H d : EReal))
    (hk : ∀ s a d, iblk m c 1 t (ix2 s (lane a d)) = (K a s d : EReal)) (hv : ∀ s a d, iblk m c 2 t (ix2 s (lane a d)) = V a s d) :
    outsAt0 m c t = fun y => blockR X G H K V (y 0) (y 1) := by
  unfold outsAt0
  frame_open
  frame_out
  funext z
  canon_tiles y hy
  all_goals
    first
      | have e0 : (z 0).val = (y 0).val := hy0.trans (Nat.zero_add _)
      | have e0 : (z 0).val = (y 0).val := hy0
    first
      | have e1 : (z 1).val = 0 + (y 1).val := hy1.trans (Nat.zero_add _).symm
      | have e1 := hy1
    refine Eq.trans ?_ (tileAt_apply (X0_0 m c t) (iblk m c 4 t) (iblk m c 5 t) (iblk m c 1 t) (iblk m c 2 t) X G H K V hx hg hh hk hv _
      (by decide) (by decide) (by decide) (by decide) (by decide) (by decide) y (z 0) (z 1) e0 e1)
    clear hx hg hh hk hv
    open_payloads
    rfl

end Cert.GroupProof

end
-- ==== Proof.Group.Kernel.lean ====
module

public import proofs.«01_k».proof.Proof.Group.Formula
public import proofs.«01_k».proof.Proof.Group.Block

@[expose] public section

set_option maxRecDepth 16384

noncomputable section

open Idealize.ShloMosaic Idealize.ShloMosaic.TcCoe Idealize.SL.Sem
open Idealize.ShloMosaic.Pipeline (Dat)

/-! The kernel's result array after the run. -/

namespace Cert.GroupProof
open Cert.GroupIdeal Cert.GroupIdeal.Gen
open Cert.AttnProof (lane)

/-- Which block each window reads or writes at a point. -/
theorem idx : ∀ t : Fin cfg0.N, win0_0.index t = ![t.val, 0] ∧ win0_1.index t = ![t.val, 4] ∧ win0_2.index t = ![t.val, 5]
    ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ) (Q : Fin 18432 → Fin 768 → ℝ) (A : Fin 18432 → Fin 768 → EReal) (GQ GK : Fin 64 → ℝ) (c : Dev nD)

/-- The arguments' entries are these, and the contexts' queries and keys and the gains these real numbers. -/
structure Args : Prop where
  q : ∀ (i : Fin 18432) (j : Fin 768), i.val < 2048 → j.val < 640 → m ((c : Thread nD τ).loc main_arg0) (ix2 i j) = (Q i j : EReal)
  v : ∀ i j, m ((c : Thread nD τ).loc main_arg0) (ix2 i j) = A i j
  gq : ∀ d, m ((c : Thread nD τ).loc main_arg1) (ix1 d) = (GQ d : EReal)
  gk : ∀ d, m ((c : Thread nD τ).loc main_arg2) (ix1 d) = (GK d : EReal)

/-- The sample point `t` works on. -/
def smp (t : Fin cfg0.N) : Fin 8 := ⟨t.val, lt_of_lt_of_eq t.isLt N_0⟩

theorem gain_q (a : Fin 2) (d : Fin 64) : V m c main_v3 (ix2 0 (lane a d)) = m ((c : Thread nD τ).loc main_arg1) (ix1 d) := by
  entry_read
  pointwise
  congr 2
  exact Fin.ext (by show (64 * a.val + d.val) % 64 = d.val; omega)

theorem gain_k (a : Fin 2) (d : Fin 64) : V m c main_v7 (ix2 0 (lane a d)) = m ((c : Thread nD τ).loc main_arg2) (ix1 d) := by
  entry_read
  pointwise
  congr 2
  exact Fin.ext (by show (64 * a.val + d.val) % 64 = d.val; omega)

variable {m Q A GQ GK c}

theorem read_q (H : Args m Q A GQ GK c) (t : Fin cfg0.N) (i : Fin 256) (j : Fin 512) :
    X0_0 m c t (ix2 i j) = ((rowR Q (smp t) i ⟨j.val, by omega⟩ : ℝ) : EReal) := by
  obtain ⟨e, -⟩ := idx t
  have hs := (smp t).isLt
  refine Eq.trans ?_ (H.q ⟨256 * (smp t).val + i.val, by omega⟩ ⟨j.val, by omega⟩ (by show 256 * (smp t).val + i.val < 2048; omega)
    (by show j.val < 640; omega))
  unfold X0_0 Pipeline.Window.fill
  rw [dif_pos (moved0_0 t _)]
  blk_ext [iblk, V, e, smp]

theorem read_k (H : Args m Q A GQ GK c) (t : Fin cfg0.N) (i : Fin 256) (a : Fin 2) (d : Fin 64) :
    iblk m c 1 t (ix2 i (lane a d)) = ((headsR Q (smp t) 512 (by decide) a i d : ℝ) : EReal) := by
  obtain ⟨-, e, -⟩ := idx t
  have hs := (smp t).isLt
  refine Eq.trans ?_ (H.q ⟨256 * (smp t).val + i.val, by omega⟩ ⟨512 + (64 * a.val + d.val), by omega⟩
    (by show 256 * (smp t).val + i.val < 2048; omega) (by show 512 + (64 * a.val + d.val) < 640; omega))
  blk_ext [iblk, V, e, smp, lane]

theorem read_v (H : Args m Q A GQ GK c) (t : Fin cfg0.N) (i : Fin 256) (a : Fin 2) (d : Fin 64) :
    iblk m c 2 t (ix2 i (lane a d)) = headsR A (smp t) 640 (by decide) a i d := by
  obtain ⟨-, -, e, -⟩ := idx t
  refine Eq.trans ?_ (H.v _ _)
  blk_ext [iblk, V, e, smp, lane]

theorem read_gq (H : Args m Q A GQ GK c) (t : Fin cfg0.N) (a : Fin 2) (d : Fin 64) : iblk m c 4 t (ix2 0 (lane a d)) = (GQ d : EReal) := by
  obtain ⟨-, -, -, e, -⟩ := idx t
  refine Eq.trans ?_ ((gain_q m c a d).trans (H.gq d))
  blk_ext [iblk, e]

theorem read_gk (H : Args m Q A GQ GK c) (t : Fin cfg0.N) (a : Fin 2) (d : Fin 64) : iblk m c 5 t (ix2 0 (lane a d)) = (GK d : EReal) := by
  obtain ⟨-, -, -, -, e, -⟩ := idx t
  refine Eq.trans ?_ ((gain_k m c a d).trans (H.gk d))
  blk_ext [iblk, e]

/-- The block stored at point `t`. -/
theorem block (H : Args m Q A GQ GK c) (t : Fin cfg0.N) : outsAt0 m c t = fun y => outR Q A GQ GK (smp t) (y 0) (y 1) :=
  out_apply m c t _ GQ GK (headsR Q (smp t) 512 (by decide)) (headsR A (smp t) 640 (by decide)) (read_q H t) (read_gq H t) (read_gk H t) (read_k H t)
    (read_v H t)

/-- The result array of the run. -/
def res (Q : Fin 18432 → Fin 768 → ℝ) (A : Fin 18432 → Fin 768 → EReal) (GQ GK : Fin 64 → ℝ) (c : Dev nD) :
    Buf (Elt Ideal) ((c : Thread nD τ).loc main_v10) := fun i : S2048x512.Idx =>
  outR Q A GQ GK ⟨(i 0).val / 256, by have : (i 0).val < 2048 := (i 0).isLt; omega⟩ ⟨(i 0).val % 256, Nat.mod_lt _ (by decide)⟩ (i 1)

theorem final (H : Args m Q A GQ GK c) : (dats m 0 c).arrAt 6 cfg0.N = res Q A GQ GK c := by
  refine (dats m 0 c).arrAt_eq_of_covers 6 _ (by decide +kernel) fun t hf y => ?_
  obtain ⟨-, -, -, -, -, e⟩ := idx t
  have hN : t.val < 8 := lt_of_lt_of_eq t.isLt N_0
  blk_simp
  rw [after0_6, block H t]
  obtain ⟨r, j, rfl⟩ : ∃ (r : Fin 256) (j : Fin 512), y = ix2 r j := ⟨y 0, y 1, by funext a; fin_cases a <;> rfl⟩
  have hr := r.isLt
  have hn : t.val * 256 + r.val < 2048 := by omega
  have hE : (win0_6.blk t).view.emb (ix2 r j) = ix2 (⟨t.val * 256 + r.val, hn⟩ : Fin 2048) j := by
    blk_ext [e]
  show _ = res Q A GQ GK c ((win0_6.blk t).view.emb (ix2 r j))
  rw [hE]
  show outR Q A GQ GK (smp t) r j = outR Q A GQ GK ⟨(t.val * 256 + r.val) / 256, _⟩ ⟨(t.val * 256 + r.val) % 256, _⟩ j
  congr 1
  · exact Fin.ext (by show t.val = (t.val * 256 + r.val) / 256; omega)
  · exact Fin.ext (by show r.val = (t.val * 256 + r.val) % 256; omega)

end Cert.GroupProof

end
-- ==== Proof.Group.Reference.lean ====
module

public import proofs.«01_k».proof.Proof.Gen.GroupRefIdeal.Read
public import proofs.«01_k».proof.Proof.Group.Formula
public import proofs.«01_k».proof.Proof.Attn.Reference
public import Idealize.ShloMosaic.Lib.Pipeline.ValueKit
public import Idealize.ShloMosaic.Lib.Pointwise

@[expose] public section

set_option maxRecDepth 16384

noncomputable section

open Idealize.ShloMosaic Idealize.ShloMosaic.TcCoe

/-! The reference's grouped attention of the context, read at an index. -/

namespace Cert.GroupProof
open Cert.GroupRefIdeal Cert.GroupRefIdeal.Gen Cert.GroupRefIdeal.Read
open Cert.AttnProof (norm_eq normR fold_max expSum_pos coe_sum div_real ofBits_bot ofBits_8th)
open Cert.CtxProof (attE weight_shift)

variable {x0 : FVec Ideal S18432x768 .f32} {x1 x2 : FVec Ideal S64 .f32} {Q : Fin 18432 → Fin 768 → ℝ} {A : Fin 18432 → Fin 768 → EReal}
  {GQ GK : Fin 64 → ℝ}

theorem ref_q (h : ∀ (i : Fin 18432) (j : Fin 768), i.val < 2048 → j.val < 640 → x0 (ix2 i j) = (Q i j : EReal)) (b : Fin 8) (i : Fin 256) (a : Fin 8) (d : Fin 64) :
    val_main_v3 (F := Ideal) x0 (ix4 b i a d) = ((rowR Q b i ⟨64 * a.val + d.val, by omega⟩ : ℝ) : EReal) := by
  pointwise [val_main_v3, val_main_v2, val_main_v1, val_main_v0]
  rw [h _ _ (by dsimp only; omega) (by dsimp only; omega), rowR]
  congr 3 <;> ring

theorem ref_k (h : ∀ (i : Fin 18432) (j : Fin 768), i.val < 2048 → j.val < 640 → x0 (ix2 i j) = (Q i j : EReal)) (b : Fin 8) (i : Fin 256) (a : Fin 2) (d : Fin 64) :
    val_main_v5 (F := Ideal) x0 (ix4 b i a d) = ((headsR Q b 512 (by decide) a i d : ℝ) : EReal) := by
  pointwise [val_main_v5, val_main_v4, val_main_v1, val_main_v0]
  rw [h _ _ (by dsimp only; omega) (by dsimp only; omega), headsR, rowR]
  congr 3 <;> ring

theorem ref_v (g : ∀ i j, x0 (ix2 i j) = A i j) (b : Fin 8) (i : Fin 256) (a : Fin 2) (d : Fin 64) :
    val_main_v7 (F := Ideal) x0 (ix4 b i a d) = headsR A b 640 (by decide) a i d := by
  pointwise [val_main_v7, val_main_v6, val_main_v1, val_main_v0]
  rw [g, headsR, rowR]
  congr 2 <;> ring

theorem ref_norm_q (h : ∀ (i : Fin 18432) (j : Fin 768), i.val < 2048 → j.val < 640 → x0 (ix2 i j) = (Q i j : EReal))
    (hq : ∀ d, x1 (ix1 d) = (GQ d : EReal)) (b : Fin 8) (i : Fin 256) (a : Fin 8) (d : Fin 64) :
    val_main_v20 (F := Ideal) x0 x1 (ix4 b i a d) = (normR (fun e => rowR Q b i ⟨64 * a.val + e.val, by omega⟩) GQ d : EReal) := by
  pointwise [val_main_v20, val_main_v19, val_main_v18, val_main_v17, val_main_v16, val_main_v15, val_main_v14, val_main_v13, val_main_v12, val_main_v11, val_main_v10, val_main_v9, val_main_v8, val_main_cst, val_main_cst_0, val_main_cst_1]
  exact norm_eq (fun d => val_main_v3 (F := Ideal) x0 (ix4 b i a d)) _ _ _ d (ref_q h b i a) (hq d)

theorem ref_norm_k (h : ∀ (i : Fin 18432) (j : Fin 768), i.val < 2048 → j.val < 640 → x0 (ix2 i j) = (Q i j : EReal))
    (hk : ∀ d, x2 (ix1 d) = (GK d : EReal)) (b : Fin 8) (i : Fin 256) (a : Fin 2) (d : Fin 64) :
    val_main_v33 (F := Ideal) x0 x2 (ix4 b i a d) = (normR (headsR Q b 512 (by decide) a i) GK d : EReal) := by
  pointwise [val_main_v33, val_main_v32, val_main_v31, val_main_v30, val_main_v29, val_main_v28, val_main_v27, val_main_v26, val_main_v25, val_main_v24, val_main_v23, val_main_v22, val_main_v21, val_main_cst_2, val_main_cst_3, val_main_cst_4]
  exact norm_eq (fun d => val_main_v5 (F := Ideal) x0 (ix4 b i a d)) _ _ _ d (ref_k h b i a) (hk d)

/-- The score of a query row against a key row. -/
def scoreR (Q : Fin 18432 → Fin 768 → ℝ) (GQ GK : Fin 64 → ℝ) (b : Fin 8) (a : Fin 2) (g : Fin 4) (n s : Fin 256) : ℝ :=
  (∑ e, normR (fun e => rowR Q b n ⟨64 * (a.val * 4 + g.val) + e.val, by omega⟩) GQ e * normR (headsR Q b 512 (by decide) a s) GK e) / 8

theorem ref_score (h : ∀ (i : Fin 18432) (j : Fin 768), i.val < 2048 → j.val < 640 → x0 (ix2 i j) = (Q i j : EReal))
    (hq : ∀ d, x1 (ix1 d) = (GQ d : EReal)) (hk : ∀ d, x2 (ix1 d) = (GK d : EReal)) (b : Fin 8) (a : Fin 2) (g : Fin 4) (n s : Fin 256) :
    val_main_v38 (F := Ideal) x0 x1 x2 (ix5 b a g n s) = (scoreR Q GQ GK b a g n s : EReal) := by
  pointwise [val_main_v38, val_main_v37, val_main_v36, val_main_v35, val_main_v34, val_main_cst_5]
  simp only [ref_norm_k h hk, ref_norm_q h hq, ← EReal.coe_mul]
  rw [← coe_sum, ofBits_8th, ← EReal.coe_mul, scoreR]
  congr 1
  rw [mul_one_div]
  congr 1
  exact Finset.sum_congr rfl fun e _ => mul_comm _ _

theorem smax (b : Fin 8) (a : Fin 2) (g : Fin 4) (n : Fin 256) :
    val_main_v39 (F := Ideal) x0 x1 x2 (ix4 b a g n)
      = Finset.fold max (Ideal.ofBits .f32 0xFF800000#32) (fun x => val_main_v38 (F := Ideal) x0 x1 x2 (ix5 b a g n x)) Finset.univ := by
  pointwise [val_main_v39, val_main_cst_6]

theorem sexp (b : Fin 8) (a : Fin 2) (g : Fin 4) (n s : Fin 256) :
    val_main_v45 (F := Ideal) x0 x1 x2 (ix5 b a g n s)
      = Ideal.exp (val_main_v38 (F := Ideal) x0 x1 x2 (ix5 b a g n s)
        - max (Ideal.ofBits .f32 0xFF800000#32) (val_main_v39 (F := Ideal) x0 x1 x2 (ix4 b a g n))) := by
  rw [val_main_v45_apply, val_main_v44_apply, val_main_v43_apply, val_main_v42_apply, val_main_v41_apply, val_main_v40_apply, val_main_cst_7_apply]
  have e : idx_main_v42 (idx_main_v43 (ix5 b a g n s)) = ix4 b a g n := by funext i; fin_cases i <;> rfl
  rw [e]
  generalize val_main_v39 (F := Ideal) x0 x1 x2 (ix4 b a g n) = M
  generalize val_main_v38 (F := Ideal) x0 x1 x2 (ix5 b a g n s) = Z
  rfl

theorem swt (b : Fin 8) (a : Fin 2) (g : Fin 4) (n s : Fin 256) :
    val_main_v49 (F := Ideal) x0 x1 x2 (ix5 b a g n s)
      = Ideal.div (val_main_v45 (F := Ideal) x0 x1 x2 (ix5 b a g n s)) (∑ s, val_main_v45 (F := Ideal) x0 x1 x2 (ix5 b a g n s)) := by
  pointwise [val_main_v49, val_main_v48, val_main_v47, val_main_v46, val_main_cst_8]

theorem sout (b : Fin 8) (a : Fin 2) (g : Fin 4) (n : Fin 256) (d : Fin 64) :
    val_main_v50 (F := Ideal) x0 x1 x2 (ix5 b a d g n)
      = ∑ s, val_main_v7 (F := Ideal) x0 (ix4 b s a d) * val_main_v49 (F := Ideal) x0 x1 x2 (ix5 b a g n s) := by
  pointwise [val_main_v50]

/-- The reference's attention of one row, from its scores and values. -/
theorem sattn (b : Fin 8) (a : Fin 2) (g : Fin 4) (n : Fin 256) (d : Fin 64) (z : Fin 256 → ℝ) (v : Fin 256 → EReal)
    (hz : ∀ s, val_main_v38 (F := Ideal) x0 x1 x2 (ix5 b a g n s) = (z s : EReal))
    (hv : ∀ s, val_main_v7 (F := Ideal) x0 (ix4 b s a d) = v s) :
    val_main_v50 (F := Ideal) x0 x1 x2 (ix5 b a d g n) = attE z v := by
  obtain ⟨M, hM⟩ := fold_max (n := 255) z
  have hm : val_main_v39 (F := Ideal) x0 x1 x2 (ix4 b a g n) = (M : EReal) := by
    rw [smax, ofBits_bot, ← hM]
    exact congrArg (fun f => Finset.fold max ⊥ f Finset.univ) (funext hz)
  have he : ∀ s, val_main_v45 (F := Ideal) x0 x1 x2 (ix5 b a g n s) = ((Real.exp (z s - M) : ℝ) : EReal) := fun s => by
    rw [sexp, hz, hm, ofBits_bot, max_eq_right bot_le, ← EReal.coe_sub, Ideal.exp_coe]
  rw [sout]
  refine Finset.sum_congr rfl fun s _ => ?_
  rw [hv, swt, he, Finset.sum_congr rfl fun t _ => he t, ← coe_sum, div_real _ (expSum_pos (n := 255) _).ne', weight_shift, mul_comm]

/-- The reference's result at row `r`, lane `j`. -/
theorem ref_out (h : ∀ (i : Fin 18432) (j : Fin 768), i.val < 2048 → j.val < 640 → x0 (ix2 i j) = (Q i j : EReal))
    (g : ∀ i j, x0 (ix2 i j) = A i j) (hq : ∀ d, x1 (ix1 d) = (GQ d : EReal)) (hk : ∀ d, x2 (ix1 d) = (GK d : EReal)) (r : Fin 2048) (j : Fin 512) :
    val_main_v53 (F := Ideal) x0 x1 x2 (ix2 r j) = outR Q A GQ GK ⟨r.val / 256, by omega⟩ ⟨r.val % 256, Nat.mod_lt _ (by decide)⟩ j := by
  pointwise [val_main_v53, val_main_v52, val_main_v51]
  refine (sattn _ _ _ _ _ _ _ (fun s => ref_score h hq hk _ _ _ _ s) (fun s => ref_v g _ _ _ _)).trans ?_
  have e : ∀ u : ℕ, 64 * (j.val / 256 * 4 + j.val / 64 % 4) + u = 64 * (j.val / 64) + u := fun u => by omega
  unfold outR blockR Cert.CtxProof.headR scoreR
  simp only [kvHead, e]

end Cert.GroupProof

end
-- ==== Proof.Group.Claims.lean ====
module

public import proofs.«01_k».proof.Defs
public import proofs.«01_k».proof.Proof.Gen.Group.Frame
public import proofs.«01_k».proof.Proof.Gen.GroupIdeal.Frame
public import proofs.«01_k».proof.Proof.Gen.Pre_finite_group
public import proofs.«01_k».proof.Proof.Attn.Claims
public import proofs.«01_k».proof.Proof.Group.Kernel
public import proofs.«01_k».proof.Proof.Group.Reference
public import Idealize.ShloMosaic.Lib.Quiescent
public import Idealize.ShloMosaic.Lib.ReduceAll

@[expose] public section

noncomputable section

open Idealize.ShloMosaic Idealize.ShloMosaic.TcCoe Idealize.SL.Sem

/-! The five claims about the grouped attention of the contexts. -/

namespace Cert.GroupProof

/-- The kernel ends quiescent, its arguments unchanged. -/
theorem frame_k : Cert.quiescent_Group := fun m ρ _ => Cert.Group.Gen.frame m ρ

/-- So does the kernel over the extended reals. -/
theorem frame_ki : Cert.quiescent_GroupIdeal := fun m ρ _ => Cert.GroupIdeal.Gen.frame m ρ

theorem frame_ki_finite : Cert.quiescent_GroupIdeal_pre_finite_group := fun m ρ _ => Cert.GroupIdeal.Gen.frame m ρ

/-- So does the reference; it declares no semaphore. -/
theorem frame_ri : Cert.quiescent_GroupRefIdeal := fun m ρ _ =>
  (θ_run Cert.GroupRefIdeal.defs _ _).mono (fun r h => ⟨fun c => (h c).2,
      Idealize.ShloMosaic.sem_eq_zero_of_no_sems (by decide) r.2⟩)
    (Cert.GroupRefIdeal.Value.run (F := Ideal) m ρ)

theorem frame_ri_finite : Cert.quiescent_GroupRefIdeal_pre_finite_group := fun m ρ _ => frame_ri m ρ trivial

/-- The rounded scale of the queries stands for its exact value. -/
theorem preserved : Cert.preserves_Group_GroupIdeal := IdealRules.named_const.statement _ _ _ _ _ rfl

/-- Under the precondition the contexts' queries and keys and the two gains are real. -/
theorem real_of_finite {x : FVec Ideal Cert.Pre_finite_group.S18432x768 .f32} {y z : FVec Ideal Cert.Pre_finite_group.S64 .f32}
    (h : Cert.Pre_finite_group.fn (F := Ideal) x y z = fun _ => 1#1) :
    (∀ (i : Fin 18432) (j : Fin 768), i.val < 2048 → j.val < 640 → x (ix2 i j) = ((EReal.toReal (x (ix2 i j)) : ℝ) : EReal))
      ∧ (∀ i, y i = ((EReal.toReal (y i) : ℝ) : EReal)) ∧ ∀ i, z i = ((EReal.toReal (z i) : ℝ) : EReal) := by
  obtain ⟨e, e3⟩ := IntOp.andi_eq_one.1 (congrFun h ix0)
  obtain ⟨e1, e2⟩ := IntOp.andi_eq_one.1 e
  haveI : Subsingleton Cert.Pre_finite_group.S_.Idx := ⟨fun a b => funext fun k => k.elim0⟩
  refine ⟨fun i j hi hj => ?_, fun i => Cert.AttnProof.real_of_lt (Host.reduce_andi_all _ _ _ _ _ e2 i),
    fun i => Cert.AttnProof.real_of_lt (Host.reduce_andi_all _ _ _ _ _ e3 i)⟩
  have H := Host.reduce_andi_all _ _ _ _ _ e1 (ix2 (⟨i.val, hi⟩ : Fin 2048) (⟨j.val, hj⟩ : Fin 640))
  have e : extractStridedSlice Cert.Pre_finite_group.S2048x640 ![0, 0] x Cert.Pre_finite_group.Gen.slices_S18432x768_S2048x640_0_0
      (ix2 (⟨i.val, hi⟩ : Fin 2048) (⟨j.val, hj⟩ : Fin 640)) = x (ix2 i j) :=
    congrArg x (funext fun w => by fin_cases w <;> exact Fin.ext (Nat.zero_add _))
  rw [← e]
  exact Cert.AttnProof.real_of_lt H

variable (m : (ℓ : Loc Cert.GroupIdeal.nD Cert.GroupIdeal.τ Cert.GroupIdeal.sig) → Buf (Elt Ideal) ℓ) (c : Dev Cert.GroupIdeal.nD)

/-- The entries of the projected queries, keys and values. -/
def ent (i : Fin 18432) (j : Fin 768) : EReal := m ((c.tc : Thread Cert.GroupIdeal.nD Cert.GroupIdeal.τ).loc Cert.GroupIdeal.main_arg0) (ix2 i j)

/-- The same as reals. -/
def entQ (i : Fin 18432) (j : Fin 768) : ℝ := EReal.toReal (ent m c i j)

/-- The gains of the queries. -/
def entGQ (d : Fin 64) : ℝ :=
  EReal.toReal (m ((c.tc : Thread Cert.GroupIdeal.nD Cert.GroupIdeal.τ).loc Cert.GroupIdeal.main_arg1) (ix1 d))

/-- The gains of the keys. -/
def entGK (d : Fin 64) : ℝ :=
  EReal.toReal (m ((c.tc : Thread Cert.GroupIdeal.nD Cert.GroupIdeal.τ).loc Cert.GroupIdeal.main_arg2) (ix1 d))

theorem args (h : Cert.Pre_GroupIdeal_finite_group m) : Args m (entQ m c) (ent m c) (entGQ m c) (entGK m c) c :=
  have hr := real_of_finite (h c)
  ⟨hr.1, fun _ _ => rfl, fun _ => hr.2.1 _, fun _ => hr.2.2 _⟩

/-- Kernel and reference leave the same result: both leave the attention of the arguments' entries. -/
theorem value : Cert.algebraic_GroupIdeal_GroupRefIdeal_pre_finite_group := by
  intro m ρ m' ρ' hpre hagree
  refine ⟨fun c => res (entQ m c) (ent m c) (entGQ m c) (entGK m c) c, ?_, ?_⟩
  · exact (θ_run Cert.GroupIdeal.defs _ _).mono (fun _ h c => ⟨(h c).1.trans (final (args m c hpre)), (h c).2⟩)
      (Cert.GroupIdeal.Value.run_blocks (F := Ideal) m ρ)
  · refine (θ_run Cert.GroupRefIdeal.defs _ _).mono
      (fun _ h c => ⟨((h c).1.trans (Cert.GroupRefIdeal.Read.val_main_v53_eq _ _)).trans ?_, (h c).2⟩)
      (Cert.GroupRefIdeal.Value.run (F := Ideal) m' ρ')
    obtain ⟨a0, a1, a2⟩ := hagree c
    funext i
    have e : i = ix2 (i 0) (i 1) := by funext a; fin_cases a <;> rfl
    rw [e]
    exact ref_out (fun i j hi hj => (congrFun a0 _).trans ((args m c hpre).q i j hi hj)) (fun _ _ => congrFun a0 _)
      (fun d => (congrFun a1 _).trans ((args m c hpre).gq d)) (fun d => (congrFun a2 _).trans ((args m c hpre).gk d)) (i 0) (i 1)

end Cert.GroupProof

end
-- ==== Proof.lean ====
module

public import proofs.«01_k».proof.Defs
public import proofs.«01_k».proof.Proof.Attn.Claims
public import proofs.«01_k».proof.Proof.Mlp.Claims
public import proofs.«01_k».proof.Proof.Last.Claims
public import proofs.«01_k».proof.Proof.Odd.Claims
public import proofs.«01_k».proof.Proof.Even.Claims
public import proofs.«01_k».proof.Proof.Ada.Claims
public import proofs.«01_k».proof.Proof.Ctx.Claims
public import proofs.«01_k».proof.Proof.Group.Claims

@[expose] public section

noncomputable section

namespace Cert.Proof

open Idealize.ShloMosaic Idealize.SL.Sem

/-- Everything claimed: the frames, the rewrites and the values of the calls. -/
theorem claim : Cert.Claim := ⟨Cert.Attn.Gen.facts, Cert.AttnIdeal.Gen.facts, Cert.AttnRefIdeal.Gen.facts,
  Cert.Mlp.Gen.facts, Cert.MlpIdeal.Gen.facts, Cert.MlpRefIdeal.Gen.facts,
  Cert.Last.Gen.facts, Cert.LastIdeal.Gen.facts, Cert.LastRefIdeal.Gen.facts,
  Cert.Odd.Gen.facts, Cert.OddIdeal.Gen.facts, Cert.OddRefIdeal.Gen.facts,
  Cert.Even.Gen.facts, Cert.EvenIdeal.Gen.facts, Cert.EvenRefIdeal.Gen.facts,
  Cert.Ada.Gen.facts, Cert.AdaIdeal.Gen.facts, Cert.AdaRefIdeal.Gen.facts,
  Cert.Ctx.Gen.facts, Cert.CtxIdeal.Gen.facts, Cert.CtxRefIdeal.Gen.facts,
  Cert.Group.Gen.facts, Cert.GroupIdeal.Gen.facts, Cert.GroupRefIdeal.Gen.facts,
  Cert.Pre_finite.Gen.facts, Cert.Pre_finite_rows.Gen.facts, Cert.Pre_finite_group.Gen.facts,
  Cert.AttnProof.frame_k, Cert.AttnProof.frame_ki, Cert.AttnProof.frame_ki_finite, Cert.AttnProof.frame_ri, Cert.AttnProof.frame_ri_finite,
  Cert.MlpProof.frame_k, Cert.MlpProof.frame_ki, Cert.MlpProof.frame_ri,
  Cert.LastProof.frame_k, Cert.LastProof.frame_ki, Cert.LastProof.frame_ri,
  Cert.OddProof.frame_k, Cert.OddProof.frame_ki, Cert.OddProof.frame_ri,
  Cert.EvenProof.frame_k, Cert.EvenProof.frame_ki, Cert.EvenProof.frame_ri,
  Cert.AdaProof.frame_k, Cert.AdaProof.frame_ki, Cert.AdaProof.frame_ri,
  Cert.CtxProof.frame_k, Cert.CtxProof.frame_ki, Cert.CtxProof.frame_ki_finite, Cert.CtxProof.frame_ri, Cert.CtxProof.frame_ri_finite,
  Cert.GroupProof.frame_k, Cert.GroupProof.frame_ki, Cert.GroupProof.frame_ki_finite, Cert.GroupProof.frame_ri, Cert.GroupProof.frame_ri_finite,
  Cert.AttnProof.preserved, Cert.AttnProof.value, Cert.MlpProof.preserved, Cert.MlpProof.value,
  Cert.LastProof.preserved, Cert.LastProof.value,
  Cert.OddProof.preserved, Cert.OddProof.value, Cert.EvenProof.preserved, Cert.EvenProof.value,
  Cert.AdaProof.preserved, Cert.AdaProof.value, Cert.CtxProof.preserved, Cert.CtxProof.value,
  Cert.GroupProof.preserved, Cert.GroupProof.value⟩

end Cert.Proof

end
